-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxReferenceIdeal (m : (ℓ : Loc Cert.CtxReferenceIdeal.nD Cert.CtxReferenceIdeal.τ Cert.CtxReferenceIdeal.sig) → Buf (Elt Ideal) ℓ) : Prop :=
  True

def Pre_NaMix (m : (ℓ : Loc Cert.NaMix.nD Cert.NaMix.τ Cert.NaMix.sig) → Buf (Elt Bits) ℓ) : Prop :=
  True

def Pre_NaMixIdeal (m : (ℓ : Loc Cert.NaMixIdeal.nD Cert.NaMixIdeal.τ Cert.NaMixIdeal.sig) → Buf (Elt Ideal) ℓ) : Prop :=
  True

def Pre_NaMixIdeal_finite_na [hPre_finite_na : Cert.Pre_finite_na.Facts] (m : (ℓ : Loc Cert.NaMixIdeal.nD Cert.NaMixIdeal.τ Cert.NaMixIdeal.sig) → Buf (Elt Ideal) ℓ) : Prop :=
  ∀ c : Dev Cert.NaMixIdeal.nD,
    (Cert.Pre_finite_na.fn (F := Ideal) (m ((c.tc : Thread Cert.NaMixIdeal.nD Cert.NaMixIdeal.τ).loc Cert.NaMixIdeal.main_arg0)) (m ((c.tc : Thread Cert.NaMixIdeal.nD Cert.NaMixIdeal.τ).loc Cert.NaMixIdeal.main_arg1)) (m ((c.tc : Thread Cert.NaMixIdeal.nD Cert.NaMixIdeal.τ).loc Cert.NaMixIdeal.main_arg2)) (m ((c.tc : Thread Cert.NaMixIdeal.nD Cert.NaMixIdeal.τ).loc Cert.NaMixIdeal.main_arg3)) (m ((c.tc : Thread Cert.NaMixIdeal.nD Cert.NaMixIdeal.τ).loc Cert.NaMixIdeal.main_arg4)) (m ((c.tc : Thread Cert.NaMixIdeal.nD Cert.NaMixIdeal.τ).loc Cert.NaMixIdeal.main_arg5)) (m ((c.tc : Thread Cert.NaMixIdeal.nD Cert.NaMixIdeal.τ).loc Cert.NaMixIdeal.main_arg6)) (m ((c.tc : Thread Cert.NaMixIdeal.nD Cert.NaMixIdeal.τ).loc Cert.NaMixIdeal.main_arg7)) (m ((c.tc : Thread Cert.NaMixIdeal.nD Cert.NaMixIdeal.τ).loc Cert.NaMixIdeal.main_arg8)) (m ((c.tc : Thread Cert.NaMixIdeal.nD Cert.NaMixIdeal.τ).loc Cert.NaMixIdeal.main_arg9))) = (fun _ => 1#1)

def Pre_NaMixReferenceIdeal (m : (ℓ : Loc Cert.NaMixReferenceIdeal.nD Cert.NaMixReferenceIdeal.τ Cert.NaMixReferenceIdeal.sig) → Buf (Elt Ideal) ℓ) : Prop :=
  True

def Pre_NaMixReferenceIdeal_finite_na [hPre_finite_na : Cert.Pre_finite_na.Facts] (m : (ℓ : Loc Cert.NaMixReferenceIdeal.nD Cert.NaMixReferenceIdeal.τ Cert.NaMixReferenceIdeal.sig) → Buf (Elt Ideal) ℓ) : Prop :=
  ∀ c : Dev Cert.NaMixReferenceIdeal.nD,
    (Cert.Pre_finite_na.fn (F := Ideal) (m ((c.tc : Thread Cert.NaMixReferenceIdeal.nD Cert.NaMixReferenceIdeal.τ).loc Cert.NaMixReferenceIdeal.main_arg0)) (m ((c.tc : Thread Cert.NaMixReferenceIdeal.nD Cert.NaMixReferenceIdeal.τ).loc Cert.NaMixReferenceIdeal.main_arg1)) (m ((c.tc : Thread Cert.NaMixReferenceIdeal.nD Cert.NaMixReferenceIdeal.τ).loc Cert.NaMixReferenceIdeal.main_arg2)) (m ((c.tc : Thread Cert.NaMixReferenceIdeal.nD Cert.NaMixReferenceIdeal.τ).loc Cert.NaMixReferenceIdeal.main_arg3)) (m ((c.tc : Thread Cert.NaMixReferenceIdeal.nD Cert.NaMixReferenceIdeal.τ).loc Cert.NaMixReferenceIdeal.main_arg4)) (m ((c.tc : Thread Cert.NaMixReferenceIdeal.nD Cert.NaMixReferenceIdeal.τ).loc Cert.NaMixReferenceIdeal.main_arg5)) (m ((c.tc : Thread Cert.NaMixReferenceIdeal.nD Cert.NaMixReferenceIdeal.τ).loc Cert.NaMixReferenceIdeal.main_arg6)) (m ((c.tc : Thread Cert.NaMixReferenceIdeal.nD Cert.NaMixReferenceIdeal.τ).loc Cert.NaMixReferenceIdeal.main_arg7)) (m ((c.tc : Thread Cert.NaMixReferenceIdeal.nD Cert.NaMixReferenceIdeal.τ).loc Cert.NaMixReferenceIdeal.main_arg8)) (m ((c.tc : Thread Cert.NaMixReferenceIdeal.nD Cert.NaMixReferenceIdeal.τ).loc Cert.NaMixReferenceIdeal.main_arg9))) = (fun _ => 1#1)

def Pre_HgMix (m : (ℓ : Loc Cert.HgMix.nD Cert.HgMix.τ Cert.HgMix.sig) → Buf (Elt Bits) ℓ) : Prop :=
  True

def Pre_HgMixIdeal (m : (ℓ : Loc Cert.HgMixIdeal.nD Cert.HgMixIdeal.τ Cert.HgMixIdeal.sig) → Buf (Elt Ideal) ℓ) : Prop :=
  True

def Pre_HgMixIdeal_finite_hg [hPre_finite_hg : Cert.Pre_finite_hg.Facts] (m : (ℓ : Loc Cert.HgMixIdeal.nD Cert.HgMixIdeal.τ Cert.HgMixIdeal.sig) → Buf (Elt Ideal) ℓ) : Prop :=
  ∀ c : Dev Cert.HgMixIdeal.nD,
    (Cert.Pre_finite_hg.fn (F := Ideal) (m ((c.tc : Thread Cert.HgMixIdeal.nD Cert.HgMixIdeal.τ).loc Cert.HgMixIdeal.main_arg0)) (m ((c.tc : Thread Cert.HgMixIdeal.nD Cert.HgMixIdeal.τ).loc Cert.HgMixIdeal.main_arg1)) (m ((c.tc : Thread Cert.HgMixIdeal.nD Cert.HgMixIdeal.τ).loc Cert.HgMixIdeal.main_arg2)) (m ((c.tc : Thread Cert.HgMixIdeal.nD Cert.HgMixIdeal.τ).loc Cert.HgMixIdeal.main_arg3)) (m ((c.tc : Thread Cert.HgMixIdeal.nD Cert.HgMixIdeal.τ).loc Cert.HgMixIdeal.main_arg4)) (m ((c.tc : Thread Cert.HgMixIdeal.nD Cert.HgMixIdeal.τ).loc Cert.HgMixIdeal.main_arg5)) (m ((c.tc : Thread Cert.HgMixIdeal.nD Cert.HgMixIdeal.τ).loc Cert.HgMixIdeal.main_arg6)) (m ((c.tc : Thread Cert.HgMixIdeal.nD Cert.HgMixIdeal.τ).loc Cert.HgMixIdeal.main_arg7)) (m ((c.tc : Thread Cert.HgMixIdeal.nD Cert.HgMixIdeal.τ).loc Cert.HgMixIdeal.main_arg8)) (m ((c.tc : Thread Cert.HgMixIdeal.nD Cert.HgMixIdeal.τ).loc Cert.HgMixIdeal.main_arg9)) (m ((c.tc : Thread Cert.HgMixIdeal.nD Cert.HgMixIdeal.τ).loc Cert.HgMixIdeal.main_arg10)) (m ((c.tc : Thread Cert.HgMixIdeal.nD Cert.HgMixIdeal.τ).loc Cert.HgMixIdeal.main_arg11)) (m ((c.tc : Thread Cert.HgMixIdeal.nD Cert.HgMixIdeal.τ).loc Cert.HgMixIdeal.main_arg12))) = (fun _ => 1#1)

def Pre_HgMixReferenceIdeal (m : (ℓ : Loc Cert.HgMixReferenceIdeal.nD Cert.HgMixReferenceIdeal.τ Cert.HgMixReferenceIdeal.sig) → Buf (Elt Ideal) ℓ) : Prop :=
  True

def Pre_HgMixReferenceIdeal_finite_hg [hPre_finite_hg : Cert.Pre_finite_hg.Facts] (m : (ℓ : Loc Cert.HgMixReferenceIdeal.nD Cert.HgMixReferenceIdeal.τ Cert.HgMixReferenceIdeal.sig) → Buf (Elt Ideal) ℓ) : Prop :=
  ∀ c : Dev Cert.HgMixReferenceIdeal.nD,
    (Cert.Pre_finite_hg.fn (F := Ideal) (m ((c.tc : Thread Cert.HgMixReferenceIdeal.nD Cert.HgMixReferenceIdeal.τ).loc Cert.HgMixReferenceIdeal.main_arg0)) (m ((c.tc : Thread Cert.HgMixReferenceIdeal.nD Cert.HgMixReferenceIdeal.τ).loc Cert.HgMixReferenceIdeal.main_arg1)) (m ((c.tc : Thread Cert.HgMixReferenceIdeal.nD Cert.HgMixReferenceIdeal.τ).loc Cert.HgMixReferenceIdeal.main_arg2)) (m ((c.tc : Thread Cert.HgMixReferenceIdeal.nD Cert.HgMixReferenceIdeal.τ).loc Cert.HgMixReferenceIdeal.main_arg3)) (m ((c.tc : Thread Cert.HgMixReferenceIdeal.nD Cert.HgMixReferenceIdeal.τ).loc Cert.HgMixReferenceIdeal.main_arg4)) (m ((c.tc : Thread Cert.HgMixReferenceIdeal.nD Cert.HgMixReferenceIdeal.τ).loc Cert.HgMixReferenceIdeal.main_arg5)) (m ((c.tc : Thread Cert.HgMixReferenceIdeal.nD Cert.HgMixReferenceIdeal.τ).loc Cert.HgMixReferenceIdeal.main_arg6)) (m ((c.tc : Thread Cert.HgMixReferenceIdeal.nD Cert.HgMixReferenceIdeal.τ).loc Cert.HgMixReferenceIdeal.main_arg7)) (m ((c.tc : Thread Cert.HgMixReferenceIdeal.nD Cert.HgMixReferenceIdeal.τ).loc Cert.HgMixReferenceIdeal.main_arg8)) (m ((c.tc : Thread Cert.HgMixReferenceIdeal.nD Cert.HgMixReferenceIdeal.τ).loc Cert.HgMixReferenceIdeal.main_arg9)) (m ((c.tc : Thread Cert.HgMixReferenceIdeal.nD Cert.HgMixReferenceIdeal.τ).loc Cert.HgMixReferenceIdeal.main_arg10)) (m ((c.tc : Thread Cert.HgMixReferenceIdeal.nD Cert.HgMixReferenceIdeal.τ).loc Cert.HgMixReferenceIdeal.main_arg11)) (m ((c.tc : Thread Cert.HgMixReferenceIdeal.nD Cert.HgMixReferenceIdeal.τ).loc Cert.HgMixReferenceIdeal.main_arg12))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_proj [hPre_finite_proj : Cert.Pre_finite_proj.Facts] (m : (ℓ : Loc Cert.ProjIdeal.nD Cert.ProjIdeal.τ Cert.ProjIdeal.sig) → Buf (Elt Ideal) ℓ) : Prop :=
  ∀ c : Dev Cert.ProjIdeal.nD,
    (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_finite_proj [hPre_finite_proj : Cert.Pre_finite_proj.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2))
      ∧ r.2.sem = fun _ => 0)

def quiescent_NaMix [hNaMix : Cert.NaMix.Facts] : Prop :=
  ∀ (m : (ℓ : Loc Cert.NaMix.nD Cert.NaMix.τ Cert.NaMix.sig) → Buf (Elt Bits) ℓ) (g : Dev Cert.NaMix.nD → PrngReg), Pre_NaMix m →
    θ_run (Cert.NaMix.defs (F := Bits)) (onTc (τ := Cert.NaMix.τ) (Cert.NaMix.main (F := Bits))) ⟨m, fun _ => 0, g⟩ (fun r => (∀ c : Dev Cert.NaMix.nD,
      r.2.mem ((c.tc : Thread Cert.NaMix.nD Cert.NaMix.τ).loc Cert.NaMix.main_arg0) = m ((c.tc : Thread Cert.NaMix.nD Cert.NaMix.τ).loc Cert.NaMix.main_arg0)
      ∧ r.2.mem ((c.tc : Thread Cert.NaMix.nD Cert.NaMix.τ).loc Cert.NaMix.main_arg1) = m ((c.tc : Thread Cert.NaMix.nD Cert.NaMix.τ).loc Cert.NaMix.main_arg1)
      ∧ r.2.mem ((c.tc : Thread Cert.NaMix.nD Cert.NaMix.τ).loc Cert.NaMix.main_arg2) = m ((c.tc : Thread Cert.NaMix.nD Cert.NaMix.τ).loc Cert.NaMix.main_arg2)
      ∧ r.2.mem ((c.tc : Thread Cert.NaMix.nD Cert.NaMix.τ).loc Cert.NaMix.main_arg3) = m ((c.tc : Thread Cert.NaMix.nD Cert.NaMix.τ).loc Cert.NaMix.main_arg3)
      ∧ r.2.mem ((c.tc : Thread Cert.NaMix.nD Cert.NaMix.τ).loc Cert.NaMix.main_arg4) = m ((c.tc : Thread Cert.NaMix.nD Cert.NaMix.τ).loc Cert.NaMix.main_arg4)
      ∧ r.2.mem ((c.tc : Thread Cert.NaMix.nD Cert.NaMix.τ).loc Cert.NaMix.main_arg5) = m ((c.tc : Thread Cert.NaMix.nD Cert.NaMix.τ).loc Cert.NaMix.main_arg5)
      ∧ r.2.mem ((c.tc : Thread Cert.NaMix.nD Cert.NaMix.τ).loc Cert.NaMix.main_arg6) = m ((c.tc : Thread Cert.NaMix.nD Cert.NaMix.τ).loc Cert.NaMix.main_arg6)
      ∧ r.2.mem ((c.tc : Thread Cert.NaMix.nD Cert.NaMix.τ).loc Cert.NaMix.main_arg7) = m ((c.tc : Thread Cert.NaMix.nD Cert.NaMix.τ).loc Cert.NaMix.main_arg7)
      ∧ r.2.mem ((c.tc : Thread Cert.NaMix.nD Cert.NaMix.τ).loc Cert.NaMix.main_arg8) = m ((c.tc : Thread Cert.NaMix.nD Cert.NaMix.τ).loc Cert.NaMix.main_arg8)
      ∧ r.2.mem ((c.tc : Thread Cert.NaMix.nD Cert.NaMix.τ).loc Cert.NaMix.main_arg9) = m ((c.tc : Thread Cert.NaMix.nD Cert.NaMix.τ).loc Cert.NaMix.main_arg9))
      ∧ r.2.sem = fun _ => 0)

def quiescent_NaMixIdeal [hNaMixIdeal : Cert.NaMixIdeal.Facts] : Prop :=
  ∀ (m : (ℓ : Loc Cert.NaMixIdeal.nD Cert.NaMixIdeal.τ Cert.NaMixIdeal.sig) → Buf (Elt Ideal) ℓ) (g : Dev Cert.NaMixIdeal.nD → PrngReg), Pre_NaMixIdeal m →
    θ_run (Cert.NaMixIdeal.defs (F := Ideal)) (onTc (τ := Cert.NaMixIdeal.τ) (Cert.NaMixIdeal.main (F := Ideal))) ⟨m, fun _ => 0, g⟩ (fun r => (∀ c : Dev Cert.NaMixIdeal.nD,
      r.2.mem ((c.tc : Thread Cert.NaMixIdeal.nD Cert.NaMixIdeal.τ).loc Cert.NaMixIdeal.main_arg0) = m ((c.tc : Thread Cert.NaMixIdeal.nD Cert.NaMixIdeal.τ).loc Cert.NaMixIdeal.main_arg0)
      ∧ r.2.mem ((c.tc : Thread Cert.NaMixIdeal.nD Cert.NaMixIdeal.τ).loc Cert.NaMixIdeal.main_arg1) = m ((c.tc : Thread Cert.NaMixIdeal.nD Cert.NaMixIdeal.τ).loc Cert.NaMixIdeal.main_arg1)
      ∧ r.2.mem ((c.tc : Thread Cert.NaMixIdeal.nD Cert.NaMixIdeal.τ).loc Cert.NaMixIdeal.main_arg2) = m ((c.tc : Thread Cert.NaMixIdeal.nD Cert.NaMixIdeal.τ).loc Cert.NaMixIdeal.main_arg2)
      ∧ r.2.mem ((c.tc : Thread Cert.NaMixIdeal.nD Cert.NaMixIdeal.τ).loc Cert.NaMixIdeal.main_arg3) = m ((c.tc : Thread Cert.NaMixIdeal.nD Cert.NaMixIdeal.τ).loc Cert.NaMixIdeal.main_arg3)
      ∧ r.2.mem ((c.tc : Thread Cert.NaMixIdeal.nD Cert.NaMixIdeal.τ).loc Cert.NaMixIdeal.main_arg4) = m ((c.tc : Thread Cert.NaMixIdeal.nD Cert.NaMixIdeal.τ).loc Cert.NaMixIdeal.main_arg4)
      ∧ r.2.mem ((c.tc : Thread Cert.NaMixIdeal.nD Cert.NaMixIdeal.τ).loc Cert.NaMixIdeal.main_arg5) = m ((c.tc : Thread Cert.NaMixIdeal.nD Cert.NaMixIdeal.τ).loc Cert.NaMixIdeal.main_arg5)
      ∧ r.2.mem ((c.tc : Thread Cert.NaMixIdeal.nD Cert.NaMixIdeal.τ).loc Cert.NaMixIdeal.main_arg6) = m ((c.tc : Thread Cert.NaMixIdeal.nD Cert.NaMixIdeal.τ).loc Cert.NaMixIdeal.main_arg6)
      ∧ r.2.mem ((c.tc : Thread Cert.NaMixIdeal.nD Cert.NaMixIdeal.τ).loc Cert.NaMixIdeal.main_arg7) = m ((c.tc : Thread Cert.NaMixIdeal.nD Cert.NaMixIdeal.τ).loc Cert.NaMixIdeal.main_arg7)
      ∧ r.2.mem ((c.tc : Thread Cert.NaMixIdeal.nD Cert.NaMixIdeal.τ).loc Cert.NaMixIdeal.main_arg8) = m ((c.tc : Thread Cert.NaMixIdeal.nD Cert.NaMixIdeal.τ).loc Cert.NaMixIdeal.main_arg8)
      ∧ r.2.mem ((c.tc : Thread Cert.NaMixIdeal.nD Cert.NaMixIdeal.τ).loc Cert.NaMixIdeal.main_arg9) = m ((c.tc : Thread Cert.NaMixIdeal.nD Cert.NaMixIdeal.τ).loc Cert.NaMixIdeal.main_arg9))
      ∧ r.2.sem = fun _ => 0)

def quiescent_NaMixIdeal_pre_finite_na [hNaMixIdeal : Cert.NaMixIdeal.Facts] [hPre_finite_na : Cert.Pre_finite_na.Facts] : Prop :=
  ∀ (m : (ℓ : Loc Cert.NaMixIdeal.nD Cert.NaMixIdeal.τ Cert.NaMixIdeal.sig) → Buf (Elt Ideal) ℓ) (g : Dev Cert.NaMixIdeal.nD → PrngReg), Pre_NaMixIdeal_finite_na m →
    θ_run (Cert.NaMixIdeal.defs (F := Ideal)) (onTc (τ := Cert.NaMixIdeal.τ) (Cert.NaMixIdeal.main (F := Ideal))) ⟨m, fun _ => 0, g⟩ (fun r => (∀ c : Dev Cert.NaMixIdeal.nD,
      r.2.mem ((c.tc : Thread Cert.NaMixIdeal.nD Cert.NaMixIdeal.τ).loc Cert.NaMixIdeal.main_arg0) = m ((c.tc : Thread Cert.NaMixIdeal.nD Cert.NaMixIdeal.τ).loc Cert.NaMixIdeal.main_arg0)
      ∧ r.2.mem ((c.tc : Thread Cert.NaMixIdeal.nD Cert.NaMixIdeal.τ).loc Cert.NaMixIdeal.main_arg1) = m ((c.tc : Thread Cert.NaMixIdeal.nD Cert.NaMixIdeal.τ).loc Cert.NaMixIdeal.main_arg1)
      ∧ r.2.mem ((c.tc : Thread Cert.NaMixIdeal.nD Cert.NaMixIdeal.τ).loc Cert.NaMixIdeal.main_arg2) = m ((c.tc : Thread Cert.NaMixIdeal.nD Cert.NaMixIdeal.τ).loc Cert.NaMixIdeal.main_arg2)
      ∧ r.2.mem ((c.tc : Thread Cert.NaMixIdeal.nD Cert.NaMixIdeal.τ).loc Cert.NaMixIdeal.main_arg3) = m ((c.tc : Thread Cert.NaMixIdeal.nD Cert.NaMixIdeal.τ).loc Cert.NaMixIdeal.main_arg3)
      ∧ r.2.mem ((c.tc : Thread Cert.NaMixIdeal.nD Cert.NaMixIdeal.τ).loc Cert.NaMixIdeal.main_arg4) = m ((c.tc : Thread Cert.NaMixIdeal.nD Cert.NaMixIdeal.τ).loc Cert.NaMixIdeal.main_arg4)
      ∧ r.2.mem ((c.tc : Thread Cert.NaMixIdeal.nD Cert.NaMixIdeal.τ).loc Cert.NaMixIdeal.main_arg5) = m ((c.tc : Thread Cert.NaMixIdeal.nD Cert.NaMixIdeal.τ).loc Cert.NaMixIdeal.main_arg5)
      ∧ r.2.mem ((c.tc : Thread Cert.NaMixIdeal.nD Cert.NaMixIdeal.τ).loc Cert.NaMixIdeal.main_arg6) = m ((c.tc : Thread Cert.NaMixIdeal.nD Cert.NaMixIdeal.τ).loc Cert.NaMixIdeal.main_arg6)
      ∧ r.2.mem ((c.tc : Thread Cert.NaMixIdeal.nD Cert.NaMixIdeal.τ).loc Cert.NaMixIdeal.main_arg7) = m ((c.tc : Thread Cert.NaMixIdeal.nD Cert.NaMixIdeal.τ).loc Cert.NaMixIdeal.main_arg7)
      ∧ r.2.mem ((c.tc : Thread Cert.NaMixIdeal.nD Cert.NaMixIdeal.τ).loc Cert.NaMixIdeal.main_arg8) = m ((c.tc : Thread Cert.NaMixIdeal.nD Cert.NaMixIdeal.τ).loc Cert.NaMixIdeal.main_arg8)
      ∧ r.2.mem ((c.tc : Thread Cert.NaMixIdeal.nD Cert.NaMixIdeal.τ).loc Cert.NaMixIdeal.main_arg9) = m ((c.tc : Thread Cert.NaMixIdeal.nD Cert.NaMixIdeal.τ).loc Cert.NaMixIdeal.main_arg9))
      ∧ r.2.sem = fun _ => 0)

def quiescent_NaMixReferenceIdeal [hNaMixReferenceIdeal : Cert.NaMixReferenceIdeal.Facts] : Prop :=
  ∀ (m : (ℓ : Loc Cert.NaMixReferenceIdeal.nD Cert.NaMixReferenceIdeal.τ Cert.NaMixReferenceIdeal.sig) → Buf (Elt Ideal) ℓ) (g : Dev Cert.NaMixReferenceIdeal.nD → PrngReg), Pre_NaMixReferenceIdeal m →
    θ_run (Cert.NaMixReferenceIdeal.defs (F := Ideal)) (onTc (τ := Cert.NaMixReferenceIdeal.τ) (Cert.NaMixReferenceIdeal.main (F := Ideal))) ⟨m, fun _ => 0, g⟩ (fun r => (∀ c : Dev Cert.NaMixReferenceIdeal.nD,
      r.2.mem ((c.tc : Thread Cert.NaMixReferenceIdeal.nD Cert.NaMixReferenceIdeal.τ).loc Cert.NaMixReferenceIdeal.main_arg0) = m ((c.tc : Thread Cert.NaMixReferenceIdeal.nD Cert.NaMixReferenceIdeal.τ).loc Cert.NaMixReferenceIdeal.main_arg0)
      ∧ r.2.mem ((c.tc : Thread Cert.NaMixReferenceIdeal.nD Cert.NaMixReferenceIdeal.τ).loc Cert.NaMixReferenceIdeal.main_arg1) = m ((c.tc : Thread Cert.NaMixReferenceIdeal.nD Cert.NaMixReferenceIdeal.τ).loc Cert.NaMixReferenceIdeal.main_arg1)
      ∧ r.2.mem ((c.tc : Thread Cert.NaMixReferenceIdeal.nD Cert.NaMixReferenceIdeal.τ).loc Cert.NaMixReferenceIdeal.main_arg2) = m ((c.tc : Thread Cert.NaMixReferenceIdeal.nD Cert.NaMixReferenceIdeal.τ).loc Cert.NaMixReferenceIdeal.main_arg2)
      ∧ r.2.mem ((c.tc : Thread Cert.NaMixReferenceIdeal.nD Cert.NaMixReferenceIdeal.τ).loc Cert.NaMixReferenceIdeal.main_arg3) = m ((c.tc : Thread Cert.NaMixReferenceIdeal.nD Cert.NaMixReferenceIdeal.τ).loc Cert.NaMixReferenceIdeal.main_arg3)
      ∧ r.2.mem ((c.tc : Thread Cert.NaMixReferenceIdeal.nD Cert.NaMixReferenceIdeal.τ).loc Cert.NaMixReferenceIdeal.main_arg4) = m ((c.tc : Thread Cert.NaMixReferenceIdeal.nD Cert.NaMixReferenceIdeal.τ).loc Cert.NaMixReferenceIdeal.main_arg4)
      ∧ r.2.mem ((c.tc : Thread Cert.NaMixReferenceIdeal.nD Cert.NaMixReferenceIdeal.τ).loc Cert.NaMixReferenceIdeal.main_arg5) = m ((c.tc : Thread Cert.NaMixReferenceIdeal.nD Cert.NaMixReferenceIdeal.τ).loc Cert.NaMixReferenceIdeal.main_arg5)
      ∧ r.2.mem ((c.tc : Thread Cert.NaMixReferenceIdeal.nD Cert.NaMixReferenceIdeal.τ).loc Cert.NaMixReferenceIdeal.main_arg6) = m ((c.tc : Thread Cert.NaMixReferenceIdeal.nD Cert.NaMixReferenceIdeal.τ).loc Cert.NaMixReferenceIdeal.main_arg6)
      ∧ r.2.mem ((c.tc : Thread Cert.NaMixReferenceIdeal.nD Cert.NaMixReferenceIdeal.τ).loc Cert.NaMixReferenceIdeal.main_arg7) = m ((c.tc : Thread Cert.NaMixReferenceIdeal.nD Cert.NaMixReferenceIdeal.τ).loc Cert.NaMixReferenceIdeal.main_arg7)
      ∧ r.2.mem ((c.tc : Thread Cert.NaMixReferenceIdeal.nD Cert.NaMixReferenceIdeal.τ).loc Cert.NaMixReferenceIdeal.main_arg8) = m ((c.tc : Thread Cert.NaMixReferenceIdeal.nD Cert.NaMixReferenceIdeal.τ).loc Cert.NaMixReferenceIdeal.main_arg8)
      ∧ r.2.mem ((c.tc : Thread Cert.NaMixReferenceIdeal.nD Cert.NaMixReferenceIdeal.τ).loc Cert.NaMixReferenceIdeal.main_arg9) = m ((c.tc : Thread Cert.NaMixReferenceIdeal.nD Cert.NaMixReferenceIdeal.τ).loc Cert.NaMixReferenceIdeal.main_arg9))
      ∧ r.2.sem = fun _ => 0)

def quiescent_NaMixReferenceIdeal_pre_finite_na [hNaMixReferenceIdeal : Cert.NaMixReferenceIdeal.Facts] [hPre_finite_na : Cert.Pre_finite_na.Facts] : Prop :=
  ∀ (m : (ℓ : Loc Cert.NaMixReferenceIdeal.nD Cert.NaMixReferenceIdeal.τ Cert.NaMixReferenceIdeal.sig) → Buf (Elt Ideal) ℓ) (g : Dev Cert.NaMixReferenceIdeal.nD → PrngReg), Pre_NaMixReferenceIdeal_finite_na m →
    θ_run (Cert.NaMixReferenceIdeal.defs (F := Ideal)) (onTc (τ := Cert.NaMixReferenceIdeal.τ) (Cert.NaMixReferenceIdeal.main (F := Ideal))) ⟨m, fun _ => 0, g⟩ (fun r => (∀ c : Dev Cert.NaMixReferenceIdeal.nD,
      r.2.mem ((c.tc : Thread Cert.NaMixReferenceIdeal.nD Cert.NaMixReferenceIdeal.τ).loc Cert.NaMixReferenceIdeal.main_arg0) = m ((c.tc : Thread Cert.NaMixReferenceIdeal.nD Cert.NaMixReferenceIdeal.τ).loc Cert.NaMixReferenceIdeal.main_arg0)
      ∧ r.2.mem ((c.tc : Thread Cert.NaMixReferenceIdeal.nD Cert.NaMixReferenceIdeal.τ).loc Cert.NaMixReferenceIdeal.main_arg1) = m ((c.tc : Thread Cert.NaMixReferenceIdeal.nD Cert.NaMixReferenceIdeal.τ).loc Cert.NaMixReferenceIdeal.main_arg1)
      ∧ r.2.mem ((c.tc : Thread Cert.NaMixReferenceIdeal.nD Cert.NaMixReferenceIdeal.τ).loc Cert.NaMixReferenceIdeal.main_arg2) = m ((c.tc : Thread Cert.NaMixReferenceIdeal.nD Cert.NaMixReferenceIdeal.τ).loc Cert.NaMixReferenceIdeal.main_arg2)
      ∧ r.2.mem ((c.tc : Thread Cert.NaMixReferenceIdeal.nD Cert.NaMixReferenceIdeal.τ).loc Cert.NaMixReferenceIdeal.main_arg3) = m ((c.tc : Thread Cert.NaMixReferenceIdeal.nD Cert.NaMixReferenceIdeal.τ).loc Cert.NaMixReferenceIdeal.main_arg3)
      ∧ r.2.mem ((c.tc : Thread Cert.NaMixReferenceIdeal.nD Cert.NaMixReferenceIdeal.τ).loc Cert.NaMixReferenceIdeal.main_arg4) = m ((c.tc : Thread Cert.NaMixReferenceIdeal.nD Cert.NaMixReferenceIdeal.τ).loc Cert.NaMixReferenceIdeal.main_arg4)
      ∧ r.2.mem ((c.tc : Thread Cert.NaMixReferenceIdeal.nD Cert.NaMixReferenceIdeal.τ).loc Cert.NaMixReferenceIdeal.main_arg5) = m ((c.tc : Thread Cert.NaMixReferenceIdeal.nD Cert.NaMixReferenceIdeal.τ).loc Cert.NaMixReferenceIdeal.main_arg5)
      ∧ r.2.mem ((c.tc : Thread Cert.NaMixReferenceIdeal.nD Cert.NaMixReferenceIdeal.τ).loc Cert.NaMixReferenceIdeal.main_arg6) = m ((c.tc : Thread Cert.NaMixReferenceIdeal.nD Cert.NaMixReferenceIdeal.τ).loc Cert.NaMixReferenceIdeal.main_arg6)
      ∧ r.2.mem ((c.tc : Thread Cert.NaMixReferenceIdeal.nD Cert.NaMixReferenceIdeal.τ).loc Cert.NaMixReferenceIdeal.main_arg7) = m ((c.tc : Thread Cert.NaMixReferenceIdeal.nD Cert.NaMixReferenceIdeal.τ).loc Cert.NaMixReferenceIdeal.main_arg7)
      ∧ r.2.mem ((c.tc : Thread Cert.NaMixReferenceIdeal.nD Cert.NaMixReferenceIdeal.τ).loc Cert.NaMixReferenceIdeal.main_arg8) = m ((c.tc : Thread Cert.NaMixReferenceIdeal.nD Cert.NaMixReferenceIdeal.τ).loc Cert.NaMixReferenceIdeal.main_arg8)
      ∧ r.2.mem ((c.tc : Thread Cert.NaMixReferenceIdeal.nD Cert.NaMixReferenceIdeal.τ).loc Cert.NaMixReferenceIdeal.main_arg9) = m ((c.tc : Thread Cert.NaMixReferenceIdeal.nD Cert.NaMixReferenceIdeal.τ).loc Cert.NaMixReferenceIdeal.main_arg9))
      ∧ r.2.sem = fun _ => 0)

def quiescent_HgMix [hHgMix : Cert.HgMix.Facts] : Prop :=
  ∀ (m : (ℓ : Loc Cert.HgMix.nD Cert.HgMix.τ Cert.HgMix.sig) → Buf (Elt Bits) ℓ) (g : Dev Cert.HgMix.nD → PrngReg), Pre_HgMix m →
    θ_run (Cert.HgMix.defs (F := Bits)) (onTc (τ := Cert.HgMix.τ) (Cert.HgMix.main (F := Bits))) ⟨m, fun _ => 0, g⟩ (fun r => (∀ c : Dev Cert.HgMix.nD,
      r.2.mem ((c.tc : Thread Cert.HgMix.nD Cert.HgMix.τ).loc Cert.HgMix.main_arg0) = m ((c.tc : Thread Cert.HgMix.nD Cert.HgMix.τ).loc Cert.HgMix.main_arg0)
      ∧ r.2.mem ((c.tc : Thread Cert.HgMix.nD Cert.HgMix.τ).loc Cert.HgMix.main_arg1) = m ((c.tc : Thread Cert.HgMix.nD Cert.HgMix.τ).loc Cert.HgMix.main_arg1)
      ∧ r.2.mem ((c.tc : Thread Cert.HgMix.nD Cert.HgMix.τ).loc Cert.HgMix.main_arg2) = m ((c.tc : Thread Cert.HgMix.nD Cert.HgMix.τ).loc Cert.HgMix.main_arg2)
      ∧ r.2.mem ((c.tc : Thread Cert.HgMix.nD Cert.HgMix.τ).loc Cert.HgMix.main_arg3) = m ((c.tc : Thread Cert.HgMix.nD Cert.HgMix.τ).loc Cert.HgMix.main_arg3)
      ∧ r.2.mem ((c.tc : Thread Cert.HgMix.nD Cert.HgMix.τ).loc Cert.HgMix.main_arg4) = m ((c.tc : Thread Cert.HgMix.nD Cert.HgMix.τ).loc Cert.HgMix.main_arg4)
      ∧ r.2.mem ((c.tc : Thread Cert.HgMix.nD Cert.HgMix.τ).loc Cert.HgMix.main_arg5) = m ((c.tc : Thread Cert.HgMix.nD Cert.HgMix.τ).loc Cert.HgMix.main_arg5)
      ∧ r.2.mem ((c.tc : Thread Cert.HgMix.nD Cert.HgMix.τ).loc Cert.HgMix.main_arg6) = m ((c.tc : Thread Cert.HgMix.nD Cert.HgMix.τ).loc Cert.HgMix.main_arg6)
      ∧ r.2.mem ((c.tc : Thread Cert.HgMix.nD Cert.HgMix.τ).loc Cert.HgMix.main_arg7) = m ((c.tc : Thread Cert.HgMix.nD Cert.HgMix.τ).loc Cert.HgMix.main_arg7)
      ∧ r.2.mem ((c.tc : Thread Cert.HgMix.nD Cert.HgMix.τ).loc Cert.HgMix.main_arg8) = m ((c.tc : Thread Cert.HgMix.nD Cert.HgMix.τ).loc Cert.HgMix.main_arg8)
      ∧ r.2.mem ((c.tc : Thread Cert.HgMix.nD Cert.HgMix.τ).loc Cert.HgMix.main_arg9) = m ((c.tc : Thread Cert.HgMix.nD Cert.HgMix.τ).loc Cert.HgMix.main_arg9)
      ∧ r.2.mem ((c.tc : Thread Cert.HgMix.nD Cert.HgMix.τ).loc Cert.HgMix.main_arg10) = m ((c.tc : Thread Cert.HgMix.nD Cert.HgMix.τ).loc Cert.HgMix.main_arg10)
      ∧ r.2.mem ((c.tc : Thread Cert.HgMix.nD Cert.HgMix.τ).loc Cert.HgMix.main_arg11) = m ((c.tc : Thread Cert.HgMix.nD Cert.HgMix.τ).loc Cert.HgMix.main_arg11)
      ∧ r.2.mem ((c.tc : Thread Cert.HgMix.nD Cert.HgMix.τ).loc Cert.HgMix.main_arg12) = m ((c.tc : Thread Cert.HgMix.nD Cert.HgMix.τ).loc Cert.HgMix.main_arg12))
      ∧ r.2.sem = fun _ => 0)

def quiescent_HgMixIdeal [hHgMixIdeal : Cert.HgMixIdeal.Facts] : Prop :=
  ∀ (m : (ℓ : Loc Cert.HgMixIdeal.nD Cert.HgMixIdeal.τ Cert.HgMixIdeal.sig) → Buf (Elt Ideal) ℓ) (g : Dev Cert.HgMixIdeal.nD → PrngReg), Pre_HgMixIdeal m →
    θ_run (Cert.HgMixIdeal.defs (F := Ideal)) (onTc (τ := Cert.HgMixIdeal.τ) (Cert.HgMixIdeal.main (F := Ideal))) ⟨m, fun _ => 0, g⟩ (fun r => (∀ c : Dev Cert.HgMixIdeal.nD,
      r.2.mem ((c.tc : Thread Cert.HgMixIdeal.nD Cert.HgMixIdeal.τ).loc Cert.HgMixIdeal.main_arg0) = m ((c.tc : Thread Cert.HgMixIdeal.nD Cert.HgMixIdeal.τ).loc Cert.HgMixIdeal.main_arg0)
      ∧ r.2.mem ((c.tc : Thread Cert.HgMixIdeal.nD Cert.HgMixIdeal.τ).loc Cert.HgMixIdeal.main_arg1) = m ((c.tc : Thread Cert.HgMixIdeal.nD Cert.HgMixIdeal.τ).loc Cert.HgMixIdeal.main_arg1)
      ∧ r.2.mem ((c.tc : Thread Cert.HgMixIdeal.nD Cert.HgMixIdeal.τ).loc Cert.HgMixIdeal.main_arg2) = m ((c.tc : Thread Cert.HgMixIdeal.nD Cert.HgMixIdeal.τ).loc Cert.HgMixIdeal.main_arg2)
      ∧ r.2.mem ((c.tc : Thread Cert.HgMixIdeal.nD Cert.HgMixIdeal.τ).loc Cert.HgMixIdeal.main_arg3) = m ((c.tc : Thread Cert.HgMixIdeal.nD Cert.HgMixIdeal.τ).loc Cert.HgMixIdeal.main_arg3)
      ∧ r.2.mem ((c.tc : Thread Cert.HgMixIdeal.nD Cert.HgMixIdeal.τ).loc Cert.HgMixIdeal.main_arg4) = m ((c.tc : Thread Cert.HgMixIdeal.nD Cert.HgMixIdeal.τ).loc Cert.HgMixIdeal.main_arg4)
      ∧ r.2.mem ((c.tc : Thread Cert.HgMixIdeal.nD Cert.HgMixIdeal.τ).loc Cert.HgMixIdeal.main_arg5) = m ((c.tc : Thread Cert.HgMixIdeal.nD Cert.HgMixIdeal.τ).loc Cert.HgMixIdeal.main_arg5)
      ∧ r.2.mem ((c.tc : Thread Cert.HgMixIdeal.nD Cert.HgMixIdeal.τ).loc Cert.HgMixIdeal.main_arg6) = m ((c.tc : Thread Cert.HgMixIdeal.nD Cert.HgMixIdeal.τ).loc Cert.HgMixIdeal.main_arg6)
      ∧ r.2.mem ((c.tc : Thread Cert.HgMixIdeal.nD Cert.HgMixIdeal.τ).loc Cert.HgMixIdeal.main_arg7) = m ((c.tc : Thread Cert.HgMixIdeal.nD Cert.HgMixIdeal.τ).loc Cert.HgMixIdeal.main_arg7)
      ∧ r.2.mem ((c.tc : Thread Cert.HgMixIdeal.nD Cert.HgMixIdeal.τ).loc Cert.HgMixIdeal.main_arg8) = m ((c.tc : Thread Cert.HgMixIdeal.nD Cert.HgMixIdeal.τ).loc Cert.HgMixIdeal.main_arg8)
      ∧ r.2.mem ((c.tc : Thread Cert.HgMixIdeal.nD Cert.HgMixIdeal.τ).loc Cert.HgMixIdeal.main_arg9) = m ((c.tc : Thread Cert.HgMixIdeal.nD Cert.HgMixIdeal.τ).loc Cert.HgMixIdeal.main_arg9)
      ∧ r.2.mem ((c.tc : Thread Cert.HgMixIdeal.nD Cert.HgMixIdeal.τ).loc Cert.HgMixIdeal.main_arg10) = m ((c.tc : Thread Cert.HgMixIdeal.nD Cert.HgMixIdeal.τ).loc Cert.HgMixIdeal.main_arg10)
      ∧ r.2.mem ((c.tc : Thread Cert.HgMixIdeal.nD Cert.HgMixIdeal.τ).loc Cert.HgMixIdeal.main_arg11) = m ((c.tc : Thread Cert.HgMixIdeal.nD Cert.HgMixIdeal.τ).loc Cert.HgMixIdeal.main_arg11)
      ∧ r.2.mem ((c.tc : Thread Cert.HgMixIdeal.nD Cert.HgMixIdeal.τ).loc Cert.HgMixIdeal.main_arg12) = m ((c.tc : Thread Cert.HgMixIdeal.nD Cert.HgMixIdeal.τ).loc Cert.HgMixIdeal.main_arg12))
      ∧ r.2.sem = fun _ => 0)

def quiescent_HgMixIdeal_pre_finite_hg [hHgMixIdeal : Cert.HgMixIdeal.Facts] [hPre_finite_hg : Cert.Pre_finite_hg.Facts] : Prop :=
  ∀ (m : (ℓ : Loc Cert.HgMixIdeal.nD Cert.HgMixIdeal.τ Cert.HgMixIdeal.sig) → Buf (Elt Ideal) ℓ) (g : Dev Cert.HgMixIdeal.nD → PrngReg), Pre_HgMixIdeal_finite_hg m →
    θ_run (Cert.HgMixIdeal.defs (F := Ideal)) (onTc (τ := Cert.HgMixIdeal.τ) (Cert.HgMixIdeal.main (F := Ideal))) ⟨m, fun _ => 0, g⟩ (fun r => (∀ c : Dev Cert.HgMixIdeal.nD,
      r.2.mem ((c.tc : Thread Cert.HgMixIdeal.nD Cert.HgMixIdeal.τ).loc Cert.HgMixIdeal.main_arg0) = m ((c.tc : Thread Cert.HgMixIdeal.nD Cert.HgMixIdeal.τ).loc Cert.HgMixIdeal.main_arg0)
      ∧ r.2.mem ((c.tc : Thread Cert.HgMixIdeal.nD Cert.HgMixIdeal.τ).loc Cert.HgMixIdeal.main_arg1) = m ((c.tc : Thread Cert.HgMixIdeal.nD Cert.HgMixIdeal.τ).loc Cert.HgMixIdeal.main_arg1)
      ∧ r.2.mem ((c.tc : Thread Cert.HgMixIdeal.nD Cert.HgMixIdeal.τ).loc Cert.HgMixIdeal.main_arg2) = m ((c.tc : Thread Cert.HgMixIdeal.nD Cert.HgMixIdeal.τ).loc Cert.HgMixIdeal.main_arg2)
      ∧ r.2.mem ((c.tc : Thread Cert.HgMixIdeal.nD Cert.HgMixIdeal.τ).loc Cert.HgMixIdeal.main_arg3) = m ((c.tc : Thread Cert.HgMixIdeal.nD Cert.HgMixIdeal.τ).loc Cert.HgMixIdeal.main_arg3)
      ∧ r.2.mem ((c.tc : Thread Cert.HgMixIdeal.nD Cert.HgMixIdeal.τ).loc Cert.HgMixIdeal.main_arg4) = m ((c.tc : Thread Cert.HgMixIdeal.nD Cert.HgMixIdeal.τ).loc Cert.HgMixIdeal.main_arg4)
      ∧ r.2.mem ((c.tc : Thread Cert.HgMixIdeal.nD Cert.HgMixIdeal.τ).loc Cert.HgMixIdeal.main_arg5) = m ((c.tc : Thread Cert.HgMixIdeal.nD Cert.HgMixIdeal.τ).loc Cert.HgMixIdeal.main_arg5)
      ∧ r.2.mem ((c.tc : Thread Cert.HgMixIdeal.nD Cert.HgMixIdeal.τ).loc Cert.HgMixIdeal.main_arg6) = m ((c.tc : Thread Cert.HgMixIdeal.nD Cert.HgMixIdeal.τ).loc Cert.HgMixIdeal.main_arg6)
      ∧ r.2.mem ((c.tc : Thread Cert.HgMixIdeal.nD Cert.HgMixIdeal.τ).loc Cert.HgMixIdeal.main_arg7) = m ((c.tc : Thread Cert.HgMixIdeal.nD Cert.HgMixIdeal.τ).loc Cert.HgMixIdeal.main_arg7)
      ∧ r.2.mem ((c.tc : Thread Cert.HgMixIdeal.nD Cert.HgMixIdeal.τ).loc Cert.HgMixIdeal.main_arg8) = m ((c.tc : Thread Cert.HgMixIdeal.nD Cert.HgMixIdeal.τ).loc Cert.HgMixIdeal.main_arg8)
      ∧ r.2.mem ((c.tc : Thread Cert.HgMixIdeal.nD Cert.HgMixIdeal.τ).loc Cert.HgMixIdeal.main_arg9) = m ((c.tc : Thread Cert.HgMixIdeal.nD Cert.HgMixIdeal.τ).loc Cert.HgMixIdeal.main_arg9)
      ∧ r.2.mem ((c.tc : Thread Cert.HgMixIdeal.nD Cert.HgMixIdeal.τ).loc Cert.HgMixIdeal.main_arg10) = m ((c.tc : Thread Cert.HgMixIdeal.nD Cert.HgMixIdeal.τ).loc Cert.HgMixIdeal.main_arg10)
      ∧ r.2.mem ((c.tc : Thread Cert.HgMixIdeal.nD Cert.HgMixIdeal.τ).loc Cert.HgMixIdeal.main_arg11) = m ((c.tc : Thread Cert.HgMixIdeal.nD Cert.HgMixIdeal.τ).loc Cert.HgMixIdeal.main_arg11)
      ∧ r.2.mem ((c.tc : Thread Cert.HgMixIdeal.nD Cert.HgMixIdeal.τ).loc Cert.HgMixIdeal.main_arg12) = m ((c.tc : Thread Cert.HgMixIdeal.nD Cert.HgMixIdeal.τ).loc Cert.HgMixIdeal.main_arg12))
      ∧ r.2.sem = fun _ => 0)

def quiescent_HgMixReferenceIdeal [hHgMixReferenceIdeal : Cert.HgMixReferenceIdeal.Facts] : Prop :=
  ∀ (m : (ℓ : Loc Cert.HgMixReferenceIdeal.nD Cert.HgMixReferenceIdeal.τ Cert.HgMixReferenceIdeal.sig) → Buf (Elt Ideal) ℓ) (g : Dev Cert.HgMixReferenceIdeal.nD → PrngReg), Pre_HgMixReferenceIdeal m →
    θ_run (Cert.HgMixReferenceIdeal.defs (F := Ideal)) (onTc (τ := Cert.HgMixReferenceIdeal.τ) (Cert.HgMixReferenceIdeal.main (F := Ideal))) ⟨m, fun _ => 0, g⟩ (fun r => (∀ c : Dev Cert.HgMixReferenceIdeal.nD,
      r.2.mem ((c.tc : Thread Cert.HgMixReferenceIdeal.nD Cert.HgMixReferenceIdeal.τ).loc Cert.HgMixReferenceIdeal.main_arg0) = m ((c.tc : Thread Cert.HgMixReferenceIdeal.nD Cert.HgMixReferenceIdeal.τ).loc Cert.HgMixReferenceIdeal.main_arg0)
      ∧ r.2.mem ((c.tc : Thread Cert.HgMixReferenceIdeal.nD Cert.HgMixReferenceIdeal.τ).loc Cert.HgMixReferenceIdeal.main_arg1) = m ((c.tc : Thread Cert.HgMixReferenceIdeal.nD Cert.HgMixReferenceIdeal.τ).loc Cert.HgMixReferenceIdeal.main_arg1)
      ∧ r.2.mem ((c.tc : Thread Cert.HgMixReferenceIdeal.nD Cert.HgMixReferenceIdeal.τ).loc Cert.HgMixReferenceIdeal.main_arg2) = m ((c.tc : Thread Cert.HgMixReferenceIdeal.nD Cert.HgMixReferenceIdeal.τ).loc Cert.HgMixReferenceIdeal.main_arg2)
      ∧ r.2.mem ((c.tc : Thread Cert.HgMixReferenceIdeal.nD Cert.HgMixReferenceIdeal.τ).loc Cert.HgMixReferenceIdeal.main_arg3) = m ((c.tc : Thread Cert.HgMixReferenceIdeal.nD Cert.HgMixReferenceIdeal.τ).loc Cert.HgMixReferenceIdeal.main_arg3)
      ∧ r.2.mem ((c.tc : Thread Cert.HgMixReferenceIdeal.nD Cert.HgMixReferenceIdeal.τ).loc Cert.HgMixReferenceIdeal.main_arg4) = m ((c.tc : Thread Cert.HgMixReferenceIdeal.nD Cert.HgMixReferenceIdeal.τ).loc Cert.HgMixReferenceIdeal.main_arg4)
      ∧ r.2.mem ((c.tc : Thread Cert.HgMixReferenceIdeal.nD Cert.HgMixReferenceIdeal.τ).loc Cert.HgMixReferenceIdeal.main_arg5) = m ((c.tc : Thread Cert.HgMixReferenceIdeal.nD Cert.HgMixReferenceIdeal.τ).loc Cert.HgMixReferenceIdeal.main_arg5)
      ∧ r.2.mem ((c.tc : Thread Cert.HgMixReferenceIdeal.nD Cert.HgMixReferenceIdeal.τ).loc Cert.HgMixReferenceIdeal.main_arg6) = m ((c.tc : Thread Cert.HgMixReferenceIdeal.nD Cert.HgMixReferenceIdeal.τ).loc Cert.HgMixReferenceIdeal.main_arg6)
      ∧ r.2.mem ((c.tc : Thread Cert.HgMixReferenceIdeal.nD Cert.HgMixReferenceIdeal.τ).loc Cert.HgMixReferenceIdeal.main_arg7) = m ((c.tc : Thread Cert.HgMixReferenceIdeal.nD Cert.HgMixReferenceIdeal.τ).loc Cert.HgMixReferenceIdeal.main_arg7)
      ∧ r.2.mem ((c.tc : Thread Cert.HgMixReferenceIdeal.nD Cert.HgMixReferenceIdeal.τ).loc Cert.HgMixReferenceIdeal.main_arg8) = m ((c.tc : Thread Cert.HgMixReferenceIdeal.nD Cert.HgMixReferenceIdeal.τ).loc Cert.HgMixReferenceIdeal.main_arg8)
      ∧ r.2.mem ((c.tc : Thread Cert.HgMixReferenceIdeal.nD Cert.HgMixReferenceIdeal.τ).loc Cert.HgMixReferenceIdeal.main_arg9) = m ((c.tc : Thread Cert.HgMixReferenceIdeal.nD Cert.HgMixReferenceIdeal.τ).loc Cert.HgMixReferenceIdeal.main_arg9)
      ∧ r.2.mem ((c.tc : Thread Cert.HgMixReferenceIdeal.nD Cert.HgMixReferenceIdeal.τ).loc Cert.HgMixReferenceIdeal.main_arg10) = m ((c.tc : Thread Cert.HgMixReferenceIdeal.nD Cert.HgMixReferenceIdeal.τ).loc Cert.HgMixReferenceIdeal.main_arg10)
      ∧ r.2.mem ((c.tc : Thread Cert.HgMixReferenceIdeal.nD Cert.HgMixReferenceIdeal.τ).loc Cert.HgMixReferenceIdeal.main_arg11) = m ((c.tc : Thread Cert.HgMixReferenceIdeal.nD Cert.HgMixReferenceIdeal.τ).loc Cert.HgMixReferenceIdeal.main_arg11)
      ∧ r.2.mem ((c.tc : Thread Cert.HgMixReferenceIdeal.nD Cert.HgMixReferenceIdeal.τ).loc Cert.HgMixReferenceIdeal.main_arg12) = m ((c.tc : Thread Cert.HgMixReferenceIdeal.nD Cert.HgMixReferenceIdeal.τ).loc Cert.HgMixReferenceIdeal.main_arg12))
      ∧ r.2.sem = fun _ => 0)

def quiescent_HgMixReferenceIdeal_pre_finite_hg [hHgMixReferenceIdeal : Cert.HgMixReferenceIdeal.Facts] [hPre_finite_hg : Cert.Pre_finite_hg.Facts] : Prop :=
  ∀ (m : (ℓ : Loc Cert.HgMixReferenceIdeal.nD Cert.HgMixReferenceIdeal.τ Cert.HgMixReferenceIdeal.sig) → Buf (Elt Ideal) ℓ) (g : Dev Cert.HgMixReferenceIdeal.nD → PrngReg), Pre_HgMixReferenceIdeal_finite_hg m →
    θ_run (Cert.HgMixReferenceIdeal.defs (F := Ideal)) (onTc (τ := Cert.HgMixReferenceIdeal.τ) (Cert.HgMixReferenceIdeal.main (F := Ideal))) ⟨m, fun _ => 0, g⟩ (fun r => (∀ c : Dev Cert.HgMixReferenceIdeal.nD,
      r.2.mem ((c.tc : Thread Cert.HgMixReferenceIdeal.nD Cert.HgMixReferenceIdeal.τ).loc Cert.HgMixReferenceIdeal.main_arg0) = m ((c.tc : Thread Cert.HgMixReferenceIdeal.nD Cert.HgMixReferenceIdeal.τ).loc Cert.HgMixReferenceIdeal.main_arg0)
      ∧ r.2.mem ((c.tc : Thread Cert.HgMixReferenceIdeal.nD Cert.HgMixReferenceIdeal.τ).loc Cert.HgMixReferenceIdeal.main_arg1) = m ((c.tc : Thread Cert.HgMixReferenceIdeal.nD Cert.HgMixReferenceIdeal.τ).loc Cert.HgMixReferenceIdeal.main_arg1)
      ∧ r.2.mem ((c.tc : Thread Cert.HgMixReferenceIdeal.nD Cert.HgMixReferenceIdeal.τ).loc Cert.HgMixReferenceIdeal.main_arg2) = m ((c.tc : Thread Cert.HgMixReferenceIdeal.nD Cert.HgMixReferenceIdeal.τ).loc Cert.HgMixReferenceIdeal.main_arg2)
      ∧ r.2.mem ((c.tc : Thread Cert.HgMixReferenceIdeal.nD Cert.HgMixReferenceIdeal.τ).loc Cert.HgMixReferenceIdeal.main_arg3) = m ((c.tc : Thread Cert.HgMixReferenceIdeal.nD Cert.HgMixReferenceIdeal.τ).loc Cert.HgMixReferenceIdeal.main_arg3)
      ∧ r.2.mem ((c.tc : Thread Cert.HgMixReferenceIdeal.nD Cert.HgMixReferenceIdeal.τ).loc Cert.HgMixReferenceIdeal.main_arg4) = m ((c.tc : Thread Cert.HgMixReferenceIdeal.nD Cert.HgMixReferenceIdeal.τ).loc Cert.HgMixReferenceIdeal.main_arg4)
      ∧ r.2.mem ((c.tc : Thread Cert.HgMixReferenceIdeal.nD Cert.HgMixReferenceIdeal.τ).loc Cert.HgMixReferenceIdeal.main_arg5) = m ((c.tc : Thread Cert.HgMixReferenceIdeal.nD Cert.HgMixReferenceIdeal.τ).loc Cert.HgMixReferenceIdeal.main_arg5)
      ∧ r.2.mem ((c.tc : Thread Cert.HgMixReferenceIdeal.nD Cert.HgMixReferenceIdeal.τ).loc Cert.HgMixReferenceIdeal.main_arg6) = m ((c.tc : Thread Cert.HgMixReferenceIdeal.nD Cert.HgMixReferenceIdeal.τ).loc Cert.HgMixReferenceIdeal.main_arg6)
      ∧ r.2.mem ((c.tc : Thread Cert.HgMixReferenceIdeal.nD Cert.HgMixReferenceIdeal.τ).loc Cert.HgMixReferenceIdeal.main_arg7) = m ((c.tc : Thread Cert.HgMixReferenceIdeal.nD Cert.HgMixReferenceIdeal.τ).loc Cert.HgMixReferenceIdeal.main_arg7)
      ∧ r.2.mem ((c.tc : Thread Cert.HgMixReferenceIdeal.nD Cert.HgMixReferenceIdeal.τ).loc Cert.HgMixReferenceIdeal.main_arg8) = m ((c.tc : Thread Cert.HgMixReferenceIdeal.nD Cert.HgMixReferenceIdeal.τ).loc Cert.HgMixReferenceIdeal.main_arg8)
      ∧ r.2.mem ((c.tc : Thread Cert.HgMixReferenceIdeal.nD Cert.HgMixReferenceIdeal.τ).loc Cert.HgMixReferenceIdeal.main_arg9) = m ((c.tc : Thread Cert.HgMixReferenceIdeal.nD Cert.HgMixReferenceIdeal.τ).loc Cert.HgMixReferenceIdeal.main_arg9)
      ∧ r.2.mem ((c.tc : Thread Cert.HgMixReferenceIdeal.nD Cert.HgMixReferenceIdeal.τ).loc Cert.HgMixReferenceIdeal.main_arg10) = m ((c.tc : Thread Cert.HgMixReferenceIdeal.nD Cert.HgMixReferenceIdeal.τ).loc Cert.HgMixReferenceIdeal.main_arg10)
      ∧ r.2.mem ((c.tc : Thread Cert.HgMixReferenceIdeal.nD Cert.HgMixReferenceIdeal.τ).loc Cert.HgMixReferenceIdeal.main_arg11) = m ((c.tc : Thread Cert.HgMixReferenceIdeal.nD Cert.HgMixReferenceIdeal.τ).loc Cert.HgMixReferenceIdeal.main_arg11)
      ∧ r.2.mem ((c.tc : Thread Cert.HgMixReferenceIdeal.nD Cert.HgMixReferenceIdeal.τ).loc Cert.HgMixReferenceIdeal.main_arg12) = m ((c.tc : Thread Cert.HgMixReferenceIdeal.nD Cert.HgMixReferenceIdeal.τ).loc Cert.HgMixReferenceIdeal.main_arg12))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6)
      ∧ r.2.mem ((c.tc : Thread Cert.QkvReferenceIdeal.nD Cert.QkvReferenceIdeal.τ).loc Cert.QkvReferenceIdeal.main_arg7) = m ((c.tc : Thread Cert.QkvReferenceIdeal.nD Cert.QkvReferenceIdeal.τ).loc Cert.QkvReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjIdeal_pre_finite_proj [hProjIdeal : Cert.ProjIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_proj m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5))
      ∧ r.2.sem = fun _ => 0)

def quiescent_ProjReferenceIdeal_pre_finite_proj [hProjReferenceIdeal : Cert.ProjReferenceIdeal.Facts] [hPre_finite_proj : Cert.Pre_finite_proj.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_finite_proj m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5))
      ∧ r.2.sem = fun _ => 0)

def preserves_Kernel_KernelIdeal : Prop :=
  True

def preserves_Ctx_CtxIdeal : Prop :=
  True

def preserves_NaMix_NaMixIdeal : Prop :=
  True

def algebraic_NaMixIdeal_NaMixReferenceIdeal_pre_finite_na [hNaMixIdeal : Cert.NaMixIdeal.Facts] [hNaMixReferenceIdeal : Cert.NaMixReferenceIdeal.Facts] [hPre_finite_na : Cert.Pre_finite_na.Facts] : Prop :=
  ∀ (m : (ℓ : Loc Cert.NaMixIdeal.nD Cert.NaMixIdeal.τ Cert.NaMixIdeal.sig) → Buf (Elt Ideal) ℓ) (g : Dev Cert.NaMixIdeal.nD → PrngReg)
    (m' : (ℓ : Loc Cert.NaMixReferenceIdeal.nD Cert.NaMixReferenceIdeal.τ Cert.NaMixReferenceIdeal.sig) → Buf (Elt Ideal) ℓ) (g' : Dev Cert.NaMixReferenceIdeal.nD → PrngReg), Pre_NaMixIdeal_finite_na m →
    (∀ c : Dev Cert.NaMixIdeal.nD,
      m' ((c.tc : Thread Cert.NaMixReferenceIdeal.nD Cert.NaMixReferenceIdeal.τ).loc Cert.NaMixReferenceIdeal.main_arg0) = m ((c.tc : Thread Cert.NaMixIdeal.nD Cert.NaMixIdeal.τ).loc Cert.NaMixIdeal.main_arg0)
      ∧ m' ((c.tc : Thread Cert.NaMixReferenceIdeal.nD Cert.NaMixReferenceIdeal.τ).loc Cert.NaMixReferenceIdeal.main_arg1) = m ((c.tc : Thread Cert.NaMixIdeal.nD Cert.NaMixIdeal.τ).loc Cert.NaMixIdeal.main_arg1)
      ∧ m' ((c.tc : Thread Cert.NaMixReferenceIdeal.nD Cert.NaMixReferenceIdeal.τ).loc Cert.NaMixReferenceIdeal.main_arg2) = m ((c.tc : Thread Cert.NaMixIdeal.nD Cert.NaMixIdeal.τ).loc Cert.NaMixIdeal.main_arg2)
      ∧ m' ((c.tc : Thread Cert.NaMixReferenceIdeal.nD Cert.NaMixReferenceIdeal.τ).loc Cert.NaMixReferenceIdeal.main_arg3) = m ((c.tc : Thread Cert.NaMixIdeal.nD Cert.NaMixIdeal.τ).loc Cert.NaMixIdeal.main_arg3)
      ∧ m' ((c.tc : Thread Cert.NaMixReferenceIdeal.nD Cert.NaMixReferenceIdeal.τ).loc Cert.NaMixReferenceIdeal.main_arg4) = m ((c.tc : Thread Cert.NaMixIdeal.nD Cert.NaMixIdeal.τ).loc Cert.NaMixIdeal.main_arg4)
      ∧ m' ((c.tc : Thread Cert.NaMixReferenceIdeal.nD Cert.NaMixReferenceIdeal.τ).loc Cert.NaMixReferenceIdeal.main_arg5) = m ((c.tc : Thread Cert.NaMixIdeal.nD Cert.NaMixIdeal.τ).loc Cert.NaMixIdeal.main_arg5)
      ∧ m' ((c.tc : Thread Cert.NaMixReferenceIdeal.nD Cert.NaMixReferenceIdeal.τ).loc Cert.NaMixReferenceIdeal.main_arg6) = m ((c.tc : Thread Cert.NaMixIdeal.nD Cert.NaMixIdeal.τ).loc Cert.NaMixIdeal.main_arg6)
      ∧ m' ((c.tc : Thread Cert.NaMixReferenceIdeal.nD Cert.NaMixReferenceIdeal.τ).loc Cert.NaMixReferenceIdeal.main_arg7) = m ((c.tc : Thread Cert.NaMixIdeal.nD Cert.NaMixIdeal.τ).loc Cert.NaMixIdeal.main_arg7)
      ∧ m' ((c.tc : Thread Cert.NaMixReferenceIdeal.nD Cert.NaMixReferenceIdeal.τ).loc Cert.NaMixReferenceIdeal.main_arg8) = m ((c.tc : Thread Cert.NaMixIdeal.nD Cert.NaMixIdeal.τ).loc Cert.NaMixIdeal.main_arg8)
      ∧ m' ((c.tc : Thread Cert.NaMixReferenceIdeal.nD Cert.NaMixReferenceIdeal.τ).loc Cert.NaMixReferenceIdeal.main_arg9) = m ((c.tc : Thread Cert.NaMixIdeal.nD Cert.NaMixIdeal.τ).loc Cert.NaMixIdeal.main_arg9)) →
    ∃ (v0 : (c : Dev Cert.NaMixIdeal.nD) → Buf (Elt Ideal) ((c.tc : Thread Cert.NaMixIdeal.nD Cert.NaMixIdeal.τ).loc Cert.NaMixIdeal.main_v0)),
      θ_run (Cert.NaMixIdeal.defs (F := Ideal)) (onTc (τ := Cert.NaMixIdeal.τ) (Cert.NaMixIdeal.main (F := Ideal))) ⟨m, fun _ => 0, g⟩ (fun r => ∀ c : Dev Cert.NaMixIdeal.nD,
          r.2.mem ((c.tc : Thread Cert.NaMixIdeal.nD Cert.NaMixIdeal.τ).loc Cert.NaMixIdeal.main_v0) = v0 c
          ∧ r.2.mem ((c.tc : Thread Cert.NaMixIdeal.nD Cert.NaMixIdeal.τ).loc Cert.NaMixIdeal.main_arg0) = m ((c.tc : Thread Cert.NaMixIdeal.nD Cert.NaMixIdeal.τ).loc Cert.NaMixIdeal.main_arg0)
          ∧ r.2.mem ((c.tc : Thread Cert.NaMixIdeal.nD Cert.NaMixIdeal.τ).loc Cert.NaMixIdeal.main_arg1) = m ((c.tc : Thread Cert.NaMixIdeal.nD Cert.NaMixIdeal.τ).loc Cert.NaMixIdeal.main_arg1)
          ∧ r.2.mem ((c.tc : Thread Cert.NaMixIdeal.nD Cert.NaMixIdeal.τ).loc Cert.NaMixIdeal.main_arg2) = m ((c.tc : Thread Cert.NaMixIdeal.nD Cert.NaMixIdeal.τ).loc Cert.NaMixIdeal.main_arg2)
          ∧ r.2.mem ((c.tc : Thread Cert.NaMixIdeal.nD Cert.NaMixIdeal.τ).loc Cert.NaMixIdeal.main_arg3) = m ((c.tc : Thread Cert.NaMixIdeal.nD Cert.NaMixIdeal.τ).loc Cert.NaMixIdeal.main_arg3)
          ∧ r.2.mem ((c.tc : Thread Cert.NaMixIdeal.nD Cert.NaMixIdeal.τ).loc Cert.NaMixIdeal.main_arg4) = m ((c.tc : Thread Cert.NaMixIdeal.nD Cert.NaMixIdeal.τ).loc Cert.NaMixIdeal.main_arg4)
          ∧ r.2.mem ((c.tc : Thread Cert.NaMixIdeal.nD Cert.NaMixIdeal.τ).loc Cert.NaMixIdeal.main_arg5) = m ((c.tc : Thread Cert.NaMixIdeal.nD Cert.NaMixIdeal.τ).loc Cert.NaMixIdeal.main_arg5)
          ∧ r.2.mem ((c.tc : Thread Cert.NaMixIdeal.nD Cert.NaMixIdeal.τ).loc Cert.NaMixIdeal.main_arg6) = m ((c.tc : Thread Cert.NaMixIdeal.nD Cert.NaMixIdeal.τ).loc Cert.NaMixIdeal.main_arg6)
          ∧ r.2.mem ((c.tc : Thread Cert.NaMixIdeal.nD Cert.NaMixIdeal.τ).loc Cert.NaMixIdeal.main_arg7) = m ((c.tc : Thread Cert.NaMixIdeal.nD Cert.NaMixIdeal.τ).loc Cert.NaMixIdeal.main_arg7)
          ∧ r.2.mem ((c.tc : Thread Cert.NaMixIdeal.nD Cert.NaMixIdeal.τ).loc Cert.NaMixIdeal.main_arg8) = m ((c.tc : Thread Cert.NaMixIdeal.nD Cert.NaMixIdeal.τ).loc Cert.NaMixIdeal.main_arg8)
          ∧ r.2.mem ((c.tc : Thread Cert.NaMixIdeal.nD Cert.NaMixIdeal.τ).loc Cert.NaMixIdeal.main_arg9) = m ((c.tc : Thread Cert.NaMixIdeal.nD Cert.NaMixIdeal.τ).loc Cert.NaMixIdeal.main_arg9))
      ∧ θ_run (Cert.NaMixReferenceIdeal.defs (F := Ideal)) (onTc (τ := Cert.NaMixReferenceIdeal.τ) (Cert.NaMixReferenceIdeal.main (F := Ideal))) ⟨m', fun _ => 0, g'⟩ (fun r => ∀ c : Dev Cert.NaMixReferenceIdeal.nD,
          r.2.mem ((c.tc : Thread Cert.NaMixReferenceIdeal.nD Cert.NaMixReferenceIdeal.τ).loc Cert.NaMixReferenceIdeal.main_v37) = v0 c
          ∧ r.2.mem ((c.tc : Thread Cert.NaMixReferenceIdeal.nD Cert.NaMixReferenceIdeal.τ).loc Cert.NaMixReferenceIdeal.main_arg0) = m' ((c.tc : Thread Cert.NaMixReferenceIdeal.nD Cert.NaMixReferenceIdeal.τ).loc Cert.NaMixReferenceIdeal.main_arg0)
          ∧ r.2.mem ((c.tc : Thread Cert.NaMixReferenceIdeal.nD Cert.NaMixReferenceIdeal.τ).loc Cert.NaMixReferenceIdeal.main_arg1) = m' ((c.tc : Thread Cert.NaMixReferenceIdeal.nD Cert.NaMixReferenceIdeal.τ).loc Cert.NaMixReferenceIdeal.main_arg1)
          ∧ r.2.mem ((c.tc : Thread Cert.NaMixReferenceIdeal.nD Cert.NaMixReferenceIdeal.τ).loc Cert.NaMixReferenceIdeal.main_arg2) = m' ((c.tc : Thread Cert.NaMixReferenceIdeal.nD Cert.NaMixReferenceIdeal.τ).loc Cert.NaMixReferenceIdeal.main_arg2)
          ∧ r.2.mem ((c.tc : Thread Cert.NaMixReferenceIdeal.nD Cert.NaMixReferenceIdeal.τ).loc Cert.NaMixReferenceIdeal.main_arg3) = m' ((c.tc : Thread Cert.NaMixReferenceIdeal.nD Cert.NaMixReferenceIdeal.τ).loc Cert.NaMixReferenceIdeal.main_arg3)
          ∧ r.2.mem ((c.tc : Thread Cert.NaMixReferenceIdeal.nD Cert.NaMixReferenceIdeal.τ).loc Cert.NaMixReferenceIdeal.main_arg4) = m' ((c.tc : Thread Cert.NaMixReferenceIdeal.nD Cert.NaMixReferenceIdeal.τ).loc Cert.NaMixReferenceIdeal.main_arg4)
          ∧ r.2.mem ((c.tc : Thread Cert.NaMixReferenceIdeal.nD Cert.NaMixReferenceIdeal.τ).loc Cert.NaMixReferenceIdeal.main_arg5) = m' ((c.tc : Thread Cert.NaMixReferenceIdeal.nD Cert.NaMixReferenceIdeal.τ).loc Cert.NaMixReferenceIdeal.main_arg5)
          ∧ r.2.mem ((c.tc : Thread Cert.NaMixReferenceIdeal.nD Cert.NaMixReferenceIdeal.τ).loc Cert.NaMixReferenceIdeal.main_arg6) = m' ((c.tc : Thread Cert.NaMixReferenceIdeal.nD Cert.NaMixReferenceIdeal.τ).loc Cert.NaMixReferenceIdeal.main_arg6)
          ∧ r.2.mem ((c.tc : Thread Cert.NaMixReferenceIdeal.nD Cert.NaMixReferenceIdeal.τ).loc Cert.NaMixReferenceIdeal.main_arg7) = m' ((c.tc : Thread Cert.NaMixReferenceIdeal.nD Cert.NaMixReferenceIdeal.τ).loc Cert.NaMixReferenceIdeal.main_arg7)
          ∧ r.2.mem ((c.tc : Thread Cert.NaMixReferenceIdeal.nD Cert.NaMixReferenceIdeal.τ).loc Cert.NaMixReferenceIdeal.main_arg8) = m' ((c.tc : Thread Cert.NaMixReferenceIdeal.nD Cert.NaMixReferenceIdeal.τ).loc Cert.NaMixReferenceIdeal.main_arg8)
          ∧ r.2.mem ((c.tc : Thread Cert.NaMixReferenceIdeal.nD Cert.NaMixReferenceIdeal.τ).loc Cert.NaMixReferenceIdeal.main_arg9) = m' ((c.tc : Thread Cert.NaMixReferenceIdeal.nD Cert.NaMixReferenceIdeal.τ).loc Cert.NaMixReferenceIdeal.main_arg9))

def preserves_HgMix_HgMixIdeal : Prop :=
  True

def algebraic_HgMixIdeal_HgMixReferenceIdeal_pre_finite_hg [hHgMixIdeal : Cert.HgMixIdeal.Facts] [hHgMixReferenceIdeal : Cert.HgMixReferenceIdeal.Facts] [hPre_finite_hg : Cert.Pre_finite_hg.Facts] : Prop :=
  ∀ (m : (ℓ : Loc Cert.HgMixIdeal.nD Cert.HgMixIdeal.τ Cert.HgMixIdeal.sig) → Buf (Elt Ideal) ℓ) (g : Dev Cert.HgMixIdeal.nD → PrngReg)
    (m' : (ℓ : Loc Cert.HgMixReferenceIdeal.nD Cert.HgMixReferenceIdeal.τ Cert.HgMixReferenceIdeal.sig) → Buf (Elt Ideal) ℓ) (g' : Dev Cert.HgMixReferenceIdeal.nD → PrngReg), Pre_HgMixIdeal_finite_hg m →
    (∀ c : Dev Cert.HgMixIdeal.nD,
      m' ((c.tc : Thread Cert.HgMixReferenceIdeal.nD Cert.HgMixReferenceIdeal.τ).loc Cert.HgMixReferenceIdeal.main_arg0) = m ((c.tc : Thread Cert.HgMixIdeal.nD Cert.HgMixIdeal.τ).loc Cert.HgMixIdeal.main_arg0)
      ∧ m' ((c.tc : Thread Cert.HgMixReferenceIdeal.nD Cert.HgMixReferenceIdeal.τ).loc Cert.HgMixReferenceIdeal.main_arg1) = m ((c.tc : Thread Cert.HgMixIdeal.nD Cert.HgMixIdeal.τ).loc Cert.HgMixIdeal.main_arg1)
      ∧ m' ((c.tc : Thread Cert.HgMixReferenceIdeal.nD Cert.HgMixReferenceIdeal.τ).loc Cert.HgMixReferenceIdeal.main_arg2) = m ((c.tc : Thread Cert.HgMixIdeal.nD Cert.HgMixIdeal.τ).loc Cert.HgMixIdeal.main_arg2)
      ∧ m' ((c.tc : Thread Cert.HgMixReferenceIdeal.nD Cert.HgMixReferenceIdeal.τ).loc Cert.HgMixReferenceIdeal.main_arg3) = m ((c.tc : Thread Cert.HgMixIdeal.nD Cert.HgMixIdeal.τ).loc Cert.HgMixIdeal.main_arg3)
      ∧ m' ((c.tc : Thread Cert.HgMixReferenceIdeal.nD Cert.HgMixReferenceIdeal.τ).loc Cert.HgMixReferenceIdeal.main_arg4) = m ((c.tc : Thread Cert.HgMixIdeal.nD Cert.HgMixIdeal.τ).loc Cert.HgMixIdeal.main_arg4)
      ∧ m' ((c.tc : Thread Cert.HgMixReferenceIdeal.nD Cert.HgMixReferenceIdeal.τ).loc Cert.HgMixReferenceIdeal.main_arg5) = m ((c.tc : Thread Cert.HgMixIdeal.nD Cert.HgMixIdeal.τ).loc Cert.HgMixIdeal.main_arg5)
      ∧ m' ((c.tc : Thread Cert.HgMixReferenceIdeal.nD Cert.HgMixReferenceIdeal.τ).loc Cert.HgMixReferenceIdeal.main_arg6) = m ((c.tc : Thread Cert.HgMixIdeal.nD Cert.HgMixIdeal.τ).loc Cert.HgMixIdeal.main_arg6)
      ∧ m' ((c.tc : Thread Cert.HgMixReferenceIdeal.nD Cert.HgMixReferenceIdeal.τ).loc Cert.HgMixReferenceIdeal.main_arg7) = m ((c.tc : Thread Cert.HgMixIdeal.nD Cert.HgMixIdeal.τ).loc Cert.HgMixIdeal.main_arg7)
      ∧ m' ((c.tc : Thread Cert.HgMixReferenceIdeal.nD Cert.HgMixReferenceIdeal.τ).loc Cert.HgMixReferenceIdeal.main_arg8) = m ((c.tc : Thread Cert.HgMixIdeal.nD Cert.HgMixIdeal.τ).loc Cert.HgMixIdeal.main_arg8)
      ∧ m' ((c.tc : Thread Cert.HgMixReferenceIdeal.nD Cert.HgMixReferenceIdeal.τ).loc Cert.HgMixReferenceIdeal.main_arg9) = m ((c.tc : Thread Cert.HgMixIdeal.nD Cert.HgMixIdeal.τ).loc Cert.HgMixIdeal.main_arg9)
      ∧ m' ((c.tc : Thread Cert.HgMixReferenceIdeal.nD Cert.HgMixReferenceIdeal.τ).loc Cert.HgMixReferenceIdeal.main_arg10) = m ((c.tc : Thread Cert.HgMixIdeal.nD Cert.HgMixIdeal.τ).loc Cert.HgMixIdeal.main_arg10)
      ∧ m' ((c.tc : Thread Cert.HgMixReferenceIdeal.nD Cert.HgMixReferenceIdeal.τ).loc Cert.HgMixReferenceIdeal.main_arg11) = m ((c.tc : Thread Cert.HgMixIdeal.nD Cert.HgMixIdeal.τ).loc Cert.HgMixIdeal.main_arg11)
      ∧ m' ((c.tc : Thread Cert.HgMixReferenceIdeal.nD Cert.HgMixReferenceIdeal.τ).loc Cert.HgMixReferenceIdeal.main_arg12) = m ((c.tc : Thread Cert.HgMixIdeal.nD Cert.HgMixIdeal.τ).loc Cert.HgMixIdeal.main_arg12)) →
    ∃ (v0 : (c : Dev Cert.HgMixIdeal.nD) → Buf (Elt Ideal) ((c.tc : Thread Cert.HgMixIdeal.nD Cert.HgMixIdeal.τ).loc Cert.HgMixIdeal.main_v0)),
      θ_run (Cert.HgMixIdeal.defs (F := Ideal)) (onTc (τ := Cert.HgMixIdeal.τ) (Cert.HgMixIdeal.main (F := Ideal))) ⟨m, fun _ => 0, g⟩ (fun r => ∀ c : Dev Cert.HgMixIdeal.nD,
          r.2.mem ((c.tc : Thread Cert.HgMixIdeal.nD Cert.HgMixIdeal.τ).loc Cert.HgMixIdeal.main_v0) = v0 c
          ∧ r.2.mem ((c.tc : Thread Cert.HgMixIdeal.nD Cert.HgMixIdeal.τ).loc Cert.HgMixIdeal.main_arg0) = m ((c.tc : Thread Cert.HgMixIdeal.nD Cert.HgMixIdeal.τ).loc Cert.HgMixIdeal.main_arg0)
          ∧ r.2.mem ((c.tc : Thread Cert.HgMixIdeal.nD Cert.HgMixIdeal.τ).loc Cert.HgMixIdeal.main_arg1) = m ((c.tc : Thread Cert.HgMixIdeal.nD Cert.HgMixIdeal.τ).loc Cert.HgMixIdeal.main_arg1)
          ∧ r.2.mem ((c.tc : Thread Cert.HgMixIdeal.nD Cert.HgMixIdeal.τ).loc Cert.HgMixIdeal.main_arg2) = m ((c.tc : Thread Cert.HgMixIdeal.nD Cert.HgMixIdeal.τ).loc Cert.HgMixIdeal.main_arg2)
          ∧ r.2.mem ((c.tc : Thread Cert.HgMixIdeal.nD Cert.HgMixIdeal.τ).loc Cert.HgMixIdeal.main_arg3) = m ((c.tc : Thread Cert.HgMixIdeal.nD Cert.HgMixIdeal.τ).loc Cert.HgMixIdeal.main_arg3)
          ∧ r.2.mem ((c.tc : Thread Cert.HgMixIdeal.nD Cert.HgMixIdeal.τ).loc Cert.HgMixIdeal.main_arg4) = m ((c.tc : Thread Cert.HgMixIdeal.nD Cert.HgMixIdeal.τ).loc Cert.HgMixIdeal.main_arg4)
          ∧ r.2.mem ((c.tc : Thread Cert.HgMixIdeal.nD Cert.HgMixIdeal.τ).loc Cert.HgMixIdeal.main_arg5) = m ((c.tc : Thread Cert.HgMixIdeal.nD Cert.HgMixIdeal.τ).loc Cert.HgMixIdeal.main_arg5)
          ∧ r.2.mem ((c.tc : Thread Cert.HgMixIdeal.nD Cert.HgMixIdeal.τ).loc Cert.HgMixIdeal.main_arg6) = m ((c.tc : Thread Cert.HgMixIdeal.nD Cert.HgMixIdeal.τ).loc Cert.HgMixIdeal.main_arg6)
          ∧ r.2.mem ((c.tc : Thread Cert.HgMixIdeal.nD Cert.HgMixIdeal.τ).loc Cert.HgMixIdeal.main_arg7) = m ((c.tc : Thread Cert.HgMixIdeal.nD Cert.HgMixIdeal.τ).loc Cert.HgMixIdeal.main_arg7)
          ∧ r.2.mem ((c.tc : Thread Cert.HgMixIdeal.nD Cert.HgMixIdeal.τ).loc Cert.HgMixIdeal.main_arg8) = m ((c.tc : Thread Cert.HgMixIdeal.nD Cert.HgMixIdeal.τ).loc Cert.HgMixIdeal.main_arg8)
          ∧ r.2.mem ((c.tc : Thread Cert.HgMixIdeal.nD Cert.HgMixIdeal.τ).loc Cert.HgMixIdeal.main_arg9) = m ((c.tc : Thread Cert.HgMixIdeal.nD Cert.HgMixIdeal.τ).loc Cert.HgMixIdeal.main_arg9)
          ∧ r.2.mem ((c.tc : Thread Cert.HgMixIdeal.nD Cert.HgMixIdeal.τ).loc Cert.HgMixIdeal.main_arg10) = m ((c.tc : Thread Cert.HgMixIdeal.nD Cert.HgMixIdeal.τ).loc Cert.HgMixIdeal.main_arg10)
          ∧ r.2.mem ((c.tc : Thread Cert.HgMixIdeal.nD Cert.HgMixIdeal.τ).loc Cert.HgMixIdeal.main_arg11) = m ((c.tc : Thread Cert.HgMixIdeal.nD Cert.HgMixIdeal.τ).loc Cert.HgMixIdeal.main_arg11)
          ∧ r.2.mem ((c.tc : Thread Cert.HgMixIdeal.nD Cert.HgMixIdeal.τ).loc Cert.HgMixIdeal.main_arg12) = m ((c.tc : Thread Cert.HgMixIdeal.nD Cert.HgMixIdeal.τ).loc Cert.HgMixIdeal.main_arg12))
      ∧ θ_run (Cert.HgMixReferenceIdeal.defs (F := Ideal)) (onTc (τ := Cert.HgMixReferenceIdeal.τ) (Cert.HgMixReferenceIdeal.main (F := Ideal))) ⟨m', fun _ => 0, g'⟩ (fun r => ∀ c : Dev Cert.HgMixReferenceIdeal.nD,
          r.2.mem ((c.tc : Thread Cert.HgMixReferenceIdeal.nD Cert.HgMixReferenceIdeal.τ).loc Cert.HgMixReferenceIdeal.main_v55) = v0 c
          ∧ r.2.mem ((c.tc : Thread Cert.HgMixReferenceIdeal.nD Cert.HgMixReferenceIdeal.τ).loc Cert.HgMixReferenceIdeal.main_arg0) = m' ((c.tc : Thread Cert.HgMixReferenceIdeal.nD Cert.HgMixReferenceIdeal.τ).loc Cert.HgMixReferenceIdeal.main_arg0)
          ∧ r.2.mem ((c.tc : Thread Cert.HgMixReferenceIdeal.nD Cert.HgMixReferenceIdeal.τ).loc Cert.HgMixReferenceIdeal.main_arg1) = m' ((c.tc : Thread Cert.HgMixReferenceIdeal.nD Cert.HgMixReferenceIdeal.τ).loc Cert.HgMixReferenceIdeal.main_arg1)
          ∧ r.2.mem ((c.tc : Thread Cert.HgMixReferenceIdeal.nD Cert.HgMixReferenceIdeal.τ).loc Cert.HgMixReferenceIdeal.main_arg2) = m' ((c.tc : Thread Cert.HgMixReferenceIdeal.nD Cert.HgMixReferenceIdeal.τ).loc Cert.HgMixReferenceIdeal.main_arg2)
          ∧ r.2.mem ((c.tc : Thread Cert.HgMixReferenceIdeal.nD Cert.HgMixReferenceIdeal.τ).loc Cert.HgMixReferenceIdeal.main_arg3) = m' ((c.tc : Thread Cert.HgMixReferenceIdeal.nD Cert.HgMixReferenceIdeal.τ).loc Cert.HgMixReferenceIdeal.main_arg3)
          ∧ r.2.mem ((c.tc : Thread Cert.HgMixReferenceIdeal.nD Cert.HgMixReferenceIdeal.τ).loc Cert.HgMixReferenceIdeal.main_arg4) = m' ((c.tc : Thread Cert.HgMixReferenceIdeal.nD Cert.HgMixReferenceIdeal.τ).loc Cert.HgMixReferenceIdeal.main_arg4)
          ∧ r.2.mem ((c.tc : Thread Cert.HgMixReferenceIdeal.nD Cert.HgMixReferenceIdeal.τ).loc Cert.HgMixReferenceIdeal.main_arg5) = m' ((c.tc : Thread Cert.HgMixReferenceIdeal.nD Cert.HgMixReferenceIdeal.τ).loc Cert.HgMixReferenceIdeal.main_arg5)
          ∧ r.2.mem ((c.tc : Thread Cert.HgMixReferenceIdeal.nD Cert.HgMixReferenceIdeal.τ).loc Cert.HgMixReferenceIdeal.main_arg6) = m' ((c.tc : Thread Cert.HgMixReferenceIdeal.nD Cert.HgMixReferenceIdeal.τ).loc Cert.HgMixReferenceIdeal.main_arg6)
          ∧ r.2.mem ((c.tc : Thread Cert.HgMixReferenceIdeal.nD Cert.HgMixReferenceIdeal.τ).loc Cert.HgMixReferenceIdeal.main_arg7) = m' ((c.tc : Thread Cert.HgMixReferenceIdeal.nD Cert.HgMixReferenceIdeal.τ).loc Cert.HgMixReferenceIdeal.main_arg7)
          ∧ r.2.mem ((c.tc : Thread Cert.HgMixReferenceIdeal.nD Cert.HgMixReferenceIdeal.τ).loc Cert.HgMixReferenceIdeal.main_arg8) = m' ((c.tc : Thread Cert.HgMixReferenceIdeal.nD Cert.HgMixReferenceIdeal.τ).loc Cert.HgMixReferenceIdeal.main_arg8)
          ∧ r.2.mem ((c.tc : Thread Cert.HgMixReferenceIdeal.nD Cert.HgMixReferenceIdeal.τ).loc Cert.HgMixReferenceIdeal.main_arg9) = m' ((c.tc : Thread Cert.HgMixReferenceIdeal.nD Cert.HgMixReferenceIdeal.τ).loc Cert.HgMixReferenceIdeal.main_arg9)
          ∧ r.2.mem ((c.tc : Thread Cert.HgMixReferenceIdeal.nD Cert.HgMixReferenceIdeal.τ).loc Cert.HgMixReferenceIdeal.main_arg10) = m' ((c.tc : Thread Cert.HgMixReferenceIdeal.nD Cert.HgMixReferenceIdeal.τ).loc Cert.HgMixReferenceIdeal.main_arg10)
          ∧ r.2.mem ((c.tc : Thread Cert.HgMixReferenceIdeal.nD Cert.HgMixReferenceIdeal.τ).loc Cert.HgMixReferenceIdeal.main_arg11) = m' ((c.tc : Thread Cert.HgMixReferenceIdeal.nD Cert.HgMixReferenceIdeal.τ).loc Cert.HgMixReferenceIdeal.main_arg11)
          ∧ r.2.mem ((c.tc : Thread Cert.HgMixReferenceIdeal.nD Cert.HgMixReferenceIdeal.τ).loc Cert.HgMixReferenceIdeal.main_arg12) = m' ((c.tc : Thread Cert.HgMixReferenceIdeal.nD Cert.HgMixReferenceIdeal.τ).loc Cert.HgMixReferenceIdeal.main_arg12))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)
      ∧ m' ((c.tc : Thread Cert.QkvReferenceIdeal.nD Cert.QkvReferenceIdeal.τ).loc Cert.QkvReferenceIdeal.main_arg6) = m ((c.tc : Thread Cert.QkvIdeal.nD Cert.QkvIdeal.τ).loc Cert.QkvIdeal.main_arg6)
      ∧ m' ((c.tc : Thread Cert.QkvReferenceIdeal.nD Cert.QkvReferenceIdeal.τ).loc Cert.QkvReferenceIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v10_0)) (v1 : (c : Dev Cert.QkvIdeal.nD) → Buf (Elt Ideal) ((c.tc : Thread Cert.QkvIdeal.nD Cert.QkvIdeal.τ).loc Cert.QkvIdeal.main_v10_1)) (v2 : (c : Dev Cert.QkvIdeal.nD) → Buf (Elt Ideal) ((c.tc : Thread Cert.QkvIdeal.nD Cert.QkvIdeal.τ).loc Cert.QkvIdeal.main_v10_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v10_0) = v0 c
          ∧ r.2.mem ((c.tc : Thread Cert.QkvIdeal.nD Cert.QkvIdeal.τ).loc Cert.QkvIdeal.main_v10_1) = v1 c
          ∧ r.2.mem ((c.tc : Thread Cert.QkvIdeal.nD Cert.QkvIdeal.τ).loc Cert.QkvIdeal.main_v10_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v43) = v0 c
          ∧ r.2.mem ((c.tc : Thread Cert.QkvReferenceIdeal.nD Cert.QkvReferenceIdeal.τ).loc Cert.QkvReferenceIdeal.main_v61) = v1 c
          ∧ r.2.mem ((c.tc : Thread Cert.QkvReferenceIdeal.nD Cert.QkvReferenceIdeal.τ).loc Cert.QkvReferenceIdeal.main_v64) = v2 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5)
          ∧ r.2.mem ((c.tc : Thread Cert.QkvReferenceIdeal.nD Cert.QkvReferenceIdeal.τ).loc Cert.QkvReferenceIdeal.main_arg6) = m' ((c.tc : Thread Cert.QkvReferenceIdeal.nD Cert.QkvReferenceIdeal.τ).loc Cert.QkvReferenceIdeal.main_arg6)
          ∧ r.2.mem ((c.tc : Thread Cert.QkvReferenceIdeal.nD Cert.QkvReferenceIdeal.τ).loc Cert.QkvReferenceIdeal.main_arg7) = m' ((c.tc : Thread Cert.QkvReferenceIdeal.nD Cert.QkvReferenceIdeal.τ).loc Cert.QkvReferenceIdeal.main_arg7))

def preserves_Proj_ProjIdeal : Prop :=
  IdealRules.named_const.Statement Cert.ProjIdeal.κ "log2e" .f32 0x3FB8AA3B#32 (((Real.log 2)⁻¹ : ℝ) : EReal)

def algebraic_ProjIdeal_ProjReferenceIdeal_pre_finite_proj [hProjIdeal : Cert.ProjIdeal.Facts] [hProjReferenceIdeal : Cert.ProjReferenceIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_finite_proj m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v9_0)) (v1 : (c : Dev Cert.ProjIdeal.nD) → Buf (Elt Ideal) ((c.tc : Thread Cert.ProjIdeal.nD Cert.ProjIdeal.τ).loc Cert.ProjIdeal.main_v9_1)) (v2 : (c : Dev Cert.ProjIdeal.nD) → Buf (Elt Ideal) ((c.tc : Thread Cert.ProjIdeal.nD Cert.ProjIdeal.τ).loc Cert.ProjIdeal.main_v9_2)) (v3 : (c : Dev Cert.ProjIdeal.nD) → Buf (Elt Ideal) ((c.tc : Thread Cert.ProjIdeal.nD Cert.ProjIdeal.τ).loc Cert.ProjIdeal.main_v9_3)) (v4 : (c : Dev Cert.ProjIdeal.nD) → Buf (Elt Ideal) ((c.tc : Thread Cert.ProjIdeal.nD Cert.ProjIdeal.τ).loc Cert.ProjIdeal.main_v9_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9_0) = v0 c
          ∧ r.2.mem ((c.tc : Thread Cert.ProjIdeal.nD Cert.ProjIdeal.τ).loc Cert.ProjIdeal.main_v9_1) = v1 c
          ∧ r.2.mem ((c.tc : Thread Cert.ProjIdeal.nD Cert.ProjIdeal.τ).loc Cert.ProjIdeal.main_v9_2) = v2 c
          ∧ r.2.mem ((c.tc : Thread Cert.ProjIdeal.nD Cert.ProjIdeal.τ).loc Cert.ProjIdeal.main_v9_3) = v3 c
          ∧ r.2.mem ((c.tc : Thread Cert.ProjIdeal.nD Cert.ProjIdeal.τ).loc Cert.ProjIdeal.main_v9_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v68) = v0 c
          ∧ r.2.mem ((c.tc : Thread Cert.ProjReferenceIdeal.nD Cert.ProjReferenceIdeal.τ).loc Cert.ProjReferenceIdeal.main_v69) = v1 c
          ∧ r.2.mem ((c.tc : Thread Cert.ProjReferenceIdeal.nD Cert.ProjReferenceIdeal.τ).loc Cert.ProjReferenceIdeal.main_v71) = v2 c
          ∧ r.2.mem ((c.tc : Thread Cert.ProjReferenceIdeal.nD Cert.ProjReferenceIdeal.τ).loc Cert.ProjReferenceIdeal.main_v72) = v3 c
          ∧ r.2.mem ((c.tc : Thread Cert.ProjReferenceIdeal.nD Cert.ProjReferenceIdeal.τ).loc Cert.ProjReferenceIdeal.main_v73) = v4 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5))

def Claim : Prop :=
  ∃ (hKernel : Cert.Kernel.Facts) (hKernelIdeal : Cert.KernelIdeal.Facts) (hReferenceIdeal : Cert.ReferenceIdeal.Facts) (hCtx : Cert.Ctx.Facts) (hCtxIdeal : Cert.CtxIdeal.Facts) (hCtxReferenceIdeal : Cert.CtxReferenceIdeal.Facts) (hNaMix : Cert.NaMix.Facts) (hNaMixIdeal : Cert.NaMixIdeal.Facts) (hNaMixReferenceIdeal : Cert.NaMixReferenceIdeal.Facts) (hHgMix : Cert.HgMix.Facts) (hHgMixIdeal : Cert.HgMixIdeal.Facts) (hHgMixReferenceIdeal : Cert.HgMixReferenceIdeal.Facts) (hQkv : Cert.Qkv.Facts) (hQkvIdeal : Cert.QkvIdeal.Facts) (hQkvReferenceIdeal : Cert.QkvReferenceIdeal.Facts) (hProj : Cert.Proj.Facts) (hProjIdeal : Cert.ProjIdeal.Facts) (hProjReferenceIdeal : Cert.ProjReferenceIdeal.Facts) (hPre_finite_na : Cert.Pre_finite_na.Facts) (hPre_finite_hg : Cert.Pre_finite_hg.Facts) (hPre_finite_proj : Cert.Pre_finite_proj.Facts),
    quiescent_Kernel (hKernel := hKernel)
    ∧ quiescent_KernelIdeal (hKernelIdeal := hKernelIdeal)
    ∧ quiescent_ReferenceIdeal (hReferenceIdeal := hReferenceIdeal)
    ∧ quiescent_Ctx (hCtx := hCtx)
    ∧ quiescent_CtxIdeal (hCtxIdeal := hCtxIdeal)
    ∧ quiescent_CtxReferenceIdeal (hCtxReferenceIdeal := hCtxReferenceIdeal)
    ∧ quiescent_NaMix (hNaMix := hNaMix)
    ∧ quiescent_NaMixIdeal (hNaMixIdeal := hNaMixIdeal)
    ∧ quiescent_NaMixIdeal_pre_finite_na (hNaMixIdeal := hNaMixIdeal) (hPre_finite_na := hPre_finite_na)
    ∧ quiescent_NaMixReferenceIdeal (hNaMixReferenceIdeal := hNaMixReferenceIdeal)
    ∧ quiescent_NaMixReferenceIdeal_pre_finite_na (hNaMixReferenceIdeal := hNaMixReferenceIdeal) (hPre_finite_na := hPre_finite_na)
    ∧ quiescent_HgMix (hHgMix := hHgMix)
    ∧ quiescent_HgMixIdeal (hHgMixIdeal := hHgMixIdeal)
    ∧ quiescent_HgMixIdeal_pre_finite_hg (hHgMixIdeal := hHgMixIdeal) (hPre_finite_hg := hPre_finite_hg)
    ∧ quiescent_HgMixReferenceIdeal (hHgMixReferenceIdeal := hHgMixReferenceIdeal)
    ∧ quiescent_HgMixReferenceIdeal_pre_finite_hg (hHgMixReferenceIdeal := hHgMixReferenceIdeal) (hPre_finite_hg := hPre_finite_hg)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Proj (hProj := hProj)
    ∧ quiescent_ProjIdeal (hProjIdeal := hProjIdeal)
    ∧ quiescent_ProjIdeal_pre_finite_proj (hProjIdeal := hProjIdeal) (hPre_finite_proj := hPre_finite_proj)
    ∧ quiescent_ProjReferenceIdeal (hProjReferenceIdeal := hProjReferenceIdeal)
    ∧ quiescent_ProjReferenceIdeal_pre_finite_proj (hProjReferenceIdeal := hProjReferenceIdeal) (hPre_finite_proj := hPre_finite_proj)
    ∧ preserves_Kernel_KernelIdeal
    ∧ preserves_Ctx_CtxIdeal
    ∧ preserves_NaMix_NaMixIdeal
    ∧ algebraic_NaMixIdeal_NaMixReferenceIdeal_pre_finite_na (hNaMixIdeal := hNaMixIdeal) (hNaMixReferenceIdeal := hNaMixReferenceIdeal) (hPre_finite_na := hPre_finite_na)
    ∧ preserves_HgMix_HgMixIdeal
    ∧ algebraic_HgMixIdeal_HgMixReferenceIdeal_pre_finite_hg (hHgMixIdeal := hHgMixIdeal) (hHgMixReferenceIdeal := hHgMixReferenceIdeal) (hPre_finite_hg := hPre_finite_hg)
    ∧ preserves_Qkv_QkvIdeal
    ∧ algebraic_QkvIdeal_QkvReferenceIdeal (hQkvIdeal := hQkvIdeal) (hQkvReferenceIdeal := hQkvReferenceIdeal)
    ∧ preserves_Proj_ProjIdeal
    ∧ algebraic_ProjIdeal_ProjReferenceIdeal_pre_finite_proj (hProjIdeal := hProjIdeal) (hProjReferenceIdeal := hProjReferenceIdeal) (hPre_finite_proj := hPre_finite_proj)
-- ==== Pre_finite_hg.lean ====
abbrev S4x8192x1024 : Shape := ⟨3, ![4, 8192, 1024]⟩
abbrev S1x1024 : Shape := ⟨2, ![1, 1024]⟩
abbrev S4x1x1024 : Shape := ⟨3, ![4, 1, 1024]⟩
abbrev S1024x1024 : Shape := ⟨2, ![1024, 1024]⟩
abbrev S1024x5632 : Shape := ⟨2, ![1024, 5632]⟩
abbrev S2816x1024 : Shape := ⟨2, ![2816, 1024]⟩
abbrev S_ : Shape := ⟨0, ![]⟩

class Facts : Prop where
  bitsLt_bf16_f32 : FTy.bits .bf16 < FTy.bits .f32
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S4x1x1024 : S_.BroadcastsInDim S4x1x1024 (![] : Fin 0 → Fin S4x1x1024.rank)
  reducesTo_S4x1x1024_S_d0_1_2 : S4x1x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024x5632 : S_.BroadcastsInDim S1024x5632 (![] : Fin 0 → Fin S1024x5632.rank)
  reducesTo_S1024x5632_S_d0_1 : S1024x5632.ReducesTo [0, 1] S_

variable [Facts]

def fn_part3 {F : FTy → Type} [FloatOps F] (main_arg11 : FVec F S1024x5632 .bf16) (main_v46 : IVec S_ 1) (main_v51 : IVec S_ 1) : IVec S_ 1 :=
  let main_v52 : IVec S_ 1 := andi main_v46 main_v51
  let main_v53 : FVec F S1024x5632 .f32 := (extf .f32 · bitsLt_bf16_f32) main_arg11
  let main_v54 : FVec F S1024x5632 .f32 := Host.absf main_v53
  let main_cst_18 : FVec F S_ .f32 := constant S_ .f32 0x7F800000#32
  let main_v55 : FVec F S1024x5632 .f32 := broadcastInDim S1024x5632 ![] bcast_S_S1024x5632 main_cst_18
  let main_v56 : IVec S1024x5632 1 := cmpf .olt main_v54 main_v55
  let main_c_19 : IVec S_ 1 := constantI S_ 1 1#1
  let main_v57 : IVec S_ 1 := (fun x v => Host.reduce IntOp.andi x v reducesTo_S1024x5632_S_d0_1 h_S_) main_v56 main_c_19
  let main_v58 : IVec S_ 1 := andi main_v52 main_v57
  main_v58

def fn_part2 {F : FTy → Type} [FloatOps F] (main_arg7 : FVec F S4x1x1024 .f32) (main_arg8 : FVec F S4x1x1024 .f32) (main_arg10 : FVec F S1024x1024 .bf16) (main_arg11 : FVec F S1024x5632 .bf16) (main_v31 : IVec S_ 1) (main_v34 : IVec S1x1024 1) : IVec S_ 1 :=
  let main_c_11 : IVec S_ 1 := constantI S_ 1 1#1
  let main_v35 : IVec S_ 1 := (fun x v => Host.reduce IntOp.andi x v reducesTo_S1x1024_S_d0_1 h_S_) main_v34 main_c_11
  let main_v36 : IVec S_ 1 := andi main_v31 main_v35
  let main_v37 : FVec F S4x1x1024 .f32 := Host.absf main_arg7
  let main_cst_12 : FVec F S_ .f32 := constant S_ .f32 0x7F800000#32
  let main_v38 : FVec F S4x1x1024 .f32 := broadcastInDim S4x1x1024 ![] bcast_S_S4x1x1024 main_cst_12
  let main_v39 : IVec S4x1x1024 1 := cmpf .olt main_v37 main_v38
  let main_c_13 : IVec S_ 1 := constantI S_ 1 1#1
  let main_v40 : IVec S_ 1 := (fun x v => Host.reduce IntOp.andi x v reducesTo_S4x1x1024_S_d0_1_2 h_S_) main_v39 main_c_13
  let main_v41 : IVec S_ 1 := andi main_v36 main_v40
  let main_v42 : FVec F S4x1x1024 .f32 := Host.absf main_arg8
  let main_cst_14 : FVec F S_ .f32 := constant S_ .f32 0x7F800000#32
  let main_v43 : FVec F S4x1x1024 .f32 := broadcastInDim S4x1x1024 ![] bcast_S_S4x1x1024 main_cst_14
  let main_v44 : IVec S4x1x1024 1 := cmpf .olt main_v42 main_v43
  let main_c_15 : IVec S_ 1 := constantI S_ 1 1#1
  let main_v45 : IVec S_ 1 := (fun x v => Host.reduce IntOp.andi x v reducesTo_S4x1x1024_S_d0_1_2 h_S_) main_v44 main_c_15
  let main_v46 : IVec S_ 1 := andi main_v41 main_v45
  let main_v47 : FVec F S1024x1024 .f32 := (extf .f32 · bitsLt_bf16_f32) main_arg10
  let main_v48 : FVec F S1024x1024 .f32 := Host.absf main_v47
  let main_cst_16 : FVec F S_ .f32 := constant S_ .f32 0x7F800000#32
  let main_v49 : FVec F S1024x1024 .f32 := broadcastInDim S1024x1024 ![] bcast_S_S1024x1024 main_cst_16
  let main_v50 : IVec S1024x1024 1 := cmpf .olt main_v48 main_v49
  let main_c_17 : IVec S_ 1 := constantI S_ 1 1#1
  let main_v51 : IVec S_ 1 := (fun x v => Host.reduce IntOp.andi x v reducesTo_S1024x1024_S_d0_1 h_S_) main_v50 main_c_17
  fn_part3 (F := F) main_arg11 main_v46 main_v51

def fn_part1 {F : FTy → Type} [FloatOps F] (main_arg4 : FVec F S4x8192x1024 .f32) (main_arg5 : FVec F S4x1x1024 .f32) (main_arg6 : FVec F S1x1024 .f32) (main_arg7 : FVec F S4x1x1024 .f32) (main_arg8 : FVec F S4x1x1024 .f32) (main_arg10 : FVec F S1024x1024 .bf16) (main_arg11 : FVec F S1024x5632 .bf16) (main_v16 : IVec S_ 1) (main_v17 : FVec F S1x1024 .f32) : IVec S_ 1 :=
  let main_cst_4 : FVec F S_ .f32 := constant S_ .f32 0x7F800000#32
  let main_v18 : FVec F S1x1024 .f32 := broadcastInDim S1x1024 ![] bcast_S_S1x1024 main_cst_4
  let main_v19 : IVec S1x1024 1 := cmpf .olt main_v17 main_v18
  let main_c_5 : IVec S_ 1 := constantI S_ 1 1#1
  let main_v20 : IVec S_ 1 := (fun x v => Host.reduce IntOp.andi x v reducesTo_S1x1024_S_d0_1 h_S_) main_v19 main_c_5
  let main_v21 : IVec S_ 1 := andi main_v16 main_v20
  let main_v22 : FVec F S4x8192x1024 .f32 := Host.absf main_arg4
  let main_cst_6 : FVec F S_ .f32 := constant S_ .f32 0x7F800000#32
  let main_v23 : FVec F S4x8192x1024 .f32 := broadcastInDim S4x8192x1024 ![] bcast_S_S4x8192x1024 main_cst_6
  let main_v24 : IVec S4x8192x1024 1 := cmpf .olt main_v22 main_v23
  let main_c_7 : IVec S_ 1 := constantI S_ 1 1#1
  let main_v25 : IVec S_ 1 := (fun x v => Host.reduce IntOp.andi x v reducesTo_S4x8192x1024_S_d0_1_2 h_S_) main_v24 main_c_7
  let main_v26 : IVec S_ 1 := andi main_v21 main_v25
  let main_v27 : FVec F S4x1x1024 .f32 := Host.absf main_arg5
  let main_cst_8 : FVec F S_ .f32 := constant S_ .f32 0x7F800000#32
  let main_v28 : FVec F S4x1x1024 .f32 := broadcastInDim S4x1x1024 ![] bcast_S_S4x1x1024 main_cst_8
  let main_v29 : IVec S4x1x1024 1 := cmpf .olt main_v27 main_v28
  let main_c_9 : IVec S_ 1 := constantI S_ 1 1#1
  let main_v30 : IVec S_ 1 := (fun x v => Host.reduce IntOp.andi x v reducesTo_S4x1x1024_S_d0_1_2 h_S_) main_v29 main_c_9
  let main_v31 : IVec S_ 1 := andi main_v26 main_v30
  let main_v32 : FVec F S1x1024 .f32 := Host.absf main_arg6
  let main_cst_10 : FVec F S_ .f32 := constant S_ .f32 0x7F800000#32
  let main_v33 : FVec F S1x1024 .f32 := broadcastInDim S1x1024 ![] bcast_S_S1x1024 main_cst_10
  let main_v34 : IVec S1x1024 1 := cmpf .olt main_v32 main_v33
  fn_part2 (F := F) main_arg7 main_arg8 main_arg10 main_arg11 main_v31 main_v34

def fn {F : FTy → Type} [FloatOps F] (main_arg0 : FVec F S4x8192x1024 .bf16) (main_arg1 : FVec F S4x8192x1024 .bf16) (main_arg2 : FVec F S4x8192x1024 .bf16) (main_arg3 : FVec F S1x1024 .f32) (main_arg4 : FVec F S4x8192x1024 .f32) (main_arg5 : FVec F S4x1x1024 .f32) (main_arg6 : FVec F S1x1024 .f32) (main_arg7 : FVec F S4x1x1024 .f32) (main_arg8 : FVec F S4x1x1024 .f32) (main_arg9 : FVec F S4x1x1024 .f32) (main_arg10 : FVec F S1024x1024 .bf16) (main_arg11 : FVec F S1024x5632 .bf16) (main_arg12 : FVec F S2816x1024 .bf16) : IVec S_ 1 :=
  let main_v0 : FVec F S4x8192x1024 .f32 := (extf .f32 · bitsLt_bf16_f32) main_arg0
  let main_v1 : FVec F S4x8192x1024 .f32 := Host.absf main_v0
  let main_cst : FVec F S_ .f32 := constant S_ .f32 0x7F800000#32
  let main_v2 : FVec F S4x8192x1024 .f32 := broadcastInDim S4x8192x1024 ![] bcast_S_S4x8192x1024 main_cst
  let main_v3 : IVec S4x8192x1024 1 := cmpf .olt main_v1 main_v2
  let main_c : IVec S_ 1 := constantI S_ 1 1#1
  let main_v4 : IVec S_ 1 := (fun x v => Host.reduce IntOp.andi x v reducesTo_S4x8192x1024_S_d0_1_2 h_S_) main_v3 main_c
  let main_v5 : FVec F S4x8192x1024 .f32 := (extf .f32 · bitsLt_bf16_f32) main_arg1
  let main_v6 : FVec F S4x8192x1024 .f32 := Host.absf main_v5
  let main_cst_0 : FVec F S_ .f32 := constant S_ .f32 0x7F800000#32
  let main_v7 : FVec F S4x8192x1024 .f32 := broadcastInDim S4x8192x1024 ![] bcast_S_S4x8192x1024 main_cst_0
  let main_v8 : IVec S4x8192x1024 1 := cmpf .olt main_v6 main_v7
  let main_c_1 : IVec S_ 1 := constantI S_ 1 1#1
  let main_v9 : IVec S_ 1 := (fun x v => Host.reduce IntOp.andi x v reducesTo_S4x8192x1024_S_d0_1_2 h_S_) main_v8 main_c_1
  let main_v10 : IVec S_ 1 := andi main_v4 main_v9
  let main_v11 : FVec F S4x8192x1024 .f32 := (extf .f32 · bitsLt_bf16_f32) main_arg2
  let main_v12 : FVec F S4x8192x1024 .f32 := Host.absf main_v11
  let main_cst_2 : FVec F S_ .f32 := constant S_ .f32 0x7F800000#32
  let main_v13 : FVec F S4x8192x1024 .f32 := broadcastInDim S4x8192x1024 ![] bcast_S_S4x8192x1024 main_cst_2
  let main_v14 : IVec S4x8192x1024 1 := cmpf .olt main_v12 main_v13
  let main_c_3 : IVec S_ 1 := constantI S_ 1 1#1
  let main_v15 : IVec S_ 1 := (fun x v => Host.reduce IntOp.andi x v reducesTo_S4x8192x1024_S_d0_1_2 h_S_) main_v14 main_c_3
  let main_v16 : IVec S_ 1 := andi main_v10 main_v15
  let main_v17 : FVec F S1x1024 .f32 := Host.absf main_arg3
  fn_part1 (F := F) main_arg4 main_arg5 main_arg6 main_arg7 main_arg8 main_arg10 main_arg11 main_v16 main_v17
-- ==== Pre_finite_na.lean ====
abbrev S4x4x8192x256 : Shape := ⟨4, ![4, 4, 8192, 256]⟩
abbrev S4x8192x1024 : Shape := ⟨3, ![4, 8192, 1024]⟩
abbrev S4x1x1024 : Shape := ⟨3, ![4, 1, 1024]⟩
abbrev S1x1024 : Shape := ⟨2, ![1, 1024]⟩
abbrev S1024x1024 : Shape := ⟨2, ![1024, 1024]⟩
abbrev S1024x5632 : Shape := ⟨2, ![1024, 5632]⟩
abbrev S2816x1024 : Shape := ⟨2, ![2816, 1024]⟩
abbrev S_ : Shape := ⟨0, ![]⟩

class Facts : Prop where
  bitsLt_bf16_f32 : FTy.bits .bf16 < FTy.bits .f32
  bcast_S_S4x4x8192x256 : S_.BroadcastsInDim S4x4x8192x256 (![] : Fin 0 → Fin S4x4x8192x256.rank)
  reducesTo_S4x4x8192x256_S_d0_1_2_3 : S4x4x8192x256.ReducesTo [0, 1, 2, 3] S_
  h_S_ : 0 < S_.numel
  bcast_S_S4x8192x1024 : S_.BroadcastsInDim S4x8192x1024 (![] : Fin 0 → Fin S4x8192x1024.rank)
  reducesTo_S4x8192x1024_S_d0_1_2 : S4x8192x1024.ReducesTo [0, 1, 2] S_
  bcast_S_S4x1x1024 : S_.BroadcastsInDim S4x1x1024 (![] : Fin 0 → Fin S4x1x1024.rank)
  reducesTo_S4x1x1024_S_d0_1_2 : S4x1x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x5632 : S_.BroadcastsInDim S1024x5632 (![] : Fin 0 → Fin S1024x5632.rank)
  reducesTo_S1024x5632_S_d0_1 : S1024x5632.ReducesTo [0, 1] S_

variable [Facts]

def fn_part2 {F : FTy → Type} [FloatOps F] (main_arg8 : FVec F S1024x5632 .bf16) (main_v29 : IVec S_ 1) (main_v33 : IVec S1024x1024 1) (main_c_11 : IVec S_ 1) : IVec S_ 1 :=
  let main_v34 : IVec S_ 1 := (fun x v => Host.reduce IntOp.andi x v reducesTo_S1024x1024_S_d0_1 h_S_) main_v33 main_c_11
  let main_v35 : IVec S_ 1 := andi main_v29 main_v34
  let main_v36 : FVec F S1024x5632 .f32 := (extf .f32 · bitsLt_bf16_f32) main_arg8
  let main_v37 : FVec F S1024x5632 .f32 := Host.absf main_v36
  let main_cst_12 : FVec F S_ .f32 := constant S_ .f32 0x7F800000#32
  let main_v38 : FVec F S1024x5632 .f32 := broadcastInDim S1024x5632 ![] bcast_S_S1024x5632 main_cst_12
  let main_v39 : IVec S1024x5632 1 := cmpf .olt main_v37 main_v38
  let main_c_13 : IVec S_ 1 := constantI S_ 1 1#1
  let main_v40 : IVec S_ 1 := (fun x v => Host.reduce IntOp.andi x v reducesTo_S1024x5632_S_d0_1 h_S_) main_v39 main_c_13
  let main_v41 : IVec S_ 1 := andi main_v35 main_v40
  main_v41

def fn_part1 {F : FTy → Type} [FloatOps F] (main_arg4 : FVec F S4x1x1024 .f32) (main_arg5 : FVec F S4x1x1024 .f32) (main_arg7 : FVec F S1024x1024 .bf16) (main_arg8 : FVec F S1024x5632 .bf16) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S4x1x1024 .f32 := Host.absf main_arg4
  let main_cst_6 : FVec F S_ .f32 := constant S_ .f32 0x7F800000#32
  let main_v21 : FVec F S4x1x1024 .f32 := broadcastInDim S4x1x1024 ![] bcast_S_S4x1x1024 main_cst_6
  let main_v22 : IVec S4x1x1024 1 := cmpf .olt main_v20 main_v21
  let main_c_7 : IVec S_ 1 := constantI S_ 1 1#1
  let main_v23 : IVec S_ 1 := (fun x v => Host.reduce IntOp.andi x v reducesTo_S4x1x1024_S_d0_1_2 h_S_) main_v22 main_c_7
  let main_v24 : IVec S_ 1 := andi main_v19 main_v23
  let main_v25 : FVec F S4x1x1024 .f32 := Host.absf main_arg5
  let main_cst_8 : FVec F S_ .f32 := constant S_ .f32 0x7F800000#32
  let main_v26 : FVec F S4x1x1024 .f32 := broadcastInDim S4x1x1024 ![] bcast_S_S4x1x1024 main_cst_8
  let main_v27 : IVec S4x1x1024 1 := cmpf .olt main_v25 main_v26
  let main_c_9 : IVec S_ 1 := constantI S_ 1 1#1
  let main_v28 : IVec S_ 1 := (fun x v => Host.reduce IntOp.andi x v reducesTo_S4x1x1024_S_d0_1_2 h_S_) main_v27 main_c_9
  let main_v29 : IVec S_ 1 := andi main_v24 main_v28
  let main_v30 : FVec F S1024x1024 .f32 := (extf .f32 · bitsLt_bf16_f32) main_arg7
  let main_v31 : FVec F S1024x1024 .f32 := Host.absf main_v30
  let main_cst_10 : FVec F S_ .f32 := constant S_ .f32 0x7F800000#32
  let main_v32 : FVec F S1024x1024 .f32 := broadcastInDim S1024x1024 ![] bcast_S_S1024x1024 main_cst_10
  let main_v33 : IVec S1024x1024 1 := cmpf .olt main_v31 main_v32
  let main_c_11 : IVec S_ 1 := constantI S_ 1 1#1
  fn_part2 (F := F) main_arg8 main_v29 main_v33 main_c_11

def fn {F : FTy → Type} [FloatOps F] (main_arg0 : FVec F S4x4x8192x256 .bf16) (main_arg1 : FVec F S4x8192x1024 .f32) (main_arg2 : FVec F S4x1x1024 .f32) (main_arg3 : FVec F S1x1024 .f32) (main_arg4 : FVec F S4x1x1024 .f32) (main_arg5 : FVec F S4x1x1024 .f32) (main_arg6 : FVec F S4x1x1024 .f32) (main_arg7 : FVec F S1024x1024 .bf16) (main_arg8 : FVec F S1024x5632 .bf16) (main_arg9 : FVec F S2816x1024 .bf16) : IVec S_ 1 :=
  let main_v0 : FVec F S4x4x8192x256 .f32 := (extf .f32 · bitsLt_bf16_f32) main_arg0
  let main_v1 : FVec F S4x4x8192x256 .f32 := Host.absf main_v0
  let main_cst : FVec F S_ .f32 := constant S_ .f32 0x7F800000#32
  let main_v2 : FVec F S4x4x8192x256 .f32 := broadcastInDim S4x4x8192x256 ![] bcast_S_S4x4x8192x256 main_cst
  let main_v3 : IVec S4x4x8192x256 1 := cmpf .olt main_v1 main_v2
  let main_c : IVec S_ 1 := constantI S_ 1 1#1
  let main_v4 : IVec S_ 1 := (fun x v => Host.reduce IntOp.andi x v reducesTo_S4x4x8192x256_S_d0_1_2_3 h_S_) main_v3 main_c
  let main_v5 : FVec F S4x8192x1024 .f32 := Host.absf main_arg1
  let main_cst_0 : FVec F S_ .f32 := constant S_ .f32 0x7F800000#32
  let main_v6 : FVec F S4x8192x1024 .f32 := broadcastInDim S4x8192x1024 ![] bcast_S_S4x8192x1024 main_cst_0
  let main_v7 : IVec S4x8192x1024 1 := cmpf .olt main_v5 main_v6
  let main_c_1 : IVec S_ 1 := constantI S_ 1 1#1
  let main_v8 : IVec S_ 1 := (fun x v => Host.reduce IntOp.andi x v reducesTo_S4x8192x1024_S_d0_1_2 h_S_) main_v7 main_c_1
  let main_v9 : IVec S_ 1 := andi main_v4 main_v8
  let main_v10 : FVec F S4x1x1024 .f32 := Host.absf main_arg2
  let main_cst_2 : FVec F S_ .f32 := constant S_ .f32 0x7F800000#32
  let main_v11 : FVec F S4x1x1024 .f32 := broadcastInDim S4x1x1024 ![] bcast_S_S4x1x1024 main_cst_2
  let main_v12 : IVec S4x1x1024 1 := cmpf .olt main_v10 main_v11
  let main_c_3 : IVec S_ 1 := constantI S_ 1 1#1
  let main_v13 : IVec S_ 1 := (fun x v => Host.reduce IntOp.andi x v reducesTo_S4x1x1024_S_d0_1_2 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg4 main_arg5 main_arg7 main_arg8 main_v14 main_v15 main_v16
-- ==== Pre_finite_proj.lean ====
abbrev S4x8192x1024 : Shape := ⟨3, ![4, 8192, 1024]⟩
abbrev S1x1024 : Shape := ⟨2, ![1, 1024]⟩
abbrev S4x1x1024 : Shape := ⟨3, ![4, 1, 1024]⟩
abbrev S1024x5120 : Shape := ⟨2, ![1024, 5120]⟩
abbrev S2x1x1024 : Shape := ⟨3, ![2, 1, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S4x1x1024 : S_.BroadcastsInDim S4x1x1024 (![] : Fin 0 → Fin S4x1x1024.rank)
  reducesTo_S4x1x1024_S_d0_1_2 : S4x1x1024.ReducesTo [0, 1, 2] S_
  bitsLt_bf16_f32 : FTy.bits .bf16 < FTy.bits .f32
  bcast_S_S1024x5120 : S_.BroadcastsInDim S1024x5120 (![] : Fin 0 → Fin S1024x5120.rank)
  reducesTo_S1024x5120_S_d0_1 : S1024x5120.ReducesTo [0, 1] S_
  bcast_S_S2x1x1024 : S_.BroadcastsInDim S2x1x1024 (![] : Fin 0 → Fin S2x1x1024.rank)
  reducesTo_S2x1x1024_S_d0_1_2 : S2x1x1024.ReducesTo [0, 1, 2] S_

variable [Facts]

def fn_part1 {F : FTy → Type} [FloatOps F] (main_arg4 : FVec F S1024x5120 .bf16) (main_arg5 : FVec F S2x1x1024 .f32) (main_v13 : IVec S_ 1) (main_v16 : IVec S4x1x1024 1) : IVec S_ 1 :=
  let main_c_5 : IVec S_ 1 := constantI S_ 1 1#1
  let main_v17 : IVec S_ 1 := (fun x v => Host.reduce IntOp.andi x v reducesTo_S4x1x1024_S_d0_1_2 h_S_) main_v16 main_c_5
  let main_v18 : IVec S_ 1 := andi main_v13 main_v17
  let main_v19 : FVec F S1024x5120 .f32 := (extf .f32 · bitsLt_bf16_f32) main_arg4
  let main_v20 : FVec F S1024x5120 .f32 := Host.absf main_v19
  let main_cst_6 : FVec F S_ .f32 := constant S_ .f32 0x7F800000#32
  let main_v21 : FVec F S1024x5120 .f32 := broadcastInDim S1024x5120 ![] bcast_S_S1024x5120 main_cst_6
  let main_v22 : IVec S1024x5120 1 := cmpf .olt main_v20 main_v21
  let main_c_7 : IVec S_ 1 := constantI S_ 1 1#1
  let main_v23 : IVec S_ 1 := (fun x v => Host.reduce IntOp.andi x v reducesTo_S1024x5120_S_d0_1 h_S_) main_v22 main_c_7
  let main_v24 : IVec S_ 1 := andi main_v18 main_v23
  let main_v25 : FVec F S2x1x1024 .f32 := Host.absf main_arg5
  let main_cst_8 : FVec F S_ .f32 := constant S_ .f32 0x7F800000#32
  let main_v26 : FVec F S2x1x1024 .f32 := broadcastInDim S2x1x1024 ![] bcast_S_S2x1x1024 main_cst_8
  let main_v27 : IVec S2x1x1024 1 := cmpf .olt main_v25 main_v26
  let main_c_9 : IVec S_ 1 := constantI S_ 1 1#1
  let main_v28 : IVec S_ 1 := (fun x v => Host.reduce IntOp.andi x v reducesTo_S2x1x1024_S_d0_1_2 h_S_) main_v27 main_c_9
  let main_v29 : IVec S_ 1 := andi main_v24 main_v28
  let main_cst_10 : FVec F S_ .f32 := constant S_ .f32 0x0D800000#32
  let main_v30 : FVec F S2x1x1024 .f32 := broadcastInDim S2x1x1024 ![] bcast_S_S2x1x1024 main_cst_10
  let main_v31 : IVec S2x1x1024 1 := cmpf .oge main_arg5 main_v30
  let main_c_11 : IVec S_ 1 := constantI S_ 1 1#1
  let main_v32 : IVec S_ 1 := (fun x v => Host.reduce IntOp.andi x v reducesTo_S2x1x1024_S_d0_1_2 h_S_) main_v31 main_c_11
  let main_v33 : IVec S_ 1 := andi main_v29 main_v32
  main_v33

def fn {F : FTy → Type} [FloatOps F] (main_arg0 : FVec F S4x8192x1024 .f32) (main_arg1 : FVec F S1x1024 .f32) (main_arg2 : FVec F S4x1x1024 .f32) (main_arg3 : FVec F S4x1x1024 .f32) (main_arg4 : FVec F S1024x5120 .bf16) (main_arg5 : FVec F S2x1x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S4x1x1024 .f32 := Host.absf main_arg2
  let main_cst_2 : FVec F S_ .f32 := constant S_ .f32 0x7F800000#32
  let main_v10 : FVec F S4x1x1024 .f32 := broadcastInDim S4x1x1024 ![] bcast_S_S4x1x1024 main_cst_2
  let main_v11 : IVec S4x1x1024 1 := cmpf .olt main_v9 main_v10
  let main_c_3 : IVec S_ 1 := constantI S_ 1 1#1
  let main_v12 : IVec S_ 1 := (fun x v => Host.reduce IntOp.andi x v reducesTo_S4x1x1024_S_d0_1_2 h_S_) main_v11 main_c_3
  let main_v13 : IVec S_ 1 := andi main_v8 main_v12
  let main_v14 : FVec F S4x1x1024 .f32 := Host.absf main_arg3
  let main_cst_4 : FVec F S_ .f32 := constant S_ .f32 0x7F800000#32
  let main_v15 : FVec F S4x1x1024 .f32 := broadcastInDim S4x1x1024 ![] bcast_S_S4x1x1024 main_cst_4
  let main_v16 : IVec S4x1x1024 1 := cmpf .olt main_v14 main_v15
  fn_part1 (F := F) main_arg4 main_arg5 main_v13 main_v16
-- ==== Kernel.lean ====
abbrev S1 : Shape := ⟨1, ![1]⟩
abbrev S4x4x8192x256 : Shape := ⟨4, ![4, 4, 8192, 256]⟩
abbrev S4x32x1024x256 : Shape := ⟨4, ![4, 32, 1024, 256]⟩
abbrev S4x4x256x256 : Shape := ⟨4, ![4, 4, 256, 256]⟩
abbrev S4x1x1024x256 : Shape := ⟨4, ![4, 1, 1024, 256]⟩
abbrev S16x15x31 : Shape := ⟨3, ![16, 15, 31]⟩
abbrev S_ : Shape := ⟨0, ![]⟩
abbrev S64x64 : Shape := ⟨2, ![64, 64]⟩
abbrev S31x64x64 : Shape := ⟨3, ![31, 64, 64]⟩
abbrev S1x64x64 : Shape := ⟨3, ![1, 64, 64]⟩
abbrev S16x15x31x1x1 : Shape := ⟨5, ![16, 15, 31, 1, 1]⟩
abbrev S1x1x31x64x64 : Shape := ⟨5, ![1, 1, 31, 64, 64]⟩
abbrev S16x15x31x64x64 : Shape := ⟨5, ![16, 15, 31, 64, 64]⟩
abbrev S16x15x64x64 : Shape := ⟨4, ![16, 15, 64, 64]⟩
abbrev S16x12x64x64 : Shape := ⟨4, ![16, 12, 64, 64]⟩
abbrev S16x12x64x256 : Shape := ⟨4, ![16, 12, 64, 256]⟩
abbrev S12x64x4x64 : Shape := ⟨4, ![12, 64, 4, 64]⟩
abbrev S1x12x64x4x64 : Shape := ⟨5, ![1, 12, 64, 4, 64]⟩
abbrev S3x12x64x4x64 : Shape := ⟨5, ![3, 12, 64, 4, 64]⟩
abbrev S16x768x256 : Shape := ⟨3, ![16, 768, 256]⟩
abbrev S3x768x256 : Shape := ⟨3, ![3, 768, 256]⟩
abbrev S1x16x768x256 : Shape := ⟨4, ![1, 16, 768, 256]⟩
abbrev S3x1x768x256 : Shape := ⟨4, ![3, 1, 768, 256]⟩
abbrev S3x16x768x256 : Shape := ⟨4, ![3, 16, 768, 256]⟩
abbrev S1x1x2048x256 : Shape := ⟨4, ![1, 1, 2048, 256]⟩
abbrev S1x1x256x256 : Shape := ⟨4, ![1, 1, 256, 256]⟩
abbrev S1x4x768x256 : Shape := ⟨4, ![1, 4, 768, 256]⟩
abbrev S256x256 : Shape := ⟨2, ![256, 256]⟩
abbrev S1x256 : Shape := ⟨2, ![1, 256]⟩
abbrev S1x1x64x256 : Shape := ⟨4, ![1, 1, 64, 256]⟩
abbrev S64x256 : Shape := ⟨2, ![64, 256]⟩
abbrev S16x256 : Shape := ⟨2, ![16, 256]⟩
abbrev S80x256 : Shape := ⟨2, ![80, 256]⟩
abbrev S256 : Shape := ⟨1, ![256]⟩

abbrev nBuf : Space → Nat
  | .hbm => 114
  | .vmem => 54
  | .smem => 1
  | _ => 0

abbrev bufTy : (tb : Table) → Fin (tcTables nBuf tb) → BufTy
  | .hbm, ⟨0, _⟩ => ⟨S1, .f32⟩
  | .hbm, ⟨1, _⟩ => ⟨S4x4x8192x256, .bf16⟩
  | .hbm, ⟨2, _⟩ => ⟨S4x4x8192x256, .bf16⟩
  | .hbm, ⟨3, _⟩ => ⟨S4x32x1024x256, .bf16⟩
  | .hbm, ⟨4, _⟩ => ⟨S4x4x256x256, .bf16⟩
  | .hbm, ⟨5, _⟩ => ⟨S4x1x1024x256, .bf16⟩
  | .hbm, ⟨6, _⟩ => ⟨S16x15x31, .f32⟩
  | .hbm, ⟨7, _⟩ => ⟨S_, .f32⟩
  | .hbm, ⟨8, _⟩ => ⟨S16x15x31, .f32⟩
  | .hbm, ⟨9, _⟩ => ⟨S16x15x31, .f32⟩
  | .hbm, ⟨10, _⟩ => ⟨S64x64, .i32⟩
  | .hbm, ⟨11, _⟩ => ⟨S64x64, .i32⟩
  | .hbm, ⟨12, _⟩ => ⟨S31x64x64, .i32⟩
  | .hbm, ⟨13, _⟩ => ⟨S64x64, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S64x64, .i32⟩
  | .hbm, ⟨19, _⟩ => ⟨S64x64, .i32⟩
  | .hbm, ⟨20, _⟩ => ⟨S1x64x64, .i32⟩
  | .hbm, ⟨21, _⟩ => ⟨S31x64x64, .i32⟩
  | .hbm, ⟨22, _⟩ => ⟨S31x64x64, .i1⟩
  | .hbm, ⟨23, _⟩ => ⟨S31x64x64, .f32⟩
  | .hbm, ⟨24, _⟩ => ⟨S16x15x31x1x1, .f32⟩
  | .hbm, ⟨25, _⟩ => ⟨S1x1x31x64x64, .f32⟩
  | .hbm, ⟨26, _⟩ => ⟨S16x15x31x64x64, .f32⟩
  | .hbm, ⟨27, _⟩ => ⟨S16x15x31x64x64, .f32⟩
  | .hbm, ⟨28, _⟩ => ⟨S16x15x31x64x64, .f32⟩
  | .hbm, ⟨29, _⟩ => ⟨S_, .f32⟩
  | .hbm, ⟨30, _⟩ => ⟨S16x15x64x64, .f32⟩
  | .hbm, ⟨31, _⟩ => ⟨S_, .i32⟩
  | .hbm, ⟨32, _⟩ => ⟨S64x64, .i32⟩
  | .hbm, ⟨33, _⟩ => ⟨S64x64, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S64x64, .i32⟩
  | .hbm, ⟨38, _⟩ => ⟨S64x64, .i32⟩
  | .hbm, ⟨39, _⟩ => ⟨S_, .i32⟩
  | .hbm, ⟨40, _⟩ => ⟨S64x64, .i32⟩
  | .hbm, ⟨41, _⟩ => ⟨S64x64, .i32⟩
  | .hbm, ⟨42, _⟩ => ⟨S64x64, .i1⟩
  | .hbm, ⟨43, _⟩ => ⟨S_, .i32⟩
  | .hbm, ⟨44, _⟩ => ⟨S64x64, .i32⟩
  | .hbm, ⟨45, _⟩ => ⟨S64x64, .i32⟩
  | .hbm, ⟨46, _⟩ => ⟨S64x64, .i1⟩
  | .hbm, ⟨47, _⟩ => ⟨S64x64, .i1⟩
  | .hbm, ⟨48, _⟩ => ⟨S_, .f32⟩
  | .hbm, ⟨49, _⟩ => ⟨S_, .f32⟩
  | .hbm, ⟨50, _⟩ => ⟨S16x15x64x64, .i1⟩
  | .hbm, ⟨51, _⟩ => ⟨S16x15x64x64, .f32⟩
  | .hbm, ⟨52, _⟩ => ⟨S16x15x64x64, .f32⟩
  | .hbm, ⟨53, _⟩ => ⟨S16x12x64x64, .f32⟩
  | .hbm, ⟨54, _⟩ => ⟨S16x12x64x64, .f32⟩
  | .hbm, ⟨55, _⟩ => ⟨S16x12x64x64, .f32⟩
  | .hbm, ⟨56, _⟩ => ⟨S16x12x64x64, .f32⟩
  | .hbm, ⟨57, _⟩ => ⟨S16x12x64x256, .f32⟩
  | .hbm, ⟨58, _⟩ => ⟨S12x64x4x64, .i32⟩
  | .hbm, ⟨59, _⟩ => ⟨S12x64x4x64, .i32⟩
  | .hbm, ⟨60, _⟩ => ⟨S_, .i32⟩
  | .hbm, ⟨61, _⟩ => ⟨S12x64x4x64, .i32⟩
  | .hbm, ⟨62, _⟩ => ⟨S12x64x4x64, .i32⟩
  | .hbm, ⟨63, _⟩ => ⟨S_, .i32⟩
  | .hbm, ⟨64, _⟩ => ⟨S12x64x4x64, .i32⟩
  | .hbm, ⟨65, _⟩ => ⟨S12x64x4x64, .i32⟩
  | .hbm, ⟨66, _⟩ => ⟨S_, .i32⟩
  | .hbm, ⟨67, _⟩ => ⟨S12x64x4x64, .i32⟩
  | .hbm, ⟨68, _⟩ => ⟨S12x64x4x64, .i1⟩
  | .hbm, ⟨69, _⟩ => ⟨S_, .i32⟩
  | .hbm, ⟨70, _⟩ => ⟨S12x64x4x64, .i32⟩
  | .hbm, ⟨71, _⟩ => ⟨S12x64x4x64, .i1⟩
  | .hbm, ⟨72, _⟩ => ⟨S12x64x4x64, .i1⟩
  | .hbm, ⟨73, _⟩ => ⟨S_, .f32⟩
  | .hbm, ⟨74, _⟩ => ⟨S_, .f32⟩
  | .hbm, ⟨75, _⟩ => ⟨S12x64x4x64, .f32⟩
  | .hbm, ⟨76, _⟩ => ⟨S12x64x4x64, .f32⟩
  | .hbm, ⟨77, _⟩ => ⟨S12x64x4x64, .f32⟩
  | .hbm, ⟨78, _⟩ => ⟨S12x64x4x64, .i1⟩
  | .hbm, ⟨79, _⟩ => ⟨S_, .i32⟩
  | .hbm, ⟨80, _⟩ => ⟨S12x64x4x64, .i32⟩
  | .hbm, ⟨81, _⟩ => ⟨S12x64x4x64, .i32⟩
  | .hbm, ⟨82, _⟩ => ⟨S12x64x4x64, .i1⟩
  | .hbm, ⟨83, _⟩ => ⟨S12x64x4x64, .i1⟩
  | .hbm, ⟨84, _⟩ => ⟨S_, .f32⟩
  | .hbm, ⟨85, _⟩ => ⟨S_, .f32⟩
  | .hbm, ⟨86, _⟩ => ⟨S12x64x4x64, .f32⟩
  | .hbm, ⟨87, _⟩ => ⟨S12x64x4x64, .f32⟩
  | .hbm, ⟨88, _⟩ => ⟨S12x64x4x64, .f32⟩
  | .hbm, ⟨89, _⟩ => ⟨S_, .i32⟩
  | .hbm, ⟨90, _⟩ => ⟨S12x64x4x64, .i32⟩
  | .hbm, ⟨91, _⟩ => ⟨S12x64x4x64, .i1⟩
  | .hbm, ⟨92, _⟩ => ⟨S_, .i32⟩
  | .hbm, ⟨93, _⟩ => ⟨S12x64x4x64, .i32⟩
  | .hbm, ⟨94, _⟩ => ⟨S12x64x4x64, .i1⟩
  | .hbm, ⟨95, _⟩ => ⟨S12x64x4x64, .i1⟩
  | .hbm, ⟨96, _⟩ => ⟨S_, .f32⟩
  | .hbm, ⟨97, _⟩ => ⟨S_, .f32⟩
  | .hbm, ⟨98, _⟩ => ⟨S12x64x4x64, .f32⟩
  | .hbm, ⟨99, _⟩ => ⟨S12x64x4x64, .f32⟩
  | .hbm, ⟨100, _⟩ => ⟨S12x64x4x64, .f32⟩
  | .hbm, ⟨101, _⟩ => ⟨S1x12x64x4x64, .f32⟩
  | .hbm, ⟨102, _⟩ => ⟨S1x12x64x4x64, .f32⟩
  | .hbm, ⟨103, _⟩ => ⟨S1x12x64x4x64, .f32⟩
  | .hbm, ⟨104, _⟩ => ⟨S3x12x64x4x64, .f32⟩
  | .hbm, ⟨105, _⟩ => ⟨S16x768x256, .f32⟩
  | .hbm, ⟨106, _⟩ => ⟨S3x768x256, .f32⟩
  | .hbm, ⟨107, _⟩ => ⟨S1x16x768x256, .f32⟩
  | .hbm, ⟨108, _⟩ => ⟨S3x1x768x256, .f32⟩
  | .hbm, ⟨109, _⟩ => ⟨S3x1x768x256, .f32⟩
  | .hbm, ⟨110, _⟩ => ⟨S3x16x768x256, .f32⟩
  | .hbm, ⟨111, _⟩ => ⟨S3x16x768x256, .f32⟩
  | .hbm, ⟨112, _⟩ => ⟨S3x16x768x256, .f32⟩
  | .hbm, ⟨113, _⟩ => ⟨S4x4x8192x256, .bf16⟩
  | .local _ .vmem, ⟨0, _⟩ => ⟨S1x1x2048x256, .bf16⟩
  | .local _ .vmem, ⟨1, _⟩ => ⟨S1x1x2048x256, .bf16⟩
  | .local _ .vmem, ⟨2, _⟩ => ⟨S1x1x256x256, .bf16⟩
  | .local _ .vmem, ⟨3, _⟩ => ⟨S1x1x256x256, .bf16⟩
  | .local _ .vmem, ⟨4, _⟩ => ⟨S1x1x256x256, .bf16⟩
  | .local _ .vmem, ⟨5, _⟩ => ⟨S1x1x256x256, .bf16⟩
  | .local _ .vmem, ⟨6, _⟩ => ⟨S1x1x256x256, .bf16⟩
  | .local _ .vmem, ⟨7, _⟩ => ⟨S1x1x256x256, .bf16⟩
  | .local _ .vmem, ⟨8, _⟩ => ⟨S1x1x256x256, .bf16⟩
  | .local _ .vmem, ⟨9, _⟩ => ⟨S1x1x256x256, .bf16⟩
  | .local _ .vmem, ⟨10, _⟩ => ⟨S1x1x256x256, .bf16⟩
  | .local _ .vmem, ⟨11, _⟩ => ⟨S1x1x256x256, .bf16⟩
  | .local _ .vmem, ⟨12, _⟩ => ⟨S1x1x256x256, .bf16⟩
  | .local _ .vmem, ⟨13, _⟩ => ⟨S1x1x256x256, .bf16⟩
  | .local _ .vmem, ⟨14, _⟩ => ⟨S1x1x256x256, .bf16⟩
  | .local _ .vmem, ⟨15, _⟩ => ⟨S1x1x256x256, .bf16⟩
  | .local _ .vmem, ⟨16, _⟩ => ⟨S1x1x256x256, .bf16⟩
  | .local _ .vmem, ⟨17, _⟩ => ⟨S1x1x256x256, .bf16⟩
  | .local _ .vmem, ⟨18, _⟩ => ⟨S1x1x256x256, .bf16⟩
  | .local _ .vmem, ⟨19, _⟩ => ⟨S1x1x256x256, .bf16⟩
  | .local _ .vmem, ⟨20, _⟩ => ⟨S1x1x256x256, .bf16⟩
  | .local _ .vmem, ⟨21, _⟩ => ⟨S1x1x256x256, .bf16⟩
  | .local _ .vmem, ⟨22, _⟩ => ⟨S1x1x256x256, .bf16⟩
  | .local _ .vmem, ⟨23, _⟩ => ⟨S1x1x256x256, .bf16⟩
  | .local _ .vmem, ⟨24, _⟩ => ⟨S1x1x256x256, .bf16⟩
  | .local _ .vmem, ⟨25, _⟩ => ⟨S1x1x256x256, .bf16⟩
  | .local _ .vmem, ⟨26, _⟩ => ⟨S1x1x256x256, .bf16⟩
  | .local _ .vmem, ⟨27, _⟩ => ⟨S1x1x256x256, .bf16⟩
  | .local _ .vmem, ⟨28, _⟩ => ⟨S1x1x256x256, .bf16⟩
  | .local _ .vmem, ⟨29, _⟩ => ⟨S1x1x256x256, .bf16⟩
  | .local _ .vmem, ⟨30, _⟩ => ⟨S1x1x256x256, .bf16⟩
  | .local _ .vmem, ⟨31, _⟩ => ⟨S1x1x256x256, .bf16⟩
  | .local _ .vmem, ⟨32, _⟩ => ⟨S1x1x256x256, .bf16⟩
  | .local _ .vmem, ⟨33, _⟩ => ⟨S1x1x256x256, .bf16⟩
  | .local _ .vmem, ⟨34, _⟩ => ⟨S1x1x256x256, .bf16⟩
  | .local _ .vmem, ⟨35, _⟩ => ⟨S1x1x256x256, .bf16⟩
  | .local _ .vmem, ⟨36, _⟩ => ⟨S1x1x256x256, .bf16⟩
  | .local _ .vmem, ⟨37, _⟩ => ⟨S1x1x256x256, .bf16⟩
  | .local _ .vmem, ⟨38, _⟩ => ⟨S1x1x256x256, .bf16⟩
  | .local _ .vmem, ⟨39, _⟩ => ⟨S1x1x256x256, .bf16⟩
  | .local _ .vmem, ⟨40, _⟩ => ⟨S1x1x256x256, .bf16⟩
  | .local _ .vmem, ⟨41, _⟩ => ⟨S1x1x256x256, .bf16⟩
  | .local _ .vmem, ⟨42, _⟩ => ⟨S1x1x256x256, .bf16⟩
  | .local _ .vmem, ⟨43, _⟩ => ⟨S1x1x256x256, .bf16⟩
  | .local _ .vmem, ⟨44, _⟩ => ⟨S1x1x256x256, .bf16⟩
  | .local _ .vmem, ⟨45, _⟩ => ⟨S1x1x256x256, .bf16⟩
  | .local _ .vmem, ⟨46, _⟩ => ⟨S1x4x768x256, .f32⟩
  | .local _ .vmem, ⟨47, _⟩ => ⟨S1x4x768x256, .f32⟩
  | .local _ .vmem, ⟨48, _⟩ => ⟨S1x4x768x256, .f32⟩
  | .local _ .vmem, ⟨49, _⟩ => ⟨S1x4x768x256, .f32⟩
  | .local _ .vmem, ⟨50, _⟩ => ⟨S1x4x768x256, .f32⟩
  | .local _ .vmem, ⟨51, _⟩ => ⟨S1x4x768x256, .f32⟩
  | .local _ .vmem, ⟨52, _⟩ => ⟨S1x1x2048x256, .bf16⟩
  | .local _ .vmem, ⟨53, _⟩ => ⟨S1x1x2048x256, .bf16⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .smem, ⟨0, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_c_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_c_9 : Ref sig .tc := ⟨.hbm, 66, rfl⟩
abbrev main_v40 : Ref sig .tc := ⟨.hbm, 67, rfl⟩
abbrev main_v41 : Ref sig .tc := ⟨.hbm, 68, rfl⟩
abbrev main_c_10 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_11 : Ref sig .tc := ⟨.hbm, 73, rfl⟩
abbrev main_cst_12 : Ref sig .tc := ⟨.hbm, 74, rfl⟩
abbrev main_call2_v0 : Ref sig .tc := ⟨.hbm, 75, rfl⟩
abbrev main_call2_v1 : Ref sig .tc := ⟨.hbm, 76, rfl⟩
abbrev main_v45 : Ref sig .tc := ⟨.hbm, 77, rfl⟩
abbrev main_v46 : Ref sig .tc := ⟨.hbm, 78, rfl⟩
abbrev main_c_13 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_14 : Ref sig .tc := ⟨.hbm, 84, rfl⟩
abbrev main_cst_15 : Ref sig .tc := ⟨.hbm, 85, rfl⟩
abbrev main_call3_v0 : Ref sig .tc := ⟨.hbm, 86, rfl⟩
abbrev main_call3_v1 : Ref sig .tc := ⟨.hbm, 87, rfl⟩
abbrev main_v51 : Ref sig .tc := ⟨.hbm, 88, rfl⟩
abbrev main_c_16 : Ref sig .tc := ⟨.hbm, 89, rfl⟩
abbrev main_v52 : Ref sig .tc := ⟨.hbm, 90, rfl⟩
abbrev main_v53 : Ref sig .tc := ⟨.hbm, 91, rfl⟩
abbrev main_c_17 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_18 : Ref sig .tc := ⟨.hbm, 96, rfl⟩
abbrev main_cst_19 : Ref sig .tc := ⟨.hbm, 97, rfl⟩
abbrev main_call4_v0 : Ref sig .tc := ⟨.hbm, 98, rfl⟩
abbrev main_call4_v1 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_stg23_0 : Ref sig .tc := ⟨.vmem, 44, rfl⟩
abbrev cc0_stg23_1 : Ref sig .tc := ⟨.vmem, 45, rfl⟩
abbrev cc0_stg24_0 : Ref sig .tc := ⟨.vmem, 46, rfl⟩
abbrev cc0_stg24_1 : Ref sig .tc := ⟨.vmem, 47, rfl⟩
abbrev cc0_stg25_0 : Ref sig .tc := ⟨.vmem, 48, rfl⟩
abbrev cc0_stg25_1 : Ref sig .tc := ⟨.vmem, 49, rfl⟩
abbrev cc0_stg26_0 : Ref sig .tc := ⟨.vmem, 50, rfl⟩
abbrev cc0_stg26_1 : Ref sig .tc := ⟨.vmem, 51, rfl⟩
abbrev cc0_stg27_0 : Ref sig .tc := ⟨.vmem, 52, rfl⟩
abbrev cc0_stg27_1 : Ref sig .tc := ⟨.vmem, 53, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42
abbrev cc0_sem22_0 : DmaSem sig := 43
abbrev cc0_sem22_1 : DmaSem sig := 44
abbrev cc0_sem23_0 : DmaSem sig := 45
abbrev cc0_sem23_1 : DmaSem sig := 46
abbrev cc0_sem24_0 : DmaSem sig := 47
abbrev cc0_sem24_1 : DmaSem sig := 48
abbrev cc0_sem25_0 : DmaSem sig := 49
abbrev cc0_sem25_1 : DmaSem sig := 50
abbrev cc0_sem26_0 : DmaSem sig := 51
abbrev cc0_sem26_1 : DmaSem sig := 52
abbrev cc0_sem27_0 : DmaSem sig := 53
abbrev cc0_sem27_1 : DmaSem sig := 54

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c_m1_i32 : BitVec 32 := 4294967295#32
  let v1 : BitVec 32 := Scalar.addi v0 c_m1_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg0.toNat, arg1.toNat, v3.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c0_i32 : BitVec 32 := 0#32
  let v1 : BitVec 32 := Scalar.addi v0 c0_i32
  let c0_i32_0 : BitVec 32 := 0#32
  let c31_i32 : BitVec 32 := 31#32
  let v2 : BitVec 32 := Scalar.maxsi c0_i32_0 v1
  let v3 : BitVec 32 := Scalar.minsi c31_i32 v2
  let c0_i32_1 : BitVec 32 := 0#32
  let c0_i32_2 : BitVec 32 := 0#32
  ![arg0.toNat, arg1.toNat, v3.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c1_i32 : BitVec 32 := 1#32
  let v1 : BitVec 32 := Scalar.addi v0 c1_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg0.toNat, arg1.toNat, v3.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c2_i32 : BitVec 32 := 2#32
  let v1 : BitVec 32 := Scalar.addi v0 c2_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg0.toNat, arg1.toNat, v3.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c3_i32 : BitVec 32 := 3#32
  let v1 : BitVec 32 := Scalar.addi v0 c3_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg0.toNat, arg1.toNat, v3.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c4_i32 : BitVec 32 := 4#32
  let v1 : BitVec 32 := Scalar.addi v0 c4_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg0.toNat, arg1.toNat, v3.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c5_i32 : BitVec 32 := 5#32
  let v1 : BitVec 32 := Scalar.addi v0 c5_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg0.toNat, arg1.toNat, v3.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c6_i32 : BitVec 32 := 6#32
  let v1 : BitVec 32 := Scalar.addi v0 c6_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg0.toNat, arg1.toNat, v3.toNat, c0_i32_0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c7_i32 : BitVec 32 := 7#32
  let v1 : BitVec 32 := Scalar.addi v0 c7_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg0.toNat, arg1.toNat, v3.toNat, c0_i32_0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c8_i32_0 : BitVec 32 := 8#32
  let v1 : BitVec 32 := Scalar.addi v0 c8_i32_0
  let c0_i32 : BitVec 32 := 0#32
  let c31_i32 : BitVec 32 := 31#32
  let v2 : BitVec 32 := Scalar.maxsi c0_i32 v1
  let v3 : BitVec 32 := Scalar.minsi c31_i32 v2
  let c0_i32_1 : BitVec 32 := 0#32
  let c0_i32_2 : BitVec 32 := 0#32
  ![arg0.toNat, arg1.toNat, v3.toNat, c0_i32_1.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c_m1_i32 : BitVec 32 := 4294967295#32
  let v1 : BitVec 32 := Scalar.addi v0 c_m1_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg1.toNat, v3.toNat, arg0.toNat, c0_i32_0.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c0_i32 : BitVec 32 := 0#32
  let v1 : BitVec 32 := Scalar.addi v0 c0_i32
  let c0_i32_0 : BitVec 32 := 0#32
  let c31_i32 : BitVec 32 := 31#32
  let v2 : BitVec 32 := Scalar.maxsi c0_i32_0 v1
  let v3 : BitVec 32 := Scalar.minsi c31_i32 v2
  let c0_i32_1 : BitVec 32 := 0#32
  let c0_i32_2 : BitVec 32 := 0#32
  ![arg1.toNat, v3.toNat, arg0.toNat, c0_i32_1.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c1_i32 : BitVec 32 := 1#32
  let v1 : BitVec 32 := Scalar.addi v0 c1_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg1.toNat, v3.toNat, arg0.toNat, c0_i32_0.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c2_i32 : BitVec 32 := 2#32
  let v1 : BitVec 32 := Scalar.addi v0 c2_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg1.toNat, v3.toNat, arg0.toNat, c0_i32_0.toNat]

def cc0_transform_16 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c3_i32 : BitVec 32 := 3#32
  let v1 : BitVec 32 := Scalar.addi v0 c3_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg1.toNat, v3.toNat, arg0.toNat, c0_i32_0.toNat]

def cc0_transform_17 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c4_i32 : BitVec 32 := 4#32
  let v1 : BitVec 32 := Scalar.addi v0 c4_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg1.toNat, v3.toNat, arg0.toNat, c0_i32_0.toNat]

def cc0_transform_18 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c5_i32 : BitVec 32 := 5#32
  let v1 : BitVec 32 := Scalar.addi v0 c5_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg1.toNat, v3.toNat, arg0.toNat, c0_i32_0.toNat]

def cc0_transform_19 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c6_i32 : BitVec 32 := 6#32
  let v1 : BitVec 32 := Scalar.addi v0 c6_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg1.toNat, v3.toNat, arg0.toNat, c0_i32_0.toNat]

def cc0_transform_20 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c7_i32 : BitVec 32 := 7#32
  let v1 : BitVec 32 := Scalar.addi v0 c7_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg1.toNat, v3.toNat, arg0.toNat, c0_i32_0.toNat]

def cc0_transform_21 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c8_i32_0 : BitVec 32 := 8#32
  let v1 : BitVec 32 := Scalar.addi v0 c8_i32_0
  let c0_i32 : BitVec 32 := 0#32
  let c31_i32 : BitVec 32 := 31#32
  let v2 : BitVec 32 := Scalar.maxsi c0_i32 v1
  let v3 : BitVec 32 := Scalar.minsi c31_i32 v2
  let c0_i32_1 : BitVec 32 := 0#32
  let c0_i32_2 : BitVec 32 := 0#32
  ![arg1.toNat, v3.toNat, arg0.toNat, c0_i32_1.toNat]

def cc0_transform_22 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_23 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

def cc0_transform_24 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c0_i32 : BitVec 32 := 0#32
  let v1 : BitVec 1 := Scalar.cmpi .eq v0 c0_i32
  let c31_i32 : BitVec 32 := 31#32
  let v2 : BitVec 1 := Scalar.cmpi .eq v0 c31_i32
  let c2_i32 : BitVec 32 := 2#32
  let c1_i32 : BitVec 32 := 1#32
  let v3 : BitVec 32 := Scalar.select v2 c2_i32 c1_i32
  let c0_i32_0 : BitVec 32 := 0#32
  let v4 : BitVec 32 := Scalar.select v1 c0_i32_0 v3
  let c0_i32_1 : BitVec 32 := 0#32
  let c0_i32_2 : BitVec 32 := 0#32
  let c0_i32_3 : BitVec 32 := 0#32
  ![v4.toNat, arg0.toNat, c0_i32_1.toNat, c0_i32_2.toNat]

def cc0_transform_25 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_26 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c8_i32_0 : BitVec 32 := 8#32
  let v1 : BitVec 32 := Scalar.addi v0 c8_i32_0
  let c1_i32 : BitVec 32 := 1#32
  let v2 : BitVec 32 := Scalar.subi v1 c1_i32
  let c0_i32 : BitVec 32 := 0#32
  let v3 : BitVec 1 := Scalar.cmpi .eq v2 c0_i32
  let c31_i32 : BitVec 32 := 31#32
  let v4 : BitVec 1 := Scalar.cmpi .eq v2 c31_i32
  let c2_i32 : BitVec 32 := 2#32
  let c1_i32_1 : BitVec 32 := 1#32
  let v5 : BitVec 32 := Scalar.select v4 c2_i32 c1_i32_1
  let c0_i32_2 : BitVec 32 := 0#32
  let v6 : BitVec 32 := Scalar.select v3 c0_i32_2 v5
  let c0_i32_3 : BitVec 32 := 0#32
  let c0_i32_4 : BitVec 32 := 0#32
  let c0_i32_5 : BitVec 32 := 0#32
  ![v6.toNat, arg0.toNat, c0_i32_3.toNat, c0_i32_4.toNat]

def cc0_transform_27 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x1x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x1x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x1x256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1x1x256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]

abbrev stage0_18 : Fin 2 → Memref sig .tc .vmem S1x1x256x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]

abbrev stage0_19 : Fin 2 → Memref sig .tc .vmem S1x1x256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, true]

abbrev stage0_20 : Fin 2 → Memref sig .tc .vmem S1x1x256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, true]

abbrev stage0_21 : Fin 2 → Memref sig .tc .vmem S1x1x256x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true, true]

abbrev stage0_22 : Fin 2 → Memref sig .tc .vmem S1x1x256x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true, false]

abbrev stage0_23 : Fin 2 → Memref sig .tc .vmem S1x1x256x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true, false]

abbrev stage0_24 : Fin 2 → Memref sig .tc .vmem S1x4x768x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, false, true]

abbrev stage0_25 : Fin 2 → Memref sig .tc .vmem S1x4x768x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, false, false]

abbrev stage0_26 : Fin 2 → Memref sig .tc .vmem S1x4x768x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, false, true]

abbrev stage0_27 : Fin 2 → Memref sig .tc .vmem S1x1x2048x256 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true, true]
-- ==== ReferenceIdeal.lean ====
abbrev S1 : Shape := ⟨1, ![1]⟩
abbrev S4x4x8192x256 : Shape := ⟨4, ![4, 4, 8192, 256]⟩
abbrev S4x32x1024x256 : Shape := ⟨4, ![4, 32, 1024, 256]⟩
abbrev S4x4x256x256 : Shape := ⟨4, ![4, 4, 256, 256]⟩
abbrev S4x1x1024x256 : Shape := ⟨4, ![4, 1, 1024, 256]⟩
abbrev S16x15x31 : Shape := ⟨3, ![16, 15, 31]⟩
abbrev S4x4x8192x4x64 : Shape := ⟨5, ![4, 4, 8192, 4, 64]⟩
abbrev S_ : Shape := ⟨0, ![]⟩
abbrev S4x4x256x4x64 : Shape := ⟨5, ![4, 4, 256, 4, 64]⟩
abbrev S4x32x4x4x64x256 : Shape := ⟨6, ![4, 32, 4, 4, 64, 256]⟩
abbrev S4x4x32x256x4x64 : Shape := ⟨6, ![4, 4, 32, 256, 4, 64]⟩
abbrev S4x1x4x4x64x256 : Shape := ⟨6, ![4, 1, 4, 4, 64, 256]⟩
abbrev S4x4x1x256x4x64 : Shape := ⟨6, ![4, 4, 1, 256, 4, 64]⟩
abbrev S8192 : Shape := ⟨1, ![8192]⟩
abbrev S8192x1 : Shape := ⟨2, ![8192, 1]⟩
abbrev S128 : Shape := ⟨1, ![128]⟩
abbrev S1x128 : Shape := ⟨2, ![1, 128]⟩
abbrev S8192x128 : Shape := ⟨2, ![8192, 128]⟩
abbrev S8192x128x1 : Shape := ⟨3, ![8192, 128, 1]⟩
abbrev S4x4x8192x128x4x64 : Shape := ⟨6, ![4, 4, 8192, 128, 4, 64]⟩
abbrev S4x4x15x31 : Shape := ⟨4, ![4, 4, 15, 31]⟩
abbrev S8192x128x2 : Shape := ⟨3, ![8192, 128, 2]⟩
abbrev S4x4x8192x128 : Shape := ⟨4, ![4, 4, 8192, 128]⟩
abbrev S4x4x4x8192x128 : Shape := ⟨5, ![4, 4, 4, 8192, 128]⟩
abbrev S4x1x4x8192x128 : Shape := ⟨5, ![4, 1, 4, 8192, 128]⟩
abbrev S4x4x4x8192x256 : Shape := ⟨5, ![4, 4, 4, 8192, 256]⟩
abbrev S4x4x4x8192x384 : Shape := ⟨5, ![4, 4, 4, 8192, 384]⟩
abbrev S4x4x4x8192 : Shape := ⟨4, ![4, 4, 4, 8192]⟩
abbrev S4x4x4x8192x1 : Shape := ⟨5, ![4, 4, 4, 8192, 1]⟩
abbrev S4x4x4x64x8192 : Shape := ⟨5, ![4, 4, 4, 64, 8192]⟩

abbrev nBuf : Space → Nat
  | .hbm => 216
  | .vmem => 0
  | .smem => 0
  | _ => 0

abbrev hbmTy0_0 (i : Nat) : BufTy := match i % 128 with
  | 0 => ⟨S1, .f32⟩
  | 1 => ⟨S4x4x8192x256, .bf16⟩
  | 2 => ⟨S4x4x8192x256, .bf16⟩
  | 3 => ⟨S4x32x1024x256, .bf16⟩
  | 4 => ⟨S4x4x256x256, .bf16⟩
  | 5 => ⟨S4x1x1024x256, .bf16⟩
  | 6 => ⟨S16x15x31, .f32⟩
  | 7 => ⟨S4x4x8192x256, .f32⟩
  | 8 => ⟨S4x4x8192x4x64, .f32⟩
  | 9 => ⟨S_, .f32⟩
  | 10 => ⟨S_, .f32⟩
  | 11 => ⟨S4x4x8192x4x64, .f32⟩
  | 12 => ⟨S4x4x8192x4x64, .f32⟩
  | 13 => ⟨S4x4x8192x256, .f32⟩
  | 14 => ⟨S4x4x8192x4x64, .f32⟩
  | 15 => ⟨S4x4x256x256, .f32⟩
  | 16 => ⟨S4x4x256x4x64, .f32⟩
  | 17 => ⟨S4x32x1024x256, .f32⟩
  | 18 => ⟨S4x32x4x4x64x256, .f32⟩
  | 19 => ⟨S4x4x32x256x4x64, .f32⟩
  | 20 => ⟨S4x4x8192x4x64, .f32⟩
  | 21 => ⟨S4x1x1024x256, .f32⟩
  | 22 => ⟨S4x1x4x4x64x256, .f32⟩
  | 23 => ⟨S4x4x1x256x4x64, .f32⟩
  | 24 => ⟨S4x4x256x4x64, .f32⟩
  | 25 => ⟨S8192, .i32⟩
  | 26 => ⟨S8192x1, .i32⟩
  | 27 => ⟨S128, .i32⟩
  | 28 => ⟨S1x128, .i32⟩
  | 29 => ⟨S_, .i32⟩
  | 30 => ⟨S_, .i32⟩
  | 31 => ⟨S8192x1, .i32⟩
  | 32 => ⟨S8192x1, .i32⟩
  | 33 => ⟨S8192x1, .i32⟩
  | 34 => ⟨S_, .i32⟩
  | 35 => ⟨S8192x1, .i32⟩
  | 36 => ⟨S8192x1, .i1⟩
  | 37 => ⟨S8192x1, .i32⟩
  | 38 => ⟨S8192x1, .i32⟩
  | 39 => ⟨S_, .i32⟩
  | 40 => ⟨S8192x1, .i32⟩
  | 41 => ⟨S8192x1, .i1⟩
  | 42 => ⟨S8192x1, .i1⟩
  | 43 => ⟨S_, .i32⟩
  | 44 => ⟨S8192x1, .i32⟩
  | 45 => ⟨S8192x1, .i32⟩
  | 46 => ⟨S8192x1, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S8192x1, .i32⟩
  | 54 => ⟨S8192x1, .i32⟩
  | 55 => ⟨S_, .i32⟩
  | 56 => ⟨S8192x1, .i32⟩
  | 57 => ⟨S8192x1, .i1⟩
  | 58 => ⟨S_, .i32⟩
  | 59 => ⟨S8192x1, .i32⟩
  | 60 => ⟨S8192x1, .i1⟩
  | 61 => ⟨S_, .i32⟩
  | 62 => ⟨S_, .i1⟩
  | 63 => ⟨S8192x1, .i1⟩
  | 64 => ⟨S8192x1, .i1⟩
  | 65 => ⟨S8192x1, .i1⟩
  | 66 => ⟨S8192x1, .i32⟩
  | 67 => ⟨S8192x1, .i32⟩
  | 68 => ⟨S8192x1, .i32⟩
  | 69 => ⟨S_, .i32⟩
  | 70 => ⟨S8192x1, .i32⟩
  | 71 => ⟨S8192x1, .i32⟩
  | 72 => ⟨S_, .i32⟩
  | 73 => ⟨S_, .i32⟩
  | 74 => ⟨S_, .i32⟩
  | 75 => ⟨S8192x1, .i32⟩
  | 76 => ⟨S8192x1, .i32⟩
  | 77 => ⟨S_, .i32⟩
  | 78 => ⟨S8192x1, .i32⟩
  | 79 => ⟨S8192x1, .i32⟩
  | 80 => ⟨S_, .i32⟩
  | 81 => ⟨S_, .i32⟩
  | 82 => ⟨S1x128, .i32⟩
  | 83 => ⟨S1x128, .i32⟩
  | 84 => ⟨S1x128, .i32⟩
  | 85 => ⟨S_, .i32⟩
  | 86 => ⟨S1x128, .i32⟩
  | 87 => ⟨S1x128, .i1⟩
  | 88 => ⟨S1x128, .i32⟩
  | 89 => ⟨S1x128, .i32⟩
  | 90 => ⟨S_, .i32⟩
  | 91 => ⟨S1x128, .i32⟩
  | 92 => ⟨S1x128, .i1⟩
  | 93 => ⟨S1x128, .i1⟩
  | 94 => ⟨S_, .i32⟩
  | 95 => ⟨S1x128, .i32⟩
  | 96 => ⟨S1x128, .i32⟩
  | 97 => ⟨S1x128, .i32⟩
  | 98 => ⟨S8192x128, .i32⟩
  | 99 => ⟨S8192x128, .i32⟩
  | 100 => ⟨S8192x128, .i32⟩
  | 101 => ⟨S_, .i32⟩
  | 102 => ⟨S8192x1, .i32⟩
  | 103 => ⟨S8192x1, .i32⟩
  | 104 => ⟨S_, .i32⟩
  | 105 => ⟨S_, .i32⟩
  | 106 => ⟨S_, .i32⟩
  | 107 => ⟨S8192x1, .i32⟩
  | 108 => ⟨S8192x1, .i32⟩
  | 109 => ⟨S_, .i32⟩
  | 110 => ⟨S8192x1, .i32⟩
  | 111 => ⟨S8192x1, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S1x128, .i32⟩
  | 119 => ⟨S1x128, .i32⟩
  | 120 => ⟨S_, .i32⟩
  | 121 => ⟨S1x128, .i32⟩
  | 122 => ⟨S1x128, .i1⟩
  | 123 => ⟨S_, .i32⟩
  | 124 => ⟨S1x128, .i32⟩
  | 125 => ⟨S1x128, .i1⟩
  | 126 => ⟨S_, .i32⟩
  | 127 => ⟨S_, .i1⟩
  | _ => ⟨S1, .f32⟩

abbrev hbmTy0_1 (i : Nat) : BufTy := match i % 128 with
  | 0 => ⟨S1x128, .i1⟩
  | 1 => ⟨S1x128, .i1⟩
  | 2 => ⟨S1x128, .i1⟩
  | 3 => ⟨S1x128, .i32⟩
  | 4 => ⟨S1x128, .i32⟩
  | 5 => ⟨S1x128, .i32⟩
  | 6 => ⟨S8192x128, .i32⟩
  | 7 => ⟨S8192x128, .i32⟩
  | 8 => ⟨S8192x128, .i32⟩
  | 9 => ⟨S_, .i32⟩
  | 10 => ⟨S8192x128, .i32⟩
  | 11 => ⟨S8192x128, .i32⟩
  | 12 => ⟨S8192x128, .i32⟩
  | 13 => ⟨S_, .i32⟩
  | 14 => ⟨S8192x128, .i32⟩
  | 15 => ⟨S8192x128, .i1⟩
  | 16 => ⟨S_, .i32⟩
  | 17 => ⟨S8192x128, .i32⟩
  | 18 => ⟨S8192x128, .i32⟩
  | 19 => ⟨S8192x128, .i32⟩
  | 20 => ⟨S8192x128x1, .i32⟩
  | 21 => ⟨S4x4x8192x128x4x64, .f32⟩
  | 22 => ⟨S_, .i32⟩
  | 23 => ⟨S8192x128, .i32⟩
  | 24 => ⟨S8192x128, .i1⟩
  | 25 => ⟨S_, .i32⟩
  | 26 => ⟨S8192x128, .i32⟩
  | 27 => ⟨S8192x128, .i32⟩
  | 28 => ⟨S8192x128, .i32⟩
  | 29 => ⟨S8192x128x1, .i32⟩
  | 30 => ⟨S4x4x8192x128x4x64, .f32⟩
  | 31 => ⟨S4x4x15x31, .f32⟩
  | 32 => ⟨S8192x128, .i32⟩
  | 33 => ⟨S8192x128, .i32⟩
  | 34 => ⟨S_, .i32⟩
  | 35 => ⟨S8192x128, .i32⟩
  | 36 => ⟨S8192x128, .i32⟩
  | 37 => ⟨S8192x128, .i32⟩
  | 38 => ⟨S8192x128, .i32⟩
  | 39 => ⟨S_, .i32⟩
  | 40 => ⟨S8192x128, .i32⟩
  | 41 => ⟨S8192x128, .i32⟩
  | 42 => ⟨S_, .i32⟩
  | 43 => ⟨S8192x128, .i32⟩
  | 44 => ⟨S8192x128, .i1⟩
  | 45 => ⟨S_, .i32⟩
  | 46 => ⟨S8192x128, .i32⟩
  | 47 => ⟨S8192x128, .i32⟩
  | 48 => ⟨S8192x128, .i32⟩
  | 49 => ⟨S_, .i32⟩
  | 50 => ⟨S8192x128, .i32⟩
  | 51 => ⟨S8192x128, .i1⟩
  | 52 => ⟨S_, .i32⟩
  | 53 => ⟨S8192x128, .i32⟩
  | 54 => ⟨S8192x128, .i32⟩
  | 55 => ⟨S8192x128, .i32⟩
  | 56 => ⟨S8192x128x1, .i32⟩
  | 57 => ⟨S8192x128x1, .i32⟩
  | 58 => ⟨S8192x128x2, .i32⟩
  | 59 => ⟨S4x4x8192x128, .f32⟩
  | 60 => ⟨S4x4x4x8192x128, .f32⟩
  | 61 => ⟨S4x1x4x8192x128, .f32⟩
  | 62 => ⟨S4x4x4x8192x128, .f32⟩
  | 63 => ⟨S4x4x4x8192x128, .f32⟩
  | 64 => ⟨S4x4x4x8192x256, .f32⟩
  | 65 => ⟨S4x4x4x8192x384, .f32⟩
  | 66 => ⟨S_, .f32⟩
  | 67 => ⟨S4x4x4x8192, .f32⟩
  | 68 => ⟨S_, .f32⟩
  | 69 => ⟨S4x4x4x8192, .f32⟩
  | 70 => ⟨S4x4x4x8192, .f32⟩
  | 71 => ⟨S4x4x4x8192x1, .f32⟩
  | 72 => ⟨S4x4x4x8192x384, .f32⟩
  | 73 => ⟨S4x4x4x8192x384, .f32⟩
  | 74 => ⟨S4x4x4x8192x384, .f32⟩
  | 75 => ⟨S_, .f32⟩
  | 76 => ⟨S4x4x4x8192, .f32⟩
  | 77 => ⟨S4x4x4x8192x1, .f32⟩
  | 78 => ⟨S4x4x4x8192x384, .f32⟩
  | 79 => ⟨S4x4x4x8192x384, .f32⟩
  | 80 => ⟨S4x4x4x8192x128, .f32⟩
  | 81 => ⟨S4x4x8192x4x64, .f32⟩
  | 82 => ⟨S4x4x4x8192x256, .f32⟩
  | 83 => ⟨S4x4x4x64x8192, .f32⟩
  | 84 => ⟨S4x4x8192x4x64, .f32⟩
  | 85 => ⟨S4x4x8192x4x64, .f32⟩
  | 86 => ⟨S4x4x8192x256, .f32⟩
  | 87 => ⟨S4x4x8192x256, .bf16⟩
  | _ => ⟨S1, .f32⟩

abbrev hbmTy (i : Nat) : BufTy := match i / 128 with
  | 0 => hbmTy0_0 i
  | 1 => hbmTy0_1 i
  | _ => ⟨S1, .f32⟩

abbrev bufTy : (tb : Table) → Fin (tcTables nBuf tb) → BufTy
  | .hbm, ⟨i, _⟩ => hbmTy i
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_c : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_0 : Ref sig .tc := ⟨.hbm, 43, rfl⟩
abbrev main_call0_v12 : Ref sig .tc := ⟨.hbm, 44, rfl⟩
abbrev main_call0_v13 : Ref sig .tc := ⟨.hbm, 45, rfl⟩
abbrev main_v21 : Ref sig .tc := ⟨.hbm, 46, rfl⟩
abbrev main_c_0 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_c_1 : Ref sig .tc := ⟨.hbm, 55, rfl⟩
abbrev main_call1_v5 : Ref sig .tc := ⟨.hbm, 56, rfl⟩
abbrev main_call1_v6 : Ref sig .tc := ⟨.hbm, 57, rfl⟩
abbrev main_call1_c_2 : Ref sig .tc := ⟨.hbm, 58, rfl⟩
abbrev main_call1_v7 : Ref sig .tc := ⟨.hbm, 59, rfl⟩
abbrev main_call1_v8 : Ref sig .tc := ⟨.hbm, 60, rfl⟩
abbrev main_call1_c_3 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_v22 : Ref sig .tc := ⟨.hbm, 68, rfl⟩
abbrev main_c_1 : Ref sig .tc := ⟨.hbm, 69, rfl⟩
abbrev main_v23 : Ref sig .tc := ⟨.hbm, 70, rfl⟩
abbrev main_v24 : Ref sig .tc := ⟨.hbm, 71, rfl⟩
abbrev main_c_2 : Ref sig .tc := ⟨.hbm, 72, rfl⟩
abbrev main_c_3 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v25 : Ref sig .tc := ⟨.hbm, 79, rfl⟩
abbrev main_c_4 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_c : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_0 : Ref sig .tc := ⟨.hbm, 94, rfl⟩
abbrev main_call3_v12 : Ref sig .tc := ⟨.hbm, 95, rfl⟩
abbrev main_call3_v13 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_v29 : Ref sig .tc := ⟨.hbm, 100, rfl⟩
abbrev main_c_5 : Ref sig .tc := ⟨.hbm, 101, rfl⟩
abbrev main_v30 : Ref sig .tc := ⟨.hbm, 102, rfl⟩
abbrev main_v31 : Ref sig .tc := ⟨.hbm, 103, rfl⟩
abbrev main_c_6 : Ref sig .tc := ⟨.hbm, 104, rfl⟩
abbrev main_c_7 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_v32 : Ref sig .tc := ⟨.hbm, 111, rfl⟩
abbrev main_c_8 : Ref sig .tc := ⟨.hbm, 112, rfl⟩
abbrev main_call5_v0 : Ref sig .tc := ⟨.hbm, 113, rfl⟩
abbrev main_call5_c : Ref sig .tc := ⟨.hbm, 114, rfl⟩
abbrev main_call5_v1 : Ref sig .tc := ⟨.hbm, 115, rfl⟩
abbrev main_call5_c_0 : Ref sig .tc := ⟨.hbm, 116, rfl⟩
abbrev main_call5_v2 : Ref sig .tc := ⟨.hbm, 117, rfl⟩
abbrev main_call5_v3 : Ref sig .tc := ⟨.hbm, 118, rfl⟩
abbrev main_call5_v4 : Ref sig .tc := ⟨.hbm, 119, rfl⟩
abbrev main_call5_c_1 : Ref sig .tc := ⟨.hbm, 120, rfl⟩
abbrev main_call5_v5 : Ref sig .tc := ⟨.hbm, 121, rfl⟩
abbrev main_call5_v6 : Ref sig .tc := ⟨.hbm, 122, rfl⟩
abbrev main_call5_c_2 : Ref sig .tc := ⟨.hbm, 123, rfl⟩
abbrev main_call5_v7 : Ref sig .tc := ⟨.hbm, 124, rfl⟩
abbrev main_call5_v8 : Ref sig .tc := ⟨.hbm, 125, rfl⟩
abbrev main_call5_c_3 : Ref sig .tc := ⟨.hbm, 126, rfl⟩
abbrev main_call5_v9 : Ref sig .tc := ⟨.hbm, 127, rfl⟩
abbrev main_call5_v10 : Ref sig .tc := ⟨.hbm, 128, rfl⟩
abbrev main_call5_v11 : Ref sig .tc := ⟨.hbm, 129, rfl⟩
abbrev main_call5_v12 : Ref sig .tc := ⟨.hbm, 130, rfl⟩
abbrev main_call5_v13 : Ref sig .tc := ⟨.hbm, 131, rfl⟩
abbrev main_call5_v14 : Ref sig .tc := ⟨.hbm, 132, rfl⟩
abbrev main_v33 : Ref sig .tc := ⟨.hbm, 133, rfl⟩
abbrev main_v34 : Ref sig .tc := ⟨.hbm, 134, rfl⟩
abbrev main_v35 : Ref sig .tc := ⟨.hbm, 135, rfl⟩
abbrev main_v36 : Ref sig .tc := ⟨.hbm, 136, rfl⟩
abbrev main_c_9 : Ref sig .tc := ⟨.hbm, 137, rfl⟩
abbrev main_v37 : Ref sig .tc := ⟨.hbm, 138, rfl⟩
abbrev main_v38 : Ref sig .tc := ⟨.hbm, 139, rfl⟩
abbrev main_v39 : Ref sig .tc := ⟨.hbm, 140, rfl⟩
abbrev main_c_10 : Ref sig .tc := ⟨.hbm, 141, rfl⟩
abbrev main_v40 : Ref sig .tc := ⟨.hbm, 142, rfl⟩
abbrev main_v41 : Ref sig .tc := ⟨.hbm, 143, rfl⟩
abbrev main_c_11 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_v45 : Ref sig .tc := ⟨.hbm, 148, rfl⟩
abbrev main_v46 : Ref sig .tc := ⟨.hbm, 149, rfl⟩
abbrev main_c_12 : Ref sig .tc := ⟨.hbm, 150, rfl⟩
abbrev main_v47 : Ref sig .tc := ⟨.hbm, 151, rfl⟩
abbrev main_v48 : Ref sig .tc := ⟨.hbm, 152, rfl⟩
abbrev main_c_13 : Ref sig .tc := ⟨.hbm, 153, rfl⟩
abbrev main_v49 : Ref sig .tc := ⟨.hbm, 154, rfl⟩
abbrev main_v50 : Ref sig .tc := ⟨.hbm, 155, rfl⟩
abbrev main_v51 : Ref sig .tc := ⟨.hbm, 156, rfl⟩
abbrev main_v52 : Ref sig .tc := ⟨.hbm, 157, rfl⟩
abbrev main_v53 : Ref sig .tc := ⟨.hbm, 158, rfl⟩
abbrev main_v54 : Ref sig .tc := ⟨.hbm, 159, rfl⟩
abbrev main_v55 : Ref sig .tc := ⟨.hbm, 160, rfl⟩
abbrev main_v56 : Ref sig .tc := ⟨.hbm, 161, rfl⟩
abbrev main_c_14 : Ref sig .tc := ⟨.hbm, 162, rfl⟩
abbrev main_v57 : Ref sig .tc := ⟨.hbm, 163, rfl⟩
abbrev main_v58 : Ref sig .tc := ⟨.hbm, 164, rfl⟩
abbrev main_v59 : Ref sig .tc := ⟨.hbm, 165, rfl⟩
abbrev main_v60 : Ref sig .tc := ⟨.hbm, 166, rfl⟩
abbrev main_c_15 : Ref sig .tc := ⟨.hbm, 167, rfl⟩
abbrev main_v61 : Ref sig .tc := ⟨.hbm, 168, rfl⟩
abbrev main_v62 : Ref sig .tc := ⟨.hbm, 169, rfl⟩
abbrev main_c_16 : Ref sig .tc := ⟨.hbm, 170, rfl⟩
abbrev main_v63 : Ref sig .tc := ⟨.hbm, 171, rfl⟩
abbrev main_v64 : Ref sig .tc := ⟨.hbm, 172, rfl⟩
abbrev main_c_17 : Ref sig .tc := ⟨.hbm, 173, rfl⟩
abbrev main_v65 : Ref sig .tc := ⟨.hbm, 174, rfl⟩
abbrev main_v66 : Ref sig .tc := ⟨.hbm, 175, rfl⟩
abbrev main_v67 : Ref sig .tc := ⟨.hbm, 176, rfl⟩
abbrev main_c_18 : Ref sig .tc := ⟨.hbm, 177, rfl⟩
abbrev main_v68 : Ref sig .tc := ⟨.hbm, 178, rfl⟩
abbrev main_v69 : Ref sig .tc := ⟨.hbm, 179, rfl⟩
abbrev main_c_19 : Ref sig .tc := ⟨.hbm, 180, rfl⟩
abbrev main_v70 : Ref sig .tc := ⟨.hbm, 181, rfl⟩
abbrev main_v71 : Ref sig .tc := ⟨.hbm, 182, rfl⟩
abbrev main_v72 : Ref sig .tc := ⟨.hbm, 183, rfl⟩
abbrev main_v73 : Ref sig .tc := ⟨.hbm, 184, rfl⟩
abbrev main_v74 : Ref sig .tc := ⟨.hbm, 185, rfl⟩
abbrev main_v75 : Ref sig .tc := ⟨.hbm, 186, rfl⟩
abbrev main_v76 : Ref sig .tc := ⟨.hbm, 187, rfl⟩
abbrev main_v77 : Ref sig .tc := ⟨.hbm, 188, rfl⟩
abbrev main_v78 : Ref sig .tc := ⟨.hbm, 189, rfl⟩
abbrev main_v79 : Ref sig .tc := ⟨.hbm, 190, rfl⟩
abbrev main_v80 : Ref sig .tc := ⟨.hbm, 191, rfl⟩
abbrev main_v81 : Ref sig .tc := ⟨.hbm, 192, rfl⟩
abbrev main_v82 : Ref sig .tc := ⟨.hbm, 193, rfl⟩
abbrev main_cst_20 : Ref sig .tc := ⟨.hbm, 194, rfl⟩
abbrev main_v83 : Ref sig .tc := ⟨.hbm, 195, rfl⟩
abbrev main_cst_21 : Ref sig .tc := ⟨.hbm, 196, rfl⟩
abbrev main_v84 : Ref sig .tc := ⟨.hbm, 197, rfl⟩
abbrev main_v85 : Ref sig .tc := ⟨.hbm, 198, rfl⟩
abbrev main_v86 : Ref sig .tc := ⟨.hbm, 199, rfl⟩
abbrev main_v87 : Ref sig .tc := ⟨.hbm, 200, rfl⟩
abbrev main_v88 : Ref sig .tc := ⟨.hbm, 201, rfl⟩
abbrev main_v89 : Ref sig .tc := ⟨.hbm, 202, rfl⟩
abbrev main_cst_22 : Ref sig .tc := ⟨.hbm, 203, rfl⟩
abbrev main_v90 : Ref sig .tc := ⟨.hbm, 204, rfl⟩
abbrev main_v91 : Ref sig .tc := ⟨.hbm, 205, rfl⟩
abbrev main_v92 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev main_v96 : Ref sig .tc := ⟨.hbm, 210, rfl⟩
abbrev main_v97 : Ref sig .tc := ⟨.hbm, 211, rfl⟩
abbrev main_v98 : Ref sig .tc := ⟨.hbm, 212, rfl⟩
abbrev main_v99 : Ref sig .tc := ⟨.hbm, 213, rfl⟩
abbrev main_v100 : Ref sig .tc := ⟨.hbm, 214, rfl⟩
abbrev main_v101 : Ref sig .tc := ⟨.hbm, 215, rfl⟩

abbrev nD : Nat := 1
abbrev τ : Topo := Topo.v7x

variable {F : FTy → Type} [FloatOps F]
-- ==== Ctx.lean ====
abbrev S4x4x256x256 : Shape := ⟨4, ![4, 4, 256, 256]⟩
abbrev S4x1x1024x256 : Shape := ⟨4, ![4, 1, 1024, 256]⟩
abbrev S4x1x256x256 : Shape := ⟨4, ![4, 1, 256, 256]⟩
abbrev S1x1x1024x256 : Shape := ⟨4, ![1, 1, 1024, 256]⟩
abbrev S1x1x256x256 : Shape := ⟨4, ![1, 1, 256, 256]⟩
abbrev S256x256 : Shape := ⟨2, ![256, 256]⟩
abbrev S1x256 : Shape := ⟨2, ![1, 256]⟩
abbrev S256 : Shape := ⟨1, ![256]⟩
abbrev S1x1x64x256 : Shape := ⟨4, ![1, 1, 64, 256]⟩
abbrev S64x256 : Shape := ⟨2, ![64, 256]⟩
abbrev S16x256 : Shape := ⟨2, ![16, 256]⟩
abbrev S80x256 : Shape := ⟨2, ![80, 256]⟩

abbrev nBuf : Space → Nat
  | .hbm => 4
  | .vmem => 8
  | .smem => 0
  | _ => 0

abbrev bufTy : (tb : Table) → Fin (tcTables nBuf tb) → BufTy
  | .hbm, ⟨0, _⟩ => ⟨S4x4x256x256, .bf16⟩
  | .hbm, ⟨1, _⟩ => ⟨S4x4x256x256, .bf16⟩
  | .hbm, ⟨2, _⟩ => ⟨S4x1x1024x256, .bf16⟩
  | .hbm, ⟨3, _⟩ => ⟨S4x4x256x256, .bf16⟩
  | .local _ .vmem, ⟨0, _⟩ => ⟨S4x1x256x256, .bf16⟩
  | .local _ .vmem, ⟨1, _⟩ => ⟨S4x1x256x256, .bf16⟩
  | .local _ .vmem, ⟨2, _⟩ => ⟨S4x1x256x256, .bf16⟩
  | .local _ .vmem, ⟨3, _⟩ => ⟨S4x1x256x256, .bf16⟩
  | .local _ .vmem, ⟨4, _⟩ => ⟨S1x1x1024x256, .bf16⟩
  | .local _ .vmem, ⟨5, _⟩ => ⟨S1x1x1024x256, .bf16⟩
  | .local _ .vmem, ⟨6, _⟩ => ⟨S4x1x256x256, .bf16⟩
  | .local _ .vmem, ⟨7, _⟩ => ⟨S4x1x256x256, .bf16⟩
  | _, _ => ⟨S4x4x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4x1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CtxReferenceIdeal.lean ====
abbrev S4x4x256x256 : Shape := ⟨4, ![4, 4, 256, 256]⟩
abbrev S4x1x1024x256 : Shape := ⟨4, ![4, 1, 1024, 256]⟩
abbrev S4x4x256x4x64 : Shape := ⟨5, ![4, 4, 256, 4, 64]⟩
abbrev S_ : Shape := ⟨0, ![]⟩
abbrev S4x4x4x256x256 : Shape := ⟨5, ![4, 4, 4, 256, 256]⟩
abbrev S4x4x4x256 : Shape := ⟨4, ![4, 4, 4, 256]⟩
abbrev S4x4x4x256x1 : Shape := ⟨5, ![4, 4, 4, 256, 1]⟩
abbrev S4x1x4x4x64x256 : Shape := ⟨6, ![4, 1, 4, 4, 64, 256]⟩
abbrev S4x4x1x256x4x64 : Shape := ⟨6, ![4, 4, 1, 256, 4, 64]⟩
abbrev S4x4x4x64x256 : Shape := ⟨5, ![4, 4, 4, 64, 256]⟩

abbrev nBuf : Space → Nat
  | .hbm => 34
  | .vmem => 0
  | .smem => 0
  | _ => 0

abbrev bufTy : (tb : Table) → Fin (tcTables nBuf tb) → BufTy
  | .hbm, ⟨0, _⟩ => ⟨S4x4x256x256, .bf16⟩
  | .hbm, ⟨1, _⟩ => ⟨S4x4x256x256, .bf16⟩
  | .hbm, ⟨2, _⟩ => ⟨S4x1x1024x256, .bf16⟩
  | .hbm, ⟨3, _⟩ => ⟨S4x4x256x256, .f32⟩
  | .hbm, ⟨4, _⟩ => ⟨S4x4x256x4x64, .f32⟩
  | .hbm, ⟨5, _⟩ => ⟨S_, .f32⟩
  | .hbm, ⟨6, _⟩ => ⟨S_, .f32⟩
  | .hbm, ⟨7, _⟩ => ⟨S4x4x256x4x64, .f32⟩
  | .hbm, ⟨8, _⟩ => ⟨S4x4x256x4x64, .f32⟩
  | .hbm, ⟨9, _⟩ => ⟨S4x4x256x256, .f32⟩
  | .hbm, ⟨10, _⟩ => ⟨S4x4x256x4x64, .f32⟩
  | .hbm, ⟨11, _⟩ => ⟨S4x4x4x256x256, .f32⟩
  | .hbm, ⟨12, _⟩ => ⟨S_, .f32⟩
  | .hbm, ⟨13, _⟩ => ⟨S4x4x4x256, .f32⟩
  | .hbm, ⟨14, _⟩ => ⟨S_, .f32⟩
  | .hbm, ⟨15, _⟩ => ⟨S4x4x4x256, .f32⟩
  | .hbm, ⟨16, _⟩ => ⟨S4x4x4x256, .f32⟩
  | .hbm, ⟨17, _⟩ => ⟨S4x4x4x256x1, .f32⟩
  | .hbm, ⟨18, _⟩ => ⟨S4x4x4x256x256, .f32⟩
  | .hbm, ⟨19, _⟩ => ⟨S4x4x4x256x256, .f32⟩
  | .hbm, ⟨20, _⟩ => ⟨S4x4x4x256x256, .f32⟩
  | .hbm, ⟨21, _⟩ => ⟨S_, .f32⟩
  | .hbm, ⟨22, _⟩ => ⟨S4x4x4x256, .f32⟩
  | .hbm, ⟨23, _⟩ => ⟨S4x4x4x256x1, .f32⟩
  | .hbm, ⟨24, _⟩ => ⟨S4x4x4x256x256, .f32⟩
  | .hbm, ⟨25, _⟩ => ⟨S4x4x4x256x256, .f32⟩
  | .hbm, ⟨26, _⟩ => ⟨S4x1x1024x256, .f32⟩
  | .hbm, ⟨27, _⟩ => ⟨S4x1x4x4x64x256, .f32⟩
  | .hbm, ⟨28, _⟩ => ⟨S4x4x1x256x4x64, .f32⟩
  | .hbm, ⟨29, _⟩ => ⟨S4x4x256x4x64, .f32⟩
  | .hbm, ⟨30, _⟩ => ⟨S4x4x4x64x256, .f32⟩
  | .hbm, ⟨31, _⟩ => ⟨S4x4x256x4x64, .f32⟩
  | .hbm, ⟨32, _⟩ => ⟨S4x4x256x256, .f32⟩
  | .hbm, ⟨33, _⟩ => ⟨S4x4x256x256, .bf16⟩
  | _, _ => ⟨S4x4x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== NaMix.lean ====
abbrev S4x4x8192x256 : Shape := ⟨4, ![4, 4, 8192, 256]⟩
abbrev S4x8192x1024 : Shape := ⟨3, ![4, 8192, 1024]⟩
abbrev S4x1x1024 : Shape := ⟨3, ![4, 1, 1024]⟩
abbrev S1x1024 : Shape := ⟨2, ![1, 1024]⟩
abbrev S1024x1024 : Shape := ⟨2, ![1024, 1024]⟩
abbrev S1024x5632 : Shape := ⟨2, ![1024, 5632]⟩
abbrev S2816x1024 : Shape := ⟨2, ![2816, 1024]⟩
abbrev S4x1x512x256 : Shape := ⟨4, ![4, 1, 512, 256]⟩
abbrev S1x512x1024 : Shape := ⟨3, ![1, 512, 1024]⟩
abbrev S1x1x1024 : Shape := ⟨3, ![1, 1, 1024]⟩
abbrev S1x256x1024 : Shape := ⟨3, ![1, 256, 1024]⟩
abbrev S256x1024 : Shape := ⟨2, ![256, 1024]⟩
abbrev S1x1x256x256 : Shape := ⟨4, ![1, 1, 256, 256]⟩
abbrev S256x256 : Shape := ⟨2, ![256, 256]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩

abbrev nBuf : Space → Nat
  | .hbm => 11
  | .vmem => 18
  | .smem => 0
  | _ => 0

abbrev bufTy : (tb : Table) → Fin (tcTables nBuf tb) → BufTy
  | .hbm, ⟨0, _⟩ => ⟨S4x4x8192x256, .bf16⟩
  | .hbm, ⟨1, _⟩ => ⟨S4x8192x1024, .f32⟩
  | .hbm, ⟨2, _⟩ => ⟨S4x1x1024, .f32⟩
  | .hbm, ⟨3, _⟩ => ⟨S1x1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S1024x1024, .bf16⟩
  | .hbm, ⟨8, _⟩ => ⟨S1024x5632, .bf16⟩
  | .hbm, ⟨9, _⟩ => ⟨S2816x1024, .bf16⟩
  | .hbm, ⟨10, _⟩ => ⟨S4x8192x1024, .f32⟩
  | .local _ .vmem, ⟨0, _⟩ => ⟨S4x1x512x256, .bf16⟩
  | .local _ .vmem, ⟨1, _⟩ => ⟨S4x1x512x256, .bf16⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x1024, .bf16⟩
  | .local _ .vmem, ⟨14, _⟩ => ⟨S1024x5632, .bf16⟩
  | .local _ .vmem, ⟨15, _⟩ => ⟨S2816x1024, .bf16⟩
  | .local _ .vmem, ⟨16, _⟩ => ⟨S1x512x1024, .f32⟩
  | .local _ .vmem, ⟨17, _⟩ => ⟨S1x512x1024, .f32⟩
  | _, _ => ⟨S4x4x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== NaMixReferenceIdeal.lean ====
abbrev S4x4x8192x256 : Shape := ⟨4, ![4, 4, 8192, 256]⟩
abbrev S4x8192x1024 : Shape := ⟨3, ![4, 8192, 1024]⟩
abbrev S4x1x1024 : Shape := ⟨3, ![4, 1, 1024]⟩
abbrev S1x1024 : Shape := ⟨2, ![1, 1024]⟩
abbrev S1024x1024 : Shape := ⟨2, ![1024, 1024]⟩
abbrev S1024x5632 : Shape := ⟨2, ![1024, 5632]⟩
abbrev S2816x1024 : Shape := ⟨2, ![2816, 1024]⟩
abbrev S4x8192x4x256 : Shape := ⟨4, ![4, 8192, 4, 256]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩

abbrev nBuf : Space → Nat
  | .hbm => 60
  | .vmem => 0
  | .smem => 0
  | _ => 0

abbrev bufTy : (tb : Table) → Fin (tcTables nBuf tb) → BufTy
  | .hbm, ⟨0, _⟩ => ⟨S4x4x8192x256, .bf16⟩
  | .hbm, ⟨1, _⟩ => ⟨S4x8192x1024, .f32⟩
  | .hbm, ⟨2, _⟩ => ⟨S4x1x1024, .f32⟩
  | .hbm, ⟨3, _⟩ => ⟨S1x1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S1024x1024, .bf16⟩
  | .hbm, ⟨8, _⟩ => ⟨S1024x5632, .bf16⟩
  | .hbm, ⟨9, _⟩ => ⟨S2816x1024, .bf16⟩
  | .hbm, ⟨10, _⟩ => ⟨S4x8192x4x256, .bf16⟩
  | .hbm, ⟨11, _⟩ => ⟨S4x8192x1024, .bf16⟩
  | .hbm, ⟨12, _⟩ => ⟨S4x8192x1024, .f32⟩
  | .hbm, ⟨13, _⟩ => ⟨S1024x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S_, .f32⟩
  | .hbm, ⟨26, _⟩ => ⟨S4x8192x1, .f32⟩
  | .hbm, ⟨27, _⟩ => ⟨S4x8192x1, .f32⟩
  | .hbm, ⟨28, _⟩ => ⟨S4x8192x1, .f32⟩
  | .hbm, ⟨29, _⟩ => ⟨S4x8192x1024, .f32⟩
  | .hbm, ⟨30, _⟩ => ⟨S4x8192x1024, .f32⟩
  | .hbm, ⟨31, _⟩ => ⟨S1x1x1024, .f32⟩
  | .hbm, ⟨32, _⟩ => ⟨S4x8192x1024, .f32⟩
  | .hbm, ⟨33, _⟩ => ⟨S4x8192x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S1024x5632, .f32⟩
  | .hbm, ⟨42, _⟩ => ⟨S2816x1024, .f32⟩
  | .hbm, ⟨43, _⟩ => ⟨S4x8192x5632, .f32⟩
  | .hbm, ⟨44, _⟩ => ⟨S4x8192x2816, .f32⟩
  | .hbm, ⟨45, _⟩ => ⟨S4x8192x2816, .f32⟩
  | .hbm, ⟨46, _⟩ => ⟨S4x8192x2816, .f32⟩
  | .hbm, ⟨47, _⟩ => ⟨S4x8192x2816, .f32⟩
  | .hbm, ⟨48, _⟩ => ⟨S_, .f32⟩
  | .hbm, ⟨49, _⟩ => ⟨S4x8192x2816, .f32⟩
  | .hbm, ⟨50, _⟩ => ⟨S4x8192x2816, .f32⟩
  | .hbm, ⟨51, _⟩ => ⟨S_, .f32⟩
  | .hbm, ⟨52, _⟩ => ⟨S4x8192x2816, .f32⟩
  | .hbm, ⟨53, _⟩ => ⟨S4x8192x2816, .f32⟩
  | .hbm, ⟨54, _⟩ => ⟨S4x8192x2816, .f32⟩
  | .hbm, ⟨55, _⟩ => ⟨S4x8192x2816, .f32⟩
  | .hbm, ⟨56, _⟩ => ⟨S4x8192x1024, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | _, _ => ⟨S4x4x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== HgMix.lean ====
abbrev S4x8192x1024 : Shape := ⟨3, ![4, 8192, 1024]⟩
abbrev S1x1024 : Shape := ⟨2, ![1, 1024]⟩
abbrev S4x1x1024 : Shape := ⟨3, ![4, 1, 1024]⟩
abbrev S1024x1024 : Shape := ⟨2, ![1024, 1024]⟩
abbrev S1024x5632 : Shape := ⟨2, ![1024, 5632]⟩
abbrev S2816x1024 : Shape := ⟨2, ![2816, 1024]⟩
abbrev S1x512x1024 : Shape := ⟨3, ![1, 512, 1024]⟩
abbrev S1x1x1024 : Shape := ⟨3, ![1, 1, 1024]⟩
abbrev S1x256x1024 : Shape := ⟨3, ![1, 256, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩

abbrev nBuf : Space → Nat
  | .hbm => 14
  | .vmem => 23
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x1024, .bf16⟩
  | .hbm, ⟨3, _⟩ => ⟨S1x1024, .f32⟩
  | .hbm, ⟨4, _⟩ => ⟨S4x8192x1024, .f32⟩
  | .hbm, ⟨5, _⟩ => ⟨S4x1x1024, .f32⟩
  | .hbm, ⟨6, _⟩ => ⟨S1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S1024x1024, .bf16⟩
  | .hbm, ⟨11, _⟩ => ⟨S1024x5632, .bf16⟩
  | .hbm, ⟨12, _⟩ => ⟨S2816x1024, .bf16⟩
  | .hbm, ⟨13, _⟩ => ⟨S4x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1024x1024, .bf16⟩
  | .local _ .vmem, ⟨19, _⟩ => ⟨S1024x5632, .bf16⟩
  | .local _ .vmem, ⟨20, _⟩ => ⟨S2816x1024, .bf16⟩
  | .local _ .vmem, ⟨21, _⟩ => ⟨S1x512x1024, .f32⟩
  | .local _ .vmem, ⟨22, _⟩ => ⟨S1x512x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== HgMixReferenceIdeal.lean ====
abbrev S4x8192x1024 : Shape := ⟨3, ![4, 8192, 1024]⟩
abbrev S1x1024 : Shape := ⟨2, ![1, 1024]⟩
abbrev S4x1x1024 : Shape := ⟨3, ![4, 1, 1024]⟩
abbrev S1024x1024 : Shape := ⟨2, ![1024, 1024]⟩
abbrev S1024x5632 : Shape := ⟨2, ![1024, 5632]⟩
abbrev S2816x1024 : Shape := ⟨2, ![2816, 1024]⟩
abbrev S4x8192x8x128 : Shape := ⟨4, ![4, 8192, 8, 128]⟩
abbrev S8x128 : Shape := ⟨2, ![8, 128]⟩
abbrev S_ : Shape := ⟨0, ![]⟩
abbrev S4x8192x8 : Shape := ⟨3, ![4, 8192, 8]⟩
abbrev S4x8192x8x1 : Shape := ⟨4, ![4, 8192, 8, 1]⟩
abbrev S1x1x8x128 : Shape := ⟨4, ![1, 1, 8, 128]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩

abbrev nBuf : Space → Nat
  | .hbm => 84
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x1024, .bf16⟩
  | .hbm, ⟨3, _⟩ => ⟨S1x1024, .f32⟩
  | .hbm, ⟨4, _⟩ => ⟨S4x8192x1024, .f32⟩
  | .hbm, ⟨5, _⟩ => ⟨S4x1x1024, .f32⟩
  | .hbm, ⟨6, _⟩ => ⟨S1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S1024x1024, .bf16⟩
  | .hbm, ⟨11, _⟩ => ⟨S1024x5632, .bf16⟩
  | .hbm, ⟨12, _⟩ => ⟨S2816x1024, .bf16⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x8x128, .f32⟩
  | .hbm, ⟨17, _⟩ => ⟨S8x128, .f32⟩
  | .hbm, ⟨18, _⟩ => ⟨S4x8192x8x128, .f32⟩
  | .hbm, ⟨19, _⟩ => ⟨S_, .f32⟩
  | .hbm, ⟨20, _⟩ => ⟨S4x8192x8, .f32⟩
  | .hbm, ⟨21, _⟩ => ⟨S4x8192x8x1, .f32⟩
  | .hbm, ⟨22, _⟩ => ⟨S_, .f32⟩
  | .hbm, ⟨23, _⟩ => ⟨S4x8192x8x1, .f32⟩
  | .hbm, ⟨24, _⟩ => ⟨S4x8192x8x1, .f32⟩
  | .hbm, ⟨25, _⟩ => ⟨S_, .f32⟩
  | .hbm, ⟨26, _⟩ => ⟨S4x8192x8x1, .f32⟩
  | .hbm, ⟨27, _⟩ => ⟨S4x8192x8x1, .f32⟩
  | .hbm, ⟨28, _⟩ => ⟨S4x8192x8x1, .f32⟩
  | .hbm, ⟨29, _⟩ => ⟨S4x8192x8x128, .f32⟩
  | .hbm, ⟨30, _⟩ => ⟨S4x8192x8x128, .f32⟩
  | .hbm, ⟨31, _⟩ => ⟨S1x1x8x128, .f32⟩
  | .hbm, ⟨32, _⟩ => ⟨S4x8192x8x128, .f32⟩
  | .hbm, ⟨33, _⟩ => ⟨S4x8192x8x128, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S1024x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x8192x1, .f32⟩
  | .hbm, ⟨53, _⟩ => ⟨S4x8192x1024, .f32⟩
  | .hbm, ⟨54, _⟩ => ⟨S4x8192x1024, .f32⟩
  | .hbm, ⟨55, _⟩ => ⟨S1x1x1024, .f32⟩
  | .hbm, ⟨56, _⟩ => ⟨S4x8192x1024, .f32⟩
  | .hbm, ⟨57, _⟩ => ⟨S4x8192x1024, .f32⟩
  | .hbm, ⟨58, _⟩ => ⟨S_, .f32⟩
  | .hbm, ⟨59, _⟩ => ⟨S4x1x1024, .f32⟩
  | .hbm, ⟨60, _⟩ => ⟨S4x1x1024, .f32⟩
  | .hbm, ⟨61, _⟩ => ⟨S4x8192x1024, .f32⟩
  | .hbm, ⟨62, _⟩ => ⟨S4x8192x1024, .f32⟩
  | .hbm, ⟨63, _⟩ => ⟨S4x8192x1024, .f32⟩
  | .hbm, ⟨64, _⟩ => ⟨S4x8192x1024, .f32⟩
  | .hbm, ⟨65, _⟩ => ⟨S1024x5632, .f32⟩
  | .hbm, ⟨66, _⟩ => ⟨S2816x1024, .f32⟩
  | .hbm, ⟨67, _⟩ => ⟨S4x8192x5632, .f32⟩
  | .hbm, ⟨68, _⟩ => ⟨S4x8192x2816, .f32⟩
  | .hbm, ⟨69, _⟩ => ⟨S4x8192x2816, .f32⟩
  | .hbm, ⟨70, _⟩ => ⟨S4x8192x2816, .f32⟩
  | .hbm, ⟨71, _⟩ => ⟨S4x8192x2816, .f32⟩
  | .hbm, ⟨72, _⟩ => ⟨S_, .f32⟩
  | .hbm, ⟨73, _⟩ => ⟨S4x8192x2816, .f32⟩
  | .hbm, ⟨74, _⟩ => ⟨S4x8192x2816, .f32⟩
  | .hbm, ⟨75, _⟩ => ⟨S_, .f32⟩
  | .hbm, ⟨76, _⟩ => ⟨S4x8192x2816, .f32⟩
  | .hbm, ⟨77, _⟩ => ⟨S4x8192x2816, .f32⟩
  | .hbm, ⟨78, _⟩ => ⟨S4x8192x2816, .f32⟩
  | .hbm, ⟨79, _⟩ => ⟨S4x8192x2816, .f32⟩
  | .hbm, ⟨80, _⟩ => ⟨S4x8192x1024, .f32⟩
  | .hbm, ⟨81, _⟩ => ⟨S4x8192x1024, .f32⟩
  | .hbm, ⟨82, _⟩ => ⟨S4x8192x1024, .f32⟩
  | .hbm, ⟨83, _⟩ => ⟨S4x8192x1024, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩

abbrev nD : Nat := 1
abbrev τ : Topo := Topo.v7x

variable {F : FTy → Type} [FloatOps F]
-- ==== Qkv.lean ====
abbrev S4x8192x1024 : Shape := ⟨3, ![4, 8192, 1024]⟩
abbrev S1x1024 : Shape := ⟨2, ![1, 1024]⟩
abbrev S4x1x1024 : Shape := ⟨3, ![4, 1, 1024]⟩
abbrev S1024x2048 : Shape := ⟨2, ![1024, 2048]⟩
abbrev S1024x1024 : Shape := ⟨2, ![1024, 1024]⟩
abbrev S16x64x128 : Shape := ⟨3, ![16, 64, 128]⟩
abbrev S2x128x16x64 : Shape := ⟨4, ![2, 128, 16, 64]⟩
abbrev S1024x128 : Shape := ⟨2, ![1024, 128]⟩
abbrev S256x1024 : Shape := ⟨2, ![256, 1024]⟩
abbrev S4x4x8192x256 : Shape := ⟨4, ![4, 4, 8192, 256]⟩
abbrev S4x32x1024x256 : Shape := ⟨4, ![4, 32, 1024, 256]⟩
abbrev S1x1024x1024 : Shape := ⟨3, ![1, 1024, 1024]⟩
abbrev S1x1x1024 : Shape := ⟨3, ![1, 1, 1024]⟩
abbrev S4x1x1024x256 : Shape := ⟨4, ![4, 1, 1024, 256]⟩
abbrev S1x4x1024x256 : Shape := ⟨4, ![1, 4, 1024, 256]⟩
abbrev S1024 : Shape := ⟨1, ![1024]⟩
abbrev S1024x1 : Shape := ⟨2, ![1024, 1]⟩
abbrev S1024x256 : Shape := ⟨2, ![1024, 256]⟩
abbrev S1x1x1024x256 : Shape := ⟨4, ![1, 1, 1024, 256]⟩

abbrev nBuf : Space → Nat
  | .hbm => 21
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S1024x2048, .bf16⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S16x64x128, .i32⟩
  | .hbm, ⟨9, _⟩ => ⟨S16x64x128, .i32⟩
  | .hbm, ⟨10, _⟩ => ⟨S16x64x128, .i1⟩
  | .hbm, ⟨11, _⟩ => ⟨S16x64x128, .bf16⟩
  | .hbm, ⟨12, _⟩ => ⟨S2x128x16x64, .i32⟩
  | .hbm, ⟨13, _⟩ => ⟨S2x128x16x64, .i32⟩
  | .hbm, ⟨14, _⟩ => ⟨S2x128x16x64, .i1⟩
  | .hbm, ⟨15, _⟩ => ⟨S2x128x16x64, .bf16⟩
  | .hbm, ⟨16, _⟩ => ⟨S1024x128, .bf16⟩
  | .hbm, ⟨17, _⟩ => ⟨S256x1024, .bf16⟩
  | .hbm, ⟨18, _⟩ => ⟨S4x4x8192x256, .bf16⟩
  | .hbm, ⟨19, _⟩ => ⟨S4x4x8192x256, .bf16⟩
  | .hbm, ⟨20, _⟩ => ⟨S4x32x1024x256, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x128, .bf16⟩
  | .local _ .vmem, ⟨12, _⟩ => ⟨S256x1024, .bf16⟩
  | .local _ .vmem, ⟨13, _⟩ => ⟨S4x1x1024x256, .bf16⟩
  | .local _ .vmem, ⟨14, _⟩ => ⟨S4x1x1024x256, .bf16⟩
  | .local _ .vmem, ⟨15, _⟩ => ⟨S4x1x1024x256, .bf16⟩
  | .local _ .vmem, ⟨16, _⟩ => ⟨S4x1x1024x256, .bf16⟩
  | .local _ .vmem, ⟨17, _⟩ => ⟨S1x4x1024x256, .bf16⟩
  | .local _ .vmem, ⟨18, _⟩ => ⟨S1x4x1024x256, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S4x1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4x1x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== QkvReferenceIdeal.lean ====
abbrev S4x8192x1024 : Shape := ⟨3, ![4, 8192, 1024]⟩
abbrev S1x1024 : Shape := ⟨2, ![1, 1024]⟩
abbrev S4x1x1024 : Shape := ⟨3, ![4, 1, 1024]⟩
abbrev S1024x2048 : Shape := ⟨2, ![1024, 2048]⟩
abbrev S1024x1024 : Shape := ⟨2, ![1024, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2048 : Shape := ⟨3, ![4, 8192, 2048]⟩
abbrev S4x8192x16x64 : Shape := ⟨4, ![4, 8192, 16, 64]⟩
abbrev S16x64 : Shape := ⟨2, ![16, 64]⟩
abbrev S4x8192x16 : Shape := ⟨3, ![4, 8192, 16]⟩
abbrev S4x8192x16x1 : Shape := ⟨4, ![4, 8192, 16, 1]⟩
abbrev S1x1x16x64 : Shape := ⟨4, ![1, 1, 16, 64]⟩
abbrev S4x8192x4x256 : Shape := ⟨4, ![4, 8192, 4, 256]⟩
abbrev S4x4x8192x256 : Shape := ⟨4, ![4, 4, 8192, 256]⟩
abbrev S4x32x256x1024 : Shape := ⟨4, ![4, 32, 256, 1024]⟩
abbrev S4x32x1024x256 : Shape := ⟨4, ![4, 32, 1024, 256]⟩

abbrev nBuf : Space → Nat
  | .hbm => 83
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S1024x2048, .bf16⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S1024x2048, .f32⟩
  | .hbm, ⟨32, _⟩ => ⟨S4x8192x2048, .f32⟩
  | .hbm, ⟨33, _⟩ => ⟨S4x8192x1024, .f32⟩
  | .hbm, ⟨34, _⟩ => ⟨S4x8192x1024, .f32⟩
  | .hbm, ⟨35, _⟩ => ⟨S1024x1024, .f32⟩
  | .hbm, ⟨36, _⟩ => ⟨S1024x1024, .f32⟩
  | .hbm, ⟨37, _⟩ => ⟨S4x8192x1024, .f32⟩
  | .hbm, ⟨38, _⟩ => ⟨S4x8192x16x64, .f32⟩
  | .hbm, ⟨39, _⟩ => ⟨S16x64, .f32⟩
  | .hbm, ⟨40, _⟩ => ⟨S4x8192x16x64, .f32⟩
  | .hbm, ⟨41, _⟩ => ⟨S_, .f32⟩
  | .hbm, ⟨42, _⟩ => ⟨S4x8192x16, .f32⟩
  | .hbm, ⟨43, _⟩ => ⟨S4x8192x16x1, .f32⟩
  | .hbm, ⟨44, _⟩ => ⟨S_, .f32⟩
  | .hbm, ⟨45, _⟩ => ⟨S4x8192x16x1, .f32⟩
  | .hbm, ⟨46, _⟩ => ⟨S4x8192x16x1, .f32⟩
  | .hbm, ⟨47, _⟩ => ⟨S_, .f32⟩
  | .hbm, ⟨48, _⟩ => ⟨S4x8192x16x1, .f32⟩
  | .hbm, ⟨49, _⟩ => ⟨S4x8192x16x1, .f32⟩
  | .hbm, ⟨50, _⟩ => ⟨S4x8192x16x1, .f32⟩
  | .hbm, ⟨51, _⟩ => ⟨S4x8192x16x64, .f32⟩
  | .hbm, ⟨52, _⟩ => ⟨S4x8192x16x64, .f32⟩
  | .hbm, ⟨53, _⟩ => ⟨S1x1x16x64, .f32⟩
  | .hbm, ⟨54, _⟩ => ⟨S4x8192x16x64, .f32⟩
  | .hbm, ⟨55, _⟩ => ⟨S4x8192x16x64, .f32⟩
  | .hbm, ⟨56, _⟩ => ⟨S4x8192x4x256, .f32⟩
  | .hbm, ⟨57, _⟩ => ⟨S4x4x8192x256, .f32⟩
  | .hbm, ⟨58, _⟩ => ⟨S4x4x8192x256, .bf16⟩
  | .hbm, ⟨59, _⟩ => ⟨S4x8192x16x64, .f32⟩
  | .hbm, ⟨60, _⟩ => ⟨S16x64, .f32⟩
  | .hbm, ⟨61, _⟩ => ⟨S4x8192x16x64, .f32⟩
  | .hbm, ⟨62, _⟩ => ⟨S_, .f32⟩
  | .hbm, ⟨63, _⟩ => ⟨S4x8192x16, .f32⟩
  | .hbm, ⟨64, _⟩ => ⟨S4x8192x16x1, .f32⟩
  | .hbm, ⟨65, _⟩ => ⟨S_, .f32⟩
  | .hbm, ⟨66, _⟩ => ⟨S4x8192x16x1, .f32⟩
  | .hbm, ⟨67, _⟩ => ⟨S4x8192x16x1, .f32⟩
  | .hbm, ⟨68, _⟩ => ⟨S_, .f32⟩
  | .hbm, ⟨69, _⟩ => ⟨S4x8192x16x1, .f32⟩
  | .hbm, ⟨70, _⟩ => ⟨S4x8192x16x1, .f32⟩
  | .hbm, ⟨71, _⟩ => ⟨S4x8192x16x1, .f32⟩
  | .hbm, ⟨72, _⟩ => ⟨S4x8192x16x64, .f32⟩
  | .hbm, ⟨73, _⟩ => ⟨S4x8192x16x64, .f32⟩
  | .hbm, ⟨74, _⟩ => ⟨S1x1x16x64, .f32⟩
  | .hbm, ⟨75, _⟩ => ⟨S4x8192x16x64, .f32⟩
  | .hbm, ⟨76, _⟩ => ⟨S4x8192x16x64, .f32⟩
  | .hbm, ⟨77, _⟩ => ⟨S4x8192x4x256, .f32⟩
  | .hbm, ⟨78, _⟩ => ⟨S4x4x8192x256, .f32⟩
  | .hbm, ⟨79, _⟩ => ⟨S4x4x8192x256, .bf16⟩
  | .hbm, ⟨80, _⟩ => ⟨S4x32x256x1024, .f32⟩
  | .hbm, ⟨81, _⟩ => ⟨S4x32x1024x256, .f32⟩
  | .hbm, ⟨82, _⟩ => ⟨S4x32x1024x256, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Proj.lean ====
abbrev S4x8192x1024 : Shape := ⟨3, ![4, 8192, 1024]⟩
abbrev S1x1024 : Shape := ⟨2, ![1, 1024]⟩
abbrev S4x1x1024 : Shape := ⟨3, ![4, 1, 1024]⟩
abbrev S1024x5120 : Shape := ⟨2, ![1024, 5120]⟩
abbrev S2x1x1024 : Shape := ⟨3, ![2, 1, 1024]⟩
abbrev S64x64 : Shape := ⟨2, ![64, 64]⟩
abbrev S1x64x64 : Shape := ⟨3, ![1, 64, 64]⟩
abbrev S2x64x64 : Shape := ⟨3, ![2, 64, 64]⟩
abbrev S2x64x128 : Shape := ⟨3, ![2, 64, 128]⟩
abbrev S2x4x8192x1024 : Shape := ⟨4, ![2, 4, 8192, 1024]⟩
abbrev S1x512x1024 : Shape := ⟨3, ![1, 512, 1024]⟩
abbrev S1x1x1024 : Shape := ⟨3, ![1, 1, 1024]⟩
abbrev S2x1x512x1024 : Shape := ⟨4, ![2, 1, 512, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1x1x512x1024 : Shape := ⟨4, ![1, 1, 512, 1024]⟩
abbrev S64x1024 : Shape := ⟨2, ![64, 1024]⟩
abbrev S128x1024 : Shape := ⟨2, ![128, 1024]⟩
abbrev S1x64x128 : Shape := ⟨3, ![1, 64, 128]⟩
abbrev S64x128 : Shape := ⟨2, ![64, 128]⟩
abbrev S1x1x64x1024 : Shape := ⟨4, ![1, 1, 64, 1024]⟩

abbrev nBuf : Space → Nat
  | .hbm => 20
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S1024x5120, .bf16⟩
  | .hbm, ⟨5, _⟩ => ⟨S2x1x1024, .f32⟩
  | .hbm, ⟨6, _⟩ => ⟨S64x64, .i32⟩
  | .hbm, ⟨7, _⟩ => ⟨S64x64, .i32⟩
  | .hbm, ⟨8, _⟩ => ⟨S64x64, .i1⟩
  | .hbm, ⟨9, _⟩ => ⟨S64x64, .i1⟩
  | .hbm, ⟨10, _⟩ => ⟨S1x64x64, .i1⟩
  | .hbm, ⟨11, _⟩ => ⟨S1x64x64, .i1⟩
  | .hbm, ⟨12, _⟩ => ⟨S2x64x64, .i1⟩
  | .hbm, ⟨13, _⟩ => ⟨S2x64x128, .i1⟩
  | .hbm, ⟨14, _⟩ => ⟨S2x64x128, .bf16⟩
  | .hbm, ⟨15, _⟩ => ⟨S4x8192x1024, .bf16⟩
  | .hbm, ⟨16, _⟩ => ⟨S4x8192x1024, .bf16⟩
  | .hbm, ⟨17, _⟩ => ⟨S4x8192x1024, .bf16⟩
  | .hbm, ⟨18, _⟩ => ⟨S2x4x8192x1024, .bf16⟩
  | .hbm, ⟨19, _⟩ => ⟨S2x4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x5120, .bf16⟩
  | .local _ .vmem, ⟨8, _⟩ => ⟨S2x1x1024, .f32⟩
  | .local _ .vmem, ⟨9, _⟩ => ⟨S2x64x128, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S2x1x512x1024, .bf16⟩
  | .local _ .vmem, ⟨17, _⟩ => ⟨S2x1x512x1024, .bf16⟩
  | .local _ .vmem, ⟨18, _⟩ => ⟨S2x1x512x1024, .f32⟩
  | .local _ .vmem, ⟨19, _⟩ => ⟨S2x1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ProjIdeal.lean ====
variable {F : FTy → Type} [FloatOps F] [Named F]
def κ : String → Option EReal := fun
  | "log2e" => some (((Real.log 2)⁻¹ : ℝ) : EReal)
  | _ => none
-- ==== ProjReferenceIdeal.lean ====
abbrev S4x8192x1024 : Shape := ⟨3, ![4, 8192, 1024]⟩
abbrev S1x1024 : Shape := ⟨2, ![1, 1024]⟩
abbrev S4x1x1024 : Shape := ⟨3, ![4, 1, 1024]⟩
abbrev S1024x5120 : Shape := ⟨2, ![1024, 5120]⟩
abbrev S2x1x1024 : Shape := ⟨3, ![2, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5120 : Shape := ⟨3, ![4, 8192, 5120]⟩
abbrev S1x4x8192x1024 : Shape := ⟨4, ![1, 4, 8192, 1024]⟩
abbrev S2x4x8192x1024 : Shape := ⟨4, ![2, 4, 8192, 1024]⟩
abbrev S2x1x1x1024 : Shape := ⟨4, ![2, 1, 1, 1024]⟩
abbrev S2x4x128x64x1024 : Shape := ⟨5, ![2, 4, 128, 64, 1024]⟩
abbrev S1x4x128x64x1024 : Shape := ⟨5, ![1, 4, 128, 64, 1024]⟩
abbrev S4x128x64x1024 : Shape := ⟨4, ![4, 128, 64, 1024]⟩

abbrev nBuf : Space → Nat
  | .hbm => 111
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S1024x5120, .bf16⟩
  | .hbm, ⟨5, _⟩ => ⟨S2x1x1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S1024x5120, .f32⟩
  | .hbm, ⟨30, _⟩ => ⟨S4x8192x5120, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S1x4x8192x1024, .f32⟩
  | .hbm, ⟨37, _⟩ => ⟨S1x4x8192x1024, .f32⟩
  | .hbm, ⟨38, _⟩ => ⟨S2x4x8192x1024, .f32⟩
  | .hbm, ⟨39, _⟩ => ⟨S2x1x1x1024, .f32⟩
  | .hbm, ⟨40, _⟩ => ⟨S_, .f32⟩
  | .hbm, ⟨41, _⟩ => ⟨S2x1x1x1024, .f32⟩
  | .hbm, ⟨42, _⟩ => ⟨S2x1x1x1024, .f32⟩
  | .hbm, ⟨43, _⟩ => ⟨S2x4x8192x1024, .f32⟩
  | .hbm, ⟨44, _⟩ => ⟨S2x4x8192x1024, .f32⟩
  | .hbm, ⟨45, _⟩ => ⟨S2x4x8192x1024, .f32⟩
  | .hbm, ⟨46, _⟩ => ⟨S_, .f32⟩
  | .hbm, ⟨47, _⟩ => ⟨S2x4x8192x1024, .f32⟩
  | .hbm, ⟨48, _⟩ => ⟨S2x4x8192x1024, .f32⟩
  | .hbm, ⟨49, _⟩ => ⟨S_, .f32⟩
  | .hbm, ⟨50, _⟩ => ⟨S2x4x8192x1024, .f32⟩
  | .hbm, ⟨51, _⟩ => ⟨S2x4x8192x1024, .f32⟩
  | .hbm, ⟨52, _⟩ => ⟨S2x4x8192x1024, .f32⟩
  | .hbm, ⟨53, _⟩ => ⟨S2x4x8192x1024, .f32⟩
  | .hbm, ⟨54, _⟩ => ⟨S_, .f32⟩
  | .hbm, ⟨55, _⟩ => ⟨S2x1x1x1024, .f32⟩
  | .hbm, ⟨56, _⟩ => ⟨S2x1x1x1024, .f32⟩
  | .hbm, ⟨57, _⟩ => ⟨S2x4x8192x1024, .f32⟩
  | .hbm, ⟨58, _⟩ => ⟨S2x4x8192x1024, .f32⟩
  | .hbm, ⟨59, _⟩ => ⟨S_, .f32⟩
  | .hbm, ⟨60, _⟩ => ⟨S2x4x8192x1024, .f32⟩
  | .hbm, ⟨61, _⟩ => ⟨S2x4x8192x1024, .f32⟩
  | .hbm, ⟨62, _⟩ => ⟨S_, .f32⟩
  | .hbm, ⟨63, _⟩ => ⟨S2x4x8192x1024, .f32⟩
  | .hbm, ⟨64, _⟩ => ⟨S2x4x8192x1024, .f32⟩
  | .hbm, ⟨65, _⟩ => ⟨S2x4x8192x1024, .f32⟩
  | .hbm, ⟨66, _⟩ => ⟨S2x4x8192x1024, .f32⟩
  | .hbm, ⟨67, _⟩ => ⟨S2x4x8192x1024, .f32⟩
  | .hbm, ⟨68, _⟩ => ⟨S2x4x8192x1024, .f32⟩
  | .hbm, ⟨69, _⟩ => ⟨S2x4x8192x1024, .f32⟩
  | .hbm, ⟨70, _⟩ => ⟨S_, .f32⟩
  | .hbm, ⟨71, _⟩ => ⟨S_, .f32⟩
  | .hbm, ⟨72, _⟩ => ⟨S2x4x8192x1024, .f32⟩
  | .hbm, ⟨73, _⟩ => ⟨S2x4x8192x1024, .f32⟩
  | .hbm, ⟨74, _⟩ => ⟨S2x4x128x64x1024, .f32⟩
  | .hbm, ⟨75, _⟩ => ⟨S1x4x128x64x1024, .f32⟩
  | .hbm, ⟨76, _⟩ => ⟨S4x128x64x1024, .f32⟩
  | .hbm, ⟨77, _⟩ => ⟨S_, .f32⟩
  | .hbm, ⟨78, _⟩ => ⟨S_, .f32⟩
  | .hbm, ⟨79, _⟩ => ⟨S4x128x64x1024, .f32⟩
  | .hbm, ⟨80, _⟩ => ⟨S1x4x128x64x1024, .f32⟩
  | .hbm, ⟨81, _⟩ => ⟨S4x128x64x1024, .f32⟩
  | .hbm, ⟨82, _⟩ => ⟨S_, .f32⟩
  | .hbm, ⟨83, _⟩ => ⟨S_, .f32⟩
  | .hbm, ⟨84, _⟩ => ⟨S4x128x64x1024, .f32⟩
  | .hbm, ⟨85, _⟩ => ⟨S1x4x128x64x1024, .f32⟩
  | .hbm, ⟨86, _⟩ => ⟨S1x4x128x64x1024, .f32⟩
  | .hbm, ⟨87, _⟩ => ⟨S2x4x128x64x1024, .f32⟩
  | .hbm, ⟨88, _⟩ => ⟨S4x8192x1024, .f32⟩
  | .hbm, ⟨89, _⟩ => ⟨S4x8192x1024, .f32⟩
  | .hbm, ⟨90, _⟩ => ⟨S_, .f32⟩
  | .hbm, ⟨91, _⟩ => ⟨S4x8192x1024, .f32⟩
  | .hbm, ⟨92, _⟩ => ⟨S4x8192x1024, .f32⟩
  | .hbm, ⟨93, _⟩ => ⟨S_, .f32⟩
  | .hbm, ⟨94, _⟩ => ⟨S4x8192x1024, .f32⟩
  | .hbm, ⟨95, _⟩ => ⟨S4x8192x1024, .f32⟩
  | .hbm, ⟨96, _⟩ => ⟨S4x8192x1024, .f32⟩
  | .hbm, ⟨97, _⟩ => ⟨S4x8192x1024, .bf16⟩
  | .hbm, ⟨98, _⟩ => ⟨S4x8192x1024, .bf16⟩
  | .hbm, ⟨99, _⟩ => ⟨S4x8192x1024, .f32⟩
  | .hbm, ⟨100, _⟩ => ⟨S4x8192x1024, .f32⟩
  | .hbm, ⟨101, _⟩ => ⟨S_, .f32⟩
  | .hbm, ⟨102, _⟩ => ⟨S4x8192x1024, .f32⟩
  | .hbm, ⟨103, _⟩ => ⟨S4x8192x1024, .f32⟩
  | .hbm, ⟨104, _⟩ => ⟨S_, .f32⟩
  | .hbm, ⟨105, _⟩ => ⟨S4x8192x1024, .f32⟩
  | .hbm, ⟨106, _⟩ => ⟨S4x8192x1024, .f32⟩
  | .hbm, ⟨107, _⟩ => ⟨S4x8192x1024, .f32⟩
  | .hbm, ⟨108, _⟩ => ⟨S4x8192x1024, .bf16⟩
  | .hbm, ⟨109, _⟩ => ⟨S2x4x8192x1024, .bf16⟩
  | .hbm, ⟨110, _⟩ => ⟨S2x4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_call0_cst : Ref sig .tc := ⟨.hbm, 77, rfl⟩
abbrev main_call0_v0 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_call1_cst : Ref sig .tc := ⟨.hbm, 82, rfl⟩
abbrev main_call1_v0 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_call2_v0 : Ref sig .tc := ⟨.hbm, 88, rfl⟩
abbrev main_call2_v1 : Ref sig .tc := ⟨.hbm, 89, rfl⟩
abbrev main_call2_cst : Ref sig .tc := ⟨.hbm, 90, rfl⟩
abbrev main_call2_v2 : Ref sig .tc := ⟨.hbm, 91, rfl⟩
abbrev main_call2_v3 : Ref sig .tc := ⟨.hbm, 92, rfl⟩
abbrev main_call2_cst_0 : Ref sig .tc := ⟨.hbm, 93, rfl⟩
abbrev main_call2_v4 : Ref sig .tc := ⟨.hbm, 94, rfl⟩
abbrev main_call2_v5 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call3_v0 : Ref sig .tc := ⟨.hbm, 99, rfl⟩
abbrev main_call3_v1 : Ref sig .tc := ⟨.hbm, 100, rfl⟩
abbrev main_call3_cst : Ref sig .tc := ⟨.hbm, 101, rfl⟩
abbrev main_call3_v2 : Ref sig .tc := ⟨.hbm, 102, rfl⟩
abbrev main_call3_v3 : Ref sig .tc := ⟨.hbm, 103, rfl⟩
abbrev main_call3_cst_0 : Ref sig .tc := ⟨.hbm, 104, rfl⟩
abbrev main_call3_v4 : Ref sig .tc := ⟨.hbm, 105, rfl⟩
abbrev main_call3_v5 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩

abbrev nD : Nat := 1
abbrev τ : Topo := Topo.v7x

variable {F : FTy → Type} [FloatOps F]
-- ==== Proof.AttnTile.lean ====
module

public import proofs.«01_k».proof.Proof.Gen.KernelIdeal.Frame

/-! One tile of the neighbourhood attention: what the body computes for 256 queries of one group of four
    heads, from their query rows, three key and value blocks, the context's key and value block and the
    bias rows; and the block the body leaves in its output window. -/

@[expose] public section

set_option maxRecDepth 16384

noncomputable section

namespace Cert.KernelIdeal.Attn

open Idealize.ShloMosaic Idealize.ShloMosaic.TcCoe
open Cert.KernelIdeal.Gen

variable {F : FTy → Type} [FloatOps F]

/-- Whether the scores are bounded: the flag the body branches on. -/
def flag (x0 : Vec F S1 .f32) : BitVec 1 :=
  Scalar.cmpf .ogt (View.ld x0 (Rect.unit (s := S1) ![0] S1.size inb_S1_S1_0) (Shape.Idx.first (numel1_S1.symm ▸ Nat.one_pos)))
    (Scalar.ofBits .f32 0x3F000000#32 : F .f32)

/-- The head a lane belongs to: its index floor-divided by 64. -/
def laneHead : IVec S1x256 32 :=
  let lane : IVec S1x256 32 := iota .tc S1x256 32 [1] iota_S1x256_d1_w32
  let quot : IVec S1x256 32 := divsi lane (broadcast S1x256 64#32)
  let sign : IVec S1x256 32 := subi
    (extui 32 (cmpi .sgt lane (broadcast S1x256 0#32)) natLt_1_32)
    (extui 32 (cmpi .slt lane (broadcast S1x256 0#32)) natLt_1_32)
  let signs : BitVec 32 := Scalar.subi
    (Scalar.extui (Scalar.cmpi .sgt 64#32 0#32)) (Scalar.extui (Scalar.cmpi .slt 64#32 0#32))
  select (andi (cmpi .ne sign (broadcast S1x256 signs))
      (cmpi .ne (remsi lane (broadcast S1x256 64#32)) (broadcast S1x256 0#32)))
    (subi quot (broadcast S1x256 1#32)) quot

/-- The query rows with the lanes of every other head zeroed. -/
def headRows (q : Vec F S1x1x256x256 .bf16) (h : BitVec 32) : FVec F S256x256 .bf16 :=
  select (broadcastTo S256x256
      (shapeCast S1x256 (cmpi .eq laneHead (broadcast S1x256 h)) shapeCasts_S1x256_S1x256)
      broadcasts_S1x256_S256x256)
    (shapeCast S256x256 q shapeCasts_S1x1x256x256_S256x256)
    (broadcast S256x256 (Scalar.ofBits .bf16 0x0000#16 : F .bf16))

/-- Scores of a key block against the queries, keys down the rows. -/
def scores (k : Vec F S1x1x256x256 .bf16) (qh : FVec F S256x256 .bf16) : FVec F S256x256 .f32 :=
  matmul dot_S256x256_S256x256_S256x256_1_1_0_0_n_n none
    (shapeCast S256x256 k shapeCasts_S1x1x256x256_S256x256) qh
    (constant S256x256 .f32 0x00000000#32)

/-- Scores of a key block with its bias rows added. -/
def scoresB (k : Vec F S1x1x256x256 .bf16) (qh : FVec F S256x256 .bf16) (b : Vec F S1x1x256x256 .f32) :
    FVec F S256x256 .f32 :=
  addf (scores k qh) (shapeCast S256x256 b shapeCasts_S1x1x256x256_S256x256)

/-- The largest score of each query in a block. -/
def colMax (s : FVec F S256x256 .f32) : FVec F S1x256 .f32 :=
  shapeCast S1x256
    (multiReduction .maximumf [0] S256 s 0xFF800000#32 reduces_S256x256_S256 (.inl rfl) rfl)
    shapeCasts_S256_S1x256

/-- The largest score of each query over all four blocks. -/
def allMax (s0 s1 s2 sc : FVec F S256x256 .f32) : FVec F S1x256 .f32 :=
  maximumf (maximumf (maximumf (colMax s0) (colMax s1)) (colMax s2)) (colMax sc)

/-- The weights of a block whose scores are used as they are. -/
def wB (s : FVec F S256x256 .f32) : FVec F S256x256 .bf16 := truncf .bf16 (exp2 s) bitsLt_bf16_f32

/-- The weights of a block whose scores are first lowered by each query's largest. -/
def wA (m : FVec F S1x256 .f32) (s : FVec F S256x256 .f32) : FVec F S256x256 .bf16 :=
  truncf .bf16 (exp2 (subf s (broadcastTo S256x256 m broadcasts_S1x256_S256x256))) bitsLt_bf16_f32

/-- The weighted values of a block, with the sum of the weights in the row below them. -/
def weighed (v : FVec F S64x256 .bf16) (p : FVec F S256x256 .bf16) : FVec F S80x256 .f32 :=
  matmul dot_S80x256_S256x256_S80x256_1_0_0_1_n_n none
    (concatenate S80x256 0
      [⟨S64x256, v⟩, ⟨S16x256, broadcast S16x256 (Scalar.ofBits .bf16 0x3F80#16 : F .bf16)⟩]
      concatenates_S64x256_S16x256_S80x256_d0) p
    (constant S80x256 .f32 0x00000000#32)

/-- The weighted values divided by the sum of the weights. -/
def normed (acc : FVec F S80x256 .f32) : FVec F S64x256 .f32 :=
  mulf (extractStridedSlice S64x256 ![0, 0] acc slices_S80x256_o0_0_S64x256)
    (broadcastTo S64x256
      (divf (broadcast S1x256 (Scalar.ofBits .f32 0x3F800000#32 : F .f32))
        (extractStridedSlice S1x256 ![64, 0] acc slices_S80x256_o64_0_S1x256))
      broadcasts_S1x256_S64x256)

/-- One head of a tile, its scores used as they are. -/
def headB (qh : FVec F S256x256 .bf16) (k0 k1 k2 kc : Vec F S1x1x256x256 .bf16)
    (v0 v1 v2 vc : FVec F S64x256 .bf16) (b0 b1 b2 : Vec F S1x1x256x256 .f32) : FVec F S64x256 .f32 :=
  normed (addf (addf (addf (weighed v0 (wB (scoresB k0 qh b0))) (weighed v1 (wB (scoresB k1 qh b1))))
    (weighed v2 (wB (scoresB k2 qh b2)))) (weighed vc (wB (scores kc qh))))

/-- One head of a tile, its scores lowered by each query's largest. -/
def headA (qh : FVec F S256x256 .bf16) (k0 k1 k2 kc : Vec F S1x1x256x256 .bf16)
    (v0 v1 v2 vc : FVec F S64x256 .bf16) (b0 b1 b2 : Vec F S1x1x256x256 .f32) : FVec F S64x256 .f32 :=
  let m := allMax (scoresB k0 qh b0) (scoresB k1 qh b1) (scoresB k2 qh b2) (scores kc qh)
  normed (addf (addf (addf (weighed v0 (wA m (scoresB k0 qh b0))) (weighed v1 (wA m (scoresB k1 qh b1))))
    (weighed v2 (wA m (scoresB k2 qh b2)))) (weighed vc (wA m (scores kc qh))))

/-- A tile's four heads side by side, queries down the rows. -/
def tileOut (o0 o1 o2 o3 : FVec F S64x256 .f32) : Vec F S1x1x256x256 .bf16 :=
  shapeCast S1x1x256x256
    (truncf .bf16
      (transpose S256x256 [1, 0]
        (concatenate S256x256 0 [⟨S64x256, o0⟩, ⟨S64x256, o1⟩, ⟨S64x256, o2⟩, ⟨S64x256, o3⟩]
          concatenates_S64x256_S64x256_S64x256_S64x256_S256x256_d0)
        transposes_S256x256_p1_0_S256x256) bitsLt_bf16_f32)
    shapeCasts_S256x256_S1x1x256x256

/-- Head 0's value rows of a value block. -/
def vRows0 (x : Vec F S1x1x256x256 .bf16) : FVec F S64x256 .bf16 :=
  shapeCast S64x256 (View.ld x (Rect.unit (s := S1x1x256x256) ![0, 0, 0, 0] S1x1x64x256.size inb_S1x1x256x256_S1x1x64x256_0_0_0_0)) shapeCasts_S1x1x64x256_S64x256

/-- Head 0's value rows of the context's value block. -/
def cRows0 (x : Vec F S1x1x256x256 .bf16) : FVec F S64x256 .bf16 :=
  View.ld (shapeCast S256x256 (View.ld x (Rect.unit (s := S1x1x256x256) ![0, 0, 0, 0] S1x1x256x256.size inb_S1x1x256x256_S1x1x256x256_0_0_0_0))
    shapeCasts_S1x1x256x256_S256x256) (Rect.unit (s := S256x256) ![0, 0] S64x256.size inb_S256x256_S64x256_0_0)

/-- Head 1's value rows of a value block. -/
def vRows1 (x : Vec F S1x1x256x256 .bf16) : FVec F S64x256 .bf16 :=
  shapeCast S64x256 (View.ld x (Rect.unit (s := S1x1x256x256) ![0, 0, 64, 0] S1x1x64x256.size inb_S1x1x256x256_S1x1x64x256_0_0_64_0)) shapeCasts_S1x1x64x256_S64x256

/-- Head 1's value rows of the context's value block. -/
def cRows1 (x : Vec F S1x1x256x256 .bf16) : FVec F S64x256 .bf16 :=
  View.ld (shapeCast S256x256 (View.ld x (Rect.unit (s := S1x1x256x256) ![0, 0, 0, 0] S1x1x256x256.size inb_S1x1x256x256_S1x1x256x256_0_0_0_0))
    shapeCasts_S1x1x256x256_S256x256) (Rect.unit (s := S256x256) ![64, 0] S64x256.size inb_S256x256_S64x256_64_0)

/-- Head 2's value rows of a value block. -/
def vRows2 (x : Vec F S1x1x256x256 .bf16) : FVec F S64x256 .bf16 :=
  shapeCast S64x256 (View.ld x (Rect.unit (s := S1x1x256x256) ![0, 0, 128, 0] S1x1x64x256.size inb_S1x1x256x256_S1x1x64x256_0_0_128_0)) shapeCasts_S1x1x64x256_S64x256

/-- Head 2's value rows of the context's value block. -/
def cRows2 (x : Vec F S1x1x256x256 .bf16) : FVec F S64x256 .bf16 :=
  View.ld (shapeCast S256x256 (View.ld x (Rect.unit (s := S1x1x256x256) ![0, 0, 0, 0] S1x1x256x256.size inb_S1x1x256x256_S1x1x256x256_0_0_0_0))
    shapeCasts_S1x1x256x256_S256x256) (Rect.unit (s := S256x256) ![128, 0] S64x256.size inb_S256x256_S64x256_128_0)

/-- Head 3's value rows of a value block. -/
def vRows3 (x : Vec F S1x1x256x256 .bf16) : FVec F S64x256 .bf16 :=
  shapeCast S64x256 (View.ld x (Rect.unit (s := S1x1x256x256) ![0, 0, 192, 0] S1x1x64x256.size inb_S1x1x256x256_S1x1x64x256_0_0_192_0)) shapeCasts_S1x1x64x256_S64x256

/-- Head 3's value rows of the context's value block. -/
def cRows3 (x : Vec F S1x1x256x256 .bf16) : FVec F S64x256 .bf16 :=
  View.ld (shapeCast S256x256 (View.ld x (Rect.unit (s := S1x1x256x256) ![0, 0, 0, 0] S1x1x256x256.size inb_S1x1x256x256_S1x1x256x256_0_0_0_0))
    shapeCasts_S1x1x256x256_S256x256) (Rect.unit (s := S256x256) ![192, 0] S64x256.size inb_S256x256_S64x256_192_0)

/-- One tile: its four heads, by `headB`. -/
def tileB (q k0 k1 k2 kc v0 v1 v2 vc : Vec F S1x1x256x256 .bf16) (b : Vec F S1x4x768x256 .f32) :
    Vec F S1x1x256x256 .bf16 :=
  tileOut
    (headB (headRows q 0#32) k0 k1 k2 kc (vRows0 v0) (vRows0 v1) (vRows0 v2) (cRows0 vc)
      (View.ld b (Rect.unit (s := S1x4x768x256) ![0, 0, 0, 0] S1x1x256x256.size inb_S1x4x768x256_S1x1x256x256_0_0_0_0))
      (View.ld b (Rect.unit (s := S1x4x768x256) ![0, 0, 256, 0] S1x1x256x256.size inb_S1x4x768x256_S1x1x256x256_0_0_256_0))
      (View.ld b (Rect.unit (s := S1x4x768x256) ![0, 0, 512, 0] S1x1x256x256.size inb_S1x4x768x256_S1x1x256x256_0_0_512_0)))
    (headB (headRows q 1#32) k0 k1 k2 kc (vRows1 v0) (vRows1 v1) (vRows1 v2) (cRows1 vc)
      (View.ld b (Rect.unit (s := S1x4x768x256) ![0, 1, 0, 0] S1x1x256x256.size inb_S1x4x768x256_S1x1x256x256_0_1_0_0))
      (View.ld b (Rect.unit (s := S1x4x768x256) ![0, 1, 256, 0] S1x1x256x256.size inb_S1x4x768x256_S1x1x256x256_0_1_256_0))
      (View.ld b (Rect.unit (s := S1x4x768x256) ![0, 1, 512, 0] S1x1x256x256.size inb_S1x4x768x256_S1x1x256x256_0_1_512_0)))
    (headB (headRows q 2#32) k0 k1 k2 kc (vRows2 v0) (vRows2 v1) (vRows2 v2) (cRows2 vc)
      (View.ld b (Rect.unit (s := S1x4x768x256) ![0, 2, 0, 0] S1x1x256x256.size inb_S1x4x768x256_S1x1x256x256_0_2_0_0))
      (View.ld b (Rect.unit (s := S1x4x768x256) ![0, 2, 256, 0] S1x1x256x256.size inb_S1x4x768x256_S1x1x256x256_0_2_256_0))
      (View.ld b (Rect.unit (s := S1x4x768x256) ![0, 2, 512, 0] S1x1x256x256.size inb_S1x4x768x256_S1x1x256x256_0_2_512_0)))
    (headB (headRows q 3#32) k0 k1 k2 kc (vRows3 v0) (vRows3 v1) (vRows3 v2) (cRows3 vc)
      (View.ld b (Rect.unit (s := S1x4x768x256) ![0, 3, 0, 0] S1x1x256x256.size inb_S1x4x768x256_S1x1x256x256_0_3_0_0))
      (View.ld b (Rect.unit (s := S1x4x768x256) ![0, 3, 256, 0] S1x1x256x256.size inb_S1x4x768x256_S1x1x256x256_0_3_256_0))
      (View.ld b (Rect.unit (s := S1x4x768x256) ![0, 3, 512, 0] S1x1x256x256.size inb_S1x4x768x256_S1x1x256x256_0_3_512_0)))

/-- One tile: its four heads, by `headA`. -/
def tileA (q k0 k1 k2 kc v0 v1 v2 vc : Vec F S1x1x256x256 .bf16) (b : Vec F S1x4x768x256 .f32) :
    Vec F S1x1x256x256 .bf16 :=
  tileOut
    (headA (headRows q 0#32) k0 k1 k2 kc (vRows0 v0) (vRows0 v1) (vRows0 v2) (cRows0 vc)
      (View.ld b (Rect.unit (s := S1x4x768x256) ![0, 0, 0, 0] S1x1x256x256.size inb_S1x4x768x256_S1x1x256x256_0_0_0_0))
      (View.ld b (Rect.unit (s := S1x4x768x256) ![0, 0, 256, 0] S1x1x256x256.size inb_S1x4x768x256_S1x1x256x256_0_0_256_0))
      (View.ld b (Rect.unit (s := S1x4x768x256) ![0, 0, 512, 0] S1x1x256x256.size inb_S1x4x768x256_S1x1x256x256_0_0_512_0)))
    (headA (headRows q 1#32) k0 k1 k2 kc (vRows1 v0) (vRows1 v1) (vRows1 v2) (cRows1 vc)
      (View.ld b (Rect.unit (s := S1x4x768x256) ![0, 1, 0, 0] S1x1x256x256.size inb_S1x4x768x256_S1x1x256x256_0_1_0_0))
      (View.ld b (Rect.unit (s := S1x4x768x256) ![0, 1, 256, 0] S1x1x256x256.size inb_S1x4x768x256_S1x1x256x256_0_1_256_0))
      (View.ld b (Rect.unit (s := S1x4x768x256) ![0, 1, 512, 0] S1x1x256x256.size inb_S1x4x768x256_S1x1x256x256_0_1_512_0)))
    (headA (headRows q 2#32) k0 k1 k2 kc (vRows2 v0) (vRows2 v1) (vRows2 v2) (cRows2 vc)
      (View.ld b (Rect.unit (s := S1x4x768x256) ![0, 2, 0, 0] S1x1x256x256.size inb_S1x4x768x256_S1x1x256x256_0_2_0_0))
      (View.ld b (Rect.unit (s := S1x4x768x256) ![0, 2, 256, 0] S1x1x256x256.size inb_S1x4x768x256_S1x1x256x256_0_2_256_0))
      (View.ld b (Rect.unit (s := S1x4x768x256) ![0, 2, 512, 0] S1x1x256x256.size inb_S1x4x768x256_S1x1x256x256_0_2_512_0)))
    (headA (headRows q 3#32) k0 k1 k2 kc (vRows3 v0) (vRows3 v1) (vRows3 v2) (cRows3 vc)
      (View.ld b (Rect.unit (s := S1x4x768x256) ![0, 3, 0, 0] S1x1x256x256.size inb_S1x4x768x256_S1x1x256x256_0_3_0_0))
      (View.ld b (Rect.unit (s := S1x4x768x256) ![0, 3, 256, 0] S1x1x256x256.size inb_S1x4x768x256_S1x1x256x256_0_3_256_0))
      (View.ld b (Rect.unit (s := S1x4x768x256) ![0, 3, 512, 0] S1x1x256x256.size inb_S1x4x768x256_S1x1x256x256_0_3_512_0)))

/-- What the output window holds after the body, by `tileB`. -/
def outB (x1 : Vec F S1x1x2048x256 .bf16) (x2 x3 x4 x5 x6 x7 x8 x9 x10 x11 x12 x13 x14 x15 x16 x17 x18 x19 x20 x21 x22 x23 : Vec F S1x1x256x256 .bf16) (x24 x25 x26 : Vec F S1x4x768x256 .f32) :
    Vec F S1x1x2048x256 .bf16 :=
  View.canon [
    ⟨(Rect.unit (s := S1x1x2048x256) ![0, 0, 1792, 0] S1x1x256x256.size inb_S1x1x2048x256_S1x1x256x256_0_0_1792_0),
      tileB (View.ld x1 (Rect.unit (s := S1x1x2048x256) ![0, 0, 1792, 0] S1x1x256x256.size inb_S1x1x2048x256_S1x1x256x256_0_0_1792_0))
        (View.ld x9 (Rect.unit (s := S1x1x256x256) ![0, 0, 0, 0] S1x1x256x256.size inb_S1x1x256x256_S1x1x256x256_0_0_0_0)) (View.ld x10 (Rect.unit (s := S1x1x256x256) ![0, 0, 0, 0] S1x1x256x256.size inb_S1x1x256x256_S1x1x256x256_0_0_0_0))
        (View.ld x11 (Rect.unit (s := S1x1x256x256) ![0, 0, 0, 0] S1x1x256x256.size inb_S1x1x256x256_S1x1x256x256_0_0_0_0)) (View.ld x22 (Rect.unit (s := S1x1x256x256) ![0, 0, 0, 0] S1x1x256x256.size inb_S1x1x256x256_S1x1x256x256_0_0_0_0))
        x19 x20 x21 x23 x26⟩,
    ⟨(Rect.unit (s := S1x1x2048x256) ![0, 0, 1536, 0] S1x1x256x256.size inb_S1x1x2048x256_S1x1x256x256_0_0_1536_0),
      tileB (View.ld x1 (Rect.unit (s := S1x1x2048x256) ![0, 0, 1536, 0] S1x1x256x256.size inb_S1x1x2048x256_S1x1x256x256_0_0_1536_0))
        (View.ld x8 (Rect.unit (s := S1x1x256x256) ![0, 0, 0, 0] S1x1x256x256.size inb_S1x1x256x256_S1x1x256x256_0_0_0_0)) (View.ld x9 (Rect.unit (s := S1x1x256x256) ![0, 0, 0, 0] S1x1x256x256.size inb_S1x1x256x256_S1x1x256x256_0_0_0_0))
        (View.ld x10 (Rect.unit (s := S1x1x256x256) ![0, 0, 0, 0] S1x1x256x256.size inb_S1x1x256x256_S1x1x256x256_0_0_0_0)) (View.ld x22 (Rect.unit (s := S1x1x256x256) ![0, 0, 0, 0] S1x1x256x256.size inb_S1x1x256x256_S1x1x256x256_0_0_0_0))
        x18 x19 x20 x23 x25⟩,
    ⟨(Rect.unit (s := S1x1x2048x256) ![0, 0, 1280, 0] S1x1x256x256.size inb_S1x1x2048x256_S1x1x256x256_0_0_1280_0),
      tileB (View.ld x1 (Rect.unit (s := S1x1x2048x256) ![0, 0, 1280, 0] S1x1x256x256.size inb_S1x1x2048x256_S1x1x256x256_0_0_1280_0))
        (View.ld x7 (Rect.unit (s := S1x1x256x256) ![0, 0, 0, 0] S1x1x256x256.size inb_S1x1x256x256_S1x1x256x256_0_0_0_0)) (View.ld x8 (Rect.unit (s := S1x1x256x256) ![0, 0, 0, 0] S1x1x256x256.size inb_S1x1x256x256_S1x1x256x256_0_0_0_0))
        (View.ld x9 (Rect.unit (s := S1x1x256x256) ![0, 0, 0, 0] S1x1x256x256.size inb_S1x1x256x256_S1x1x256x256_0_0_0_0)) (View.ld x22 (Rect.unit (s := S1x1x256x256) ![0, 0, 0, 0] S1x1x256x256.size inb_S1x1x256x256_S1x1x256x256_0_0_0_0))
        x17 x18 x19 x23 x25⟩,
    ⟨(Rect.unit (s := S1x1x2048x256) ![0, 0, 1024, 0] S1x1x256x256.size inb_S1x1x2048x256_S1x1x256x256_0_0_1024_0),
      tileB (View.ld x1 (Rect.unit (s := S1x1x2048x256) ![0, 0, 1024, 0] S1x1x256x256.size inb_S1x1x2048x256_S1x1x256x256_0_0_1024_0))
        (View.ld x6 (Rect.unit (s := S1x1x256x256) ![0, 0, 0, 0] S1x1x256x256.size inb_S1x1x256x256_S1x1x256x256_0_0_0_0)) (View.ld x7 (Rect.unit (s := S1x1x256x256) ![0, 0, 0, 0] S1x1x256x256.size inb_S1x1x256x256_S1x1x256x256_0_0_0_0))
        (View.ld x8 (Rect.unit (s := S1x1x256x256) ![0, 0, 0, 0] S1x1x256x256.size inb_S1x1x256x256_S1x1x256x256_0_0_0_0)) (View.ld x22 (Rect.unit (s := S1x1x256x256) ![0, 0, 0, 0] S1x1x256x256.size inb_S1x1x256x256_S1x1x256x256_0_0_0_0))
        x16 x17 x18 x23 x25⟩,
    ⟨(Rect.unit (s := S1x1x2048x256) ![0, 0, 768, 0] S1x1x256x256.size inb_S1x1x2048x256_S1x1x256x256_0_0_768_0),
      tileB (View.ld x1 (Rect.unit (s := S1x1x2048x256) ![0, 0, 768, 0] S1x1x256x256.size inb_S1x1x2048x256_S1x1x256x256_0_0_768_0))
        (View.ld x5 (Rect.unit (s := S1x1x256x256) ![0, 0, 0, 0] S1x1x256x256.size inb_S1x1x256x256_S1x1x256x256_0_0_0_0)) (View.ld x6 (Rect.unit (s := S1x1x256x256) ![0, 0, 0, 0] S1x1x256x256.size inb_S1x1x256x256_S1x1x256x256_0_0_0_0))
        (View.ld x7 (Rect.unit (s := S1x1x256x256) ![0, 0, 0, 0] S1x1x256x256.size inb_S1x1x256x256_S1x1x256x256_0_0_0_0)) (View.ld x22 (Rect.unit (s := S1x1x256x256) ![0, 0, 0, 0] S1x1x256x256.size inb_S1x1x256x256_S1x1x256x256_0_0_0_0))
        x15 x16 x17 x23 x25⟩,
    ⟨(Rect.unit (s := S1x1x2048x256) ![0, 0, 512, 0] S1x1x256x256.size inb_S1x1x2048x256_S1x1x256x256_0_0_512_0),
      tileB (View.ld x1 (Rect.unit (s := S1x1x2048x256) ![0, 0, 512, 0] S1x1x256x256.size inb_S1x1x2048x256_S1x1x256x256_0_0_512_0))
        (View.ld x4 (Rect.unit (s := S1x1x256x256) ![0, 0, 0, 0] S1x1x256x256.size inb_S1x1x256x256_S1x1x256x256_0_0_0_0)) (View.ld x5 (Rect.unit (s := S1x1x256x256) ![0, 0, 0, 0] S1x1x256x256.size inb_S1x1x256x256_S1x1x256x256_0_0_0_0))
        (View.ld x6 (Rect.unit (s := S1x1x256x256) ![0, 0, 0, 0] S1x1x256x256.size inb_S1x1x256x256_S1x1x256x256_0_0_0_0)) (View.ld x22 (Rect.unit (s := S1x1x256x256) ![0, 0, 0, 0] S1x1x256x256.size inb_S1x1x256x256_S1x1x256x256_0_0_0_0))
        x14 x15 x16 x23 x25⟩,
    ⟨(Rect.unit (s := S1x1x2048x256) ![0, 0, 256, 0] S1x1x256x256.size inb_S1x1x2048x256_S1x1x256x256_0_0_256_0),
      tileB (View.ld x1 (Rect.unit (s := S1x1x2048x256) ![0, 0, 256, 0] S1x1x256x256.size inb_S1x1x2048x256_S1x1x256x256_0_0_256_0))
        (View.ld x3 (Rect.unit (s := S1x1x256x256) ![0, 0, 0, 0] S1x1x256x256.size inb_S1x1x256x256_S1x1x256x256_0_0_0_0)) (View.ld x4 (Rect.unit (s := S1x1x256x256) ![0, 0, 0, 0] S1x1x256x256.size inb_S1x1x256x256_S1x1x256x256_0_0_0_0))
        (View.ld x5 (Rect.unit (s := S1x1x256x256) ![0, 0, 0, 0] S1x1x256x256.size inb_S1x1x256x256_S1x1x256x256_0_0_0_0)) (View.ld x22 (Rect.unit (s := S1x1x256x256) ![0, 0, 0, 0] S1x1x256x256.size inb_S1x1x256x256_S1x1x256x256_0_0_0_0))
        x13 x14 x15 x23 x25⟩,
    ⟨(Rect.unit (s := S1x1x2048x256) ![0, 0, 0, 0] S1x1x256x256.size inb_S1x1x2048x256_S1x1x256x256_0_0_0_0),
      tileB (View.ld x1 (Rect.unit (s := S1x1x2048x256) ![0, 0, 0, 0] S1x1x256x256.size inb_S1x1x2048x256_S1x1x256x256_0_0_0_0))
        (View.ld x2 (Rect.unit (s := S1x1x256x256) ![0, 0, 0, 0] S1x1x256x256.size inb_S1x1x256x256_S1x1x256x256_0_0_0_0)) (View.ld x3 (Rect.unit (s := S1x1x256x256) ![0, 0, 0, 0] S1x1x256x256.size inb_S1x1x256x256_S1x1x256x256_0_0_0_0))
        (View.ld x4 (Rect.unit (s := S1x1x256x256) ![0, 0, 0, 0] S1x1x256x256.size inb_S1x1x256x256_S1x1x256x256_0_0_0_0)) (View.ld x22 (Rect.unit (s := S1x1x256x256) ![0, 0, 0, 0] S1x1x256x256.size inb_S1x1x256x256_S1x1x256x256_0_0_0_0))
        x12 x13 x14 x23 x24⟩]

/-- What the output window holds after the body, by `tileA`. -/
def outA (x1 : Vec F S1x1x2048x256 .bf16) (x2 x3 x4 x5 x6 x7 x8 x9 x10 x11 x12 x13 x14 x15 x16 x17 x18 x19 x20 x21 x22 x23 : Vec F S1x1x256x256 .bf16) (x24 x25 x26 : Vec F S1x4x768x256 .f32) :
    Vec F S1x1x2048x256 .bf16 :=
  View.canon [
    ⟨(Rect.unit (s := S1x1x2048x256) ![0, 0, 1792, 0] S1x1x256x256.size inb_S1x1x2048x256_S1x1x256x256_0_0_1792_0),
      tileA (View.ld x1 (Rect.unit (s := S1x1x2048x256) ![0, 0, 1792, 0] S1x1x256x256.size inb_S1x1x2048x256_S1x1x256x256_0_0_1792_0))
        (View.ld x9 (Rect.unit (s := S1x1x256x256) ![0, 0, 0, 0] S1x1x256x256.size inb_S1x1x256x256_S1x1x256x256_0_0_0_0)) (View.ld x10 (Rect.unit (s := S1x1x256x256) ![0, 0, 0, 0] S1x1x256x256.size inb_S1x1x256x256_S1x1x256x256_0_0_0_0))
        (View.ld x11 (Rect.unit (s := S1x1x256x256) ![0, 0, 0, 0] S1x1x256x256.size inb_S1x1x256x256_S1x1x256x256_0_0_0_0)) (View.ld x22 (Rect.unit (s := S1x1x256x256) ![0, 0, 0, 0] S1x1x256x256.size inb_S1x1x256x256_S1x1x256x256_0_0_0_0))
        x19 x20 x21 x23 x26⟩,
    ⟨(Rect.unit (s := S1x1x2048x256) ![0, 0, 1536, 0] S1x1x256x256.size inb_S1x1x2048x256_S1x1x256x256_0_0_1536_0),
      tileA (View.ld x1 (Rect.unit (s := S1x1x2048x256) ![0, 0, 1536, 0] S1x1x256x256.size inb_S1x1x2048x256_S1x1x256x256_0_0_1536_0))
        (View.ld x8 (Rect.unit (s := S1x1x256x256) ![0, 0, 0, 0] S1x1x256x256.size inb_S1x1x256x256_S1x1x256x256_0_0_0_0)) (View.ld x9 (Rect.unit (s := S1x1x256x256) ![0, 0, 0, 0] S1x1x256x256.size inb_S1x1x256x256_S1x1x256x256_0_0_0_0))
        (View.ld x10 (Rect.unit (s := S1x1x256x256) ![0, 0, 0, 0] S1x1x256x256.size inb_S1x1x256x256_S1x1x256x256_0_0_0_0)) (View.ld x22 (Rect.unit (s := S1x1x256x256) ![0, 0, 0, 0] S1x1x256x256.size inb_S1x1x256x256_S1x1x256x256_0_0_0_0))
        x18 x19 x20 x23 x25⟩,
    ⟨(Rect.unit (s := S1x1x2048x256) ![0, 0, 1280, 0] S1x1x256x256.size inb_S1x1x2048x256_S1x1x256x256_0_0_1280_0),
      tileA (View.ld x1 (Rect.unit (s := S1x1x2048x256) ![0, 0, 1280, 0] S1x1x256x256.size inb_S1x1x2048x256_S1x1x256x256_0_0_1280_0))
        (View.ld x7 (Rect.unit (s := S1x1x256x256) ![0, 0, 0, 0] S1x1x256x256.size inb_S1x1x256x256_S1x1x256x256_0_0_0_0)) (View.ld x8 (Rect.unit (s := S1x1x256x256) ![0, 0, 0, 0] S1x1x256x256.size inb_S1x1x256x256_S1x1x256x256_0_0_0_0))
        (View.ld x9 (Rect.unit (s := S1x1x256x256) ![0, 0, 0, 0] S1x1x256x256.size inb_S1x1x256x256_S1x1x256x256_0_0_0_0)) (View.ld x22 (Rect.unit (s := S1x1x256x256) ![0, 0, 0, 0] S1x1x256x256.size inb_S1x1x256x256_S1x1x256x256_0_0_0_0))
        x17 x18 x19 x23 x25⟩,
    ⟨(Rect.unit (s := S1x1x2048x256) ![0, 0, 1024, 0] S1x1x256x256.size inb_S1x1x2048x256_S1x1x256x256_0_0_1024_0),
      tileA (View.ld x1 (Rect.unit (s := S1x1x2048x256) ![0, 0, 1024, 0] S1x1x256x256.size inb_S1x1x2048x256_S1x1x256x256_0_0_1024_0))
        (View.ld x6 (Rect.unit (s := S1x1x256x256) ![0, 0, 0, 0] S1x1x256x256.size inb_S1x1x256x256_S1x1x256x256_0_0_0_0)) (View.ld x7 (Rect.unit (s := S1x1x256x256) ![0, 0, 0, 0] S1x1x256x256.size inb_S1x1x256x256_S1x1x256x256_0_0_0_0))
        (View.ld x8 (Rect.unit (s := S1x1x256x256) ![0, 0, 0, 0] S1x1x256x256.size inb_S1x1x256x256_S1x1x256x256_0_0_0_0)) (View.ld x22 (Rect.unit (s := S1x1x256x256) ![0, 0, 0, 0] S1x1x256x256.size inb_S1x1x256x256_S1x1x256x256_0_0_0_0))
        x16 x17 x18 x23 x25⟩,
    ⟨(Rect.unit (s := S1x1x2048x256) ![0, 0, 768, 0] S1x1x256x256.size inb_S1x1x2048x256_S1x1x256x256_0_0_768_0),
      tileA (View.ld x1 (Rect.unit (s := S1x1x2048x256) ![0, 0, 768, 0] S1x1x256x256.size inb_S1x1x2048x256_S1x1x256x256_0_0_768_0))
        (View.ld x5 (Rect.unit (s := S1x1x256x256) ![0, 0, 0, 0] S1x1x256x256.size inb_S1x1x256x256_S1x1x256x256_0_0_0_0)) (View.ld x6 (Rect.unit (s := S1x1x256x256) ![0, 0, 0, 0] S1x1x256x256.size inb_S1x1x256x256_S1x1x256x256_0_0_0_0))
        (View.ld x7 (Rect.unit (s := S1x1x256x256) ![0, 0, 0, 0] S1x1x256x256.size inb_S1x1x256x256_S1x1x256x256_0_0_0_0)) (View.ld x22 (Rect.unit (s := S1x1x256x256) ![0, 0, 0, 0] S1x1x256x256.size inb_S1x1x256x256_S1x1x256x256_0_0_0_0))
        x15 x16 x17 x23 x25⟩,
    ⟨(Rect.unit (s := S1x1x2048x256) ![0, 0, 512, 0] S1x1x256x256.size inb_S1x1x2048x256_S1x1x256x256_0_0_512_0),
      tileA (View.ld x1 (Rect.unit (s := S1x1x2048x256) ![0, 0, 512, 0] S1x1x256x256.size inb_S1x1x2048x256_S1x1x256x256_0_0_512_0))
        (View.ld x4 (Rect.unit (s := S1x1x256x256) ![0, 0, 0, 0] S1x1x256x256.size inb_S1x1x256x256_S1x1x256x256_0_0_0_0)) (View.ld x5 (Rect.unit (s := S1x1x256x256) ![0, 0, 0, 0] S1x1x256x256.size inb_S1x1x256x256_S1x1x256x256_0_0_0_0))
        (View.ld x6 (Rect.unit (s := S1x1x256x256) ![0, 0, 0, 0] S1x1x256x256.size inb_S1x1x256x256_S1x1x256x256_0_0_0_0)) (View.ld x22 (Rect.unit (s := S1x1x256x256) ![0, 0, 0, 0] S1x1x256x256.size inb_S1x1x256x256_S1x1x256x256_0_0_0_0))
        x14 x15 x16 x23 x25⟩,
    ⟨(Rect.unit (s := S1x1x2048x256) ![0, 0, 256, 0] S1x1x256x256.size inb_S1x1x2048x256_S1x1x256x256_0_0_256_0),
      tileA (View.ld x1 (Rect.unit (s := S1x1x2048x256) ![0, 0, 256, 0] S1x1x256x256.size inb_S1x1x2048x256_S1x1x256x256_0_0_256_0))
        (View.ld x3 (Rect.unit (s := S1x1x256x256) ![0, 0, 0, 0] S1x1x256x256.size inb_S1x1x256x256_S1x1x256x256_0_0_0_0)) (View.ld x4 (Rect.unit (s := S1x1x256x256) ![0, 0, 0, 0] S1x1x256x256.size inb_S1x1x256x256_S1x1x256x256_0_0_0_0))
        (View.ld x5 (Rect.unit (s := S1x1x256x256) ![0, 0, 0, 0] S1x1x256x256.size inb_S1x1x256x256_S1x1x256x256_0_0_0_0)) (View.ld x22 (Rect.unit (s := S1x1x256x256) ![0, 0, 0, 0] S1x1x256x256.size inb_S1x1x256x256_S1x1x256x256_0_0_0_0))
        x13 x14 x15 x23 x25⟩,
    ⟨(Rect.unit (s := S1x1x2048x256) ![0, 0, 0, 0] S1x1x256x256.size inb_S1x1x2048x256_S1x1x256x256_0_0_0_0),
      tileA (View.ld x1 (Rect.unit (s := S1x1x2048x256) ![0, 0, 0, 0] S1x1x256x256.size inb_S1x1x2048x256_S1x1x256x256_0_0_0_0))
        (View.ld x2 (Rect.unit (s := S1x1x256x256) ![0, 0, 0, 0] S1x1x256x256.size inb_S1x1x256x256_S1x1x256x256_0_0_0_0)) (View.ld x3 (Rect.unit (s := S1x1x256x256) ![0, 0, 0, 0] S1x1x256x256.size inb_S1x1x256x256_S1x1x256x256_0_0_0_0))
        (View.ld x4 (Rect.unit (s := S1x1x256x256) ![0, 0, 0, 0] S1x1x256x256.size inb_S1x1x256x256_S1x1x256x256_0_0_0_0)) (View.ld x22 (Rect.unit (s := S1x1x256x256) ![0, 0, 0, 0] S1x1x256x256.size inb_S1x1x256x256_S1x1x256x256_0_0_0_0))
        x12 x13 x14 x23 x24⟩]

/-- What the output window holds after the body. -/
def out0_27 (x0 : Vec F S1 .f32) (x1 : Vec F S1x1x2048x256 .bf16) (x2 x3 x4 x5 x6 x7 x8 x9 x10 x11 x12 x13 x14 x15 x16 x17 x18 x19 x20 x21 x22 x23 : Vec F S1x1x256x256 .bf16) (x24 x25 x26 : Vec F S1x4x768x256 .f32) :
    Vec F S1x1x2048x256 .bf16 :=
  if flag x0 = 1#1 then outB x1 x2 x3 x4 x5 x6 x7 x8 x9 x10 x11 x12 x13 x14 x15 x16 x17 x18 x19 x20 x21 x22 x23 x24 x25 x26 else outA x1 x2 x3 x4 x5 x6 x7 x8 x9 x10 x11 x12 x13 x14 x15 x16 x17 x18 x19 x20 x21 x22 x23 x24 x25 x26

end Cert.KernelIdeal.Attn

end
-- ==== Proof.AttnRun.lean ====
module

public import proofs.«01_k».proof.Proof.AttnTile
public import proofs.«01_k».proof.Proof.Gen.KernelIdeal.Skeleton
public import Idealize.ShloMosaic.Lib.UnfoldOut

/-! What the body of the neighbourhood attention does to its windows: it leaves its inputs as they were and
    `out0_27` in its output. -/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The eight tiles' rows are the whole output window. -/
theorem cover (p0 p1 p2 p3 p4 p5 p6 p7 : Vec F S1x1x256x256 .bf16) (y : S1x1x2048x256.Idx) :
    ∃ pc ∈ ([⟨(Rect.unit (s := S1x1x2048x256) ![0, 0, 1792, 0] S1x1x256x256.size inb_S1x1x2048x256_S1x1x256x256_0_0_1792_0), p7⟩, ⟨(Rect.unit (s := S1x1x2048x256) ![0, 0, 1536, 0] S1x1x256x256.size inb_S1x1x2048x256_S1x1x256x256_0_0_1536_0), p6⟩, ⟨(Rect.unit (s := S1x1x2048x256) ![0, 0, 1280, 0] S1x1x256x256.size inb_S1x1x2048x256_S1x1x256x256_0_0_1280_0), p5⟩, ⟨(Rect.unit (s := S1x1x2048x256) ![0, 0, 1024, 0] S1x1x256x256.size inb_S1x1x2048x256_S1x1x256x256_0_0_1024_0), p4⟩, ⟨(Rect.unit (s := S1x1x2048x256) ![0, 0, 768, 0] S1x1x256x256.size inb_S1x1x2048x256_S1x1x256x256_0_0_768_0), p3⟩, ⟨(Rect.unit (s := S1x1x2048x256) ![0, 0, 512, 0] S1x1x256x256.size inb_S1x1x2048x256_S1x1x256x256_0_0_512_0), p2⟩, ⟨(Rect.unit (s := S1x1x2048x256) ![0, 0, 256, 0] S1x1x256x256.size inb_S1x1x2048x256_S1x1x256x256_0_0_256_0), p1⟩, ⟨(Rect.unit (s := S1x1x2048x256) ![0, 0, 0, 0] S1x1x256x256.size inb_S1x1x2048x256_S1x1x256x256_0_0_0_0), p0⟩] : List (View.Piece (Elt F) S1x1x2048x256 .bf16)), y ∈ pc.1.set :=
  View.cover_of_tiled [⟨(Rect.unit (s := S1x1x2048x256) ![0, 0, 1792, 0] S1x1x256x256.size inb_S1x1x2048x256_S1x1x256x256_0_0_1792_0), p7⟩, ⟨(Rect.unit (s := S1x1x2048x256) ![0, 0, 1536, 0] S1x1x256x256.size inb_S1x1x2048x256_S1x1x256x256_0_0_1536_0), p6⟩, ⟨(Rect.unit (s := S1x1x2048x256) ![0, 0, 1280, 0] S1x1x256x256.size inb_S1x1x2048x256_S1x1x256x256_0_0_1280_0), p5⟩, ⟨(Rect.unit (s := S1x1x2048x256) ![0, 0, 1024, 0] S1x1x256x256.size inb_S1x1x2048x256_S1x1x256x256_0_0_1024_0), p4⟩, ⟨(Rect.unit (s := S1x1x2048x256) ![0, 0, 768, 0] S1x1x256x256.size inb_S1x1x2048x256_S1x1x256x256_0_0_768_0), p3⟩, ⟨(Rect.unit (s := S1x1x2048x256) ![0, 0, 512, 0] S1x1x256x256.size inb_S1x1x2048x256_S1x1x256x256_0_0_512_0), p2⟩, ⟨(Rect.unit (s := S1x1x2048x256) ![0, 0, 256, 0] S1x1x256x256.size inb_S1x1x2048x256_S1x1x256x256_0_0_256_0), p1⟩, ⟨(Rect.unit (s := S1x1x2048x256) ![0, 0, 0, 0] S1x1x256x256.size inb_S1x1x2048x256_S1x1x256x256_0_0_0_0), p0⟩] S1x1x256x256.size (by rfl) y

/-- Eight equal tiles make equal windows. -/
theorem canon_congr {p0 q0 p1 q1 p2 q2 p3 q3 p4 q4 p5 q5 p6 q6 p7 q7 : Vec F S1x1x256x256 .bf16}
    (h7 : p7 = q7) (h6 : p6 = q6) (h5 : p5 = q5) (h4 : p4 = q4) (h3 : p3 = q3) (h2 : p2 = q2) (h1 : p1 = q1) (h0 : p0 = q0) :
    View.canon ([⟨(Rect.unit (s := S1x1x2048x256) ![0, 0, 1792, 0] S1x1x256x256.size inb_S1x1x2048x256_S1x1x256x256_0_0_1792_0), p7⟩, ⟨(Rect.unit (s := S1x1x2048x256) ![0, 0, 1536, 0] S1x1x256x256.size inb_S1x1x2048x256_S1x1x256x256_0_0_1536_0), p6⟩, ⟨(Rect.unit (s := S1x1x2048x256) ![0, 0, 1280, 0] S1x1x256x256.size inb_S1x1x2048x256_S1x1x256x256_0_0_1280_0), p5⟩, ⟨(Rect.unit (s := S1x1x2048x256) ![0, 0, 1024, 0] S1x1x256x256.size inb_S1x1x2048x256_S1x1x256x256_0_0_1024_0), p4⟩, ⟨(Rect.unit (s := S1x1x2048x256) ![0, 0, 768, 0] S1x1x256x256.size inb_S1x1x2048x256_S1x1x256x256_0_0_768_0), p3⟩, ⟨(Rect.unit (s := S1x1x2048x256) ![0, 0, 512, 0] S1x1x256x256.size inb_S1x1x2048x256_S1x1x256x256_0_0_512_0), p2⟩, ⟨(Rect.unit (s := S1x1x2048x256) ![0, 0, 256, 0] S1x1x256x256.size inb_S1x1x2048x256_S1x1x256x256_0_0_256_0), p1⟩, ⟨(Rect.unit (s := S1x1x2048x256) ![0, 0, 0, 0] S1x1x256x256.size inb_S1x1x2048x256_S1x1x256x256_0_0_0_0), p0⟩] : List (View.Piece (Elt F) S1x1x2048x256 .bf16)) =
      View.canon [⟨(Rect.unit (s := S1x1x2048x256) ![0, 0, 1792, 0] S1x1x256x256.size inb_S1x1x2048x256_S1x1x256x256_0_0_1792_0), q7⟩, ⟨(Rect.unit (s := S1x1x2048x256) ![0, 0, 1536, 0] S1x1x256x256.size inb_S1x1x2048x256_S1x1x256x256_0_0_1536_0), q6⟩, ⟨(Rect.unit (s := S1x1x2048x256) ![0, 0, 1280, 0] S1x1x256x256.size inb_S1x1x2048x256_S1x1x256x256_0_0_1280_0), q5⟩, ⟨(Rect.unit (s := S1x1x2048x256) ![0, 0, 1024, 0] S1x1x256x256.size inb_S1x1x2048x256_S1x1x256x256_0_0_1024_0), q4⟩, ⟨(Rect.unit (s := S1x1x2048x256) ![0, 0, 768, 0] S1x1x256x256.size inb_S1x1x2048x256_S1x1x256x256_0_0_768_0), q3⟩, ⟨(Rect.unit (s := S1x1x2048x256) ![0, 0, 512, 0] S1x1x256x256.size inb_S1x1x2048x256_S1x1x256x256_0_0_512_0), q2⟩, ⟨(Rect.unit (s := S1x1x2048x256) ![0, 0, 256, 0] S1x1x256x256.size inb_S1x1x2048x256_S1x1x256x256_0_0_256_0), q1⟩, ⟨(Rect.unit (s := S1x1x2048x256) ![0, 0, 0, 0] S1x1x256x256.size inb_S1x1x2048x256_S1x1x256x256_0_0_0_0), q0⟩] := by
  subst h0 h1 h2 h3 h4 h5 h6 h7; rfl

/-- The test of the lowered branch, from the flag. -/
theorem lowered_iff (v : BitVec 1) :
    Scalar.cmpi .ne (Scalar.extui (Scalar.xori v 1#1) : BitVec 32) 0#32 = 1#1 ↔ ¬ v = 1#1 := by
  revert v; decide

/-- The test of the plain branch, from the flag. -/
theorem plain_iff (v : BitVec 1) :
    Scalar.cmpi .ne (Scalar.extui v : BitVec 32) 0#32 = 1#1 ↔ v = 1#1 := by
  revert v; decide

set_option maxHeartbeats 40000000 in
/-- The body's triple. -/
theorem sound_kernel (c : Dev nD) (E : Set ℕ) (i : grid0.Coords) (arg3 : Memref sig .tc .smem S1 .f32) (harg3 : arg3.IsWhole) (arg4 : Memref sig .tc .vmem S1x1x2048x256 .bf16) (harg4 : arg4.IsWhole) (arg5 : Memref sig .tc .vmem S1x1x256x256 .bf16) (harg5 : arg5.IsWhole) (arg6 : Memref sig .tc .vmem S1x1x256x256 .bf16) (harg6 : arg6.IsWhole) (arg7 : Memref sig .tc .vmem S1x1x256x256 .bf16) (harg7 : arg7.IsWhole) (arg8 : Memref sig .tc .vmem S1x1x256x256 .bf16) (harg8 : arg8.IsWhole) (arg9 : Memref sig .tc .vmem S1x1x256x256 .bf16) (harg9 : arg9.IsWhole) (arg10 : Memref sig .tc .vmem S1x1x256x256 .bf16) (harg10 : arg10.IsWhole) (arg11 : Memref sig .tc .vmem S1x1x256x256 .bf16) (harg11 : arg11.IsWhole) (arg12 : Memref sig .tc .vmem S1x1x256x256 .bf16) (harg12 : arg12.IsWhole) (arg13 : Memref sig .tc .vmem S1x1x256x256 .bf16) (harg13 : arg13.IsWhole) (arg14 : Memref sig .tc .vmem S1x1x256x256 .bf16) (harg14 : arg14.IsWhole) (arg15 : Memref sig .tc .vmem S1x1x256x256 .bf16) (harg15 : arg15.IsWhole) (arg16 : Memref sig .tc .vmem S1x1x256x256 .bf16) (harg16 : arg16.IsWhole) (arg17 : Memref sig .tc .vmem S1x1x256x256 .bf16) (harg17 : arg17.IsWhole) (arg18 : Memref sig .tc .vmem S1x1x256x256 .bf16) (harg18 : arg18.IsWhole) (arg19 : Memref sig .tc .vmem S1x1x256x256 .bf16) (harg19 : arg19.IsWhole) (arg20 : Memref sig .tc .vmem S1x1x256x256 .bf16) (harg20 : arg20.IsWhole) (arg21 : Memref sig .tc .vmem S1x1x256x256 .bf16) (harg21 : arg21.IsWhole) (arg22 : Memref sig .tc .vmem S1x1x256x256 .bf16) (harg22 : arg22.IsWhole) (arg23 : Memref sig .tc .vmem S1x1x256x256 .bf16) (harg23 : arg23.IsWhole) (arg24 : Memref sig .tc .vmem S1x1x256x256 .bf16) (harg24 : arg24.IsWhole) (arg25 : Memref sig .tc .vmem S1x1x256x256 .bf16) (harg25 : arg25.IsWhole) (arg26 : Memref sig .tc .vmem S1x1x256x256 .bf16) (harg26 : arg26.IsWhole) (arg27 : Memref sig .tc .vmem S1x4x768x256 .f32) (harg27 : arg27.IsWhole) (arg28 : Memref sig .tc .vmem S1x4x768x256 .f32) (harg28 : arg28.IsWhole) (arg29 : Memref sig .tc .vmem S1x4x768x256 .f32) (harg29 : arg29.IsWhole) (arg30 : Memref sig .tc .vmem S1x1x2048x256 .bf16) (harg30 : arg30.IsWhole)
    (x0 : Vec F S1 .f32) (x1 : Vec F S1x1x2048x256 .bf16) (x2 : Vec F S1x1x256x256 .bf16) (x3 : Vec F S1x1x256x256 .bf16) (x4 : Vec F S1x1x256x256 .bf16) (x5 : Vec F S1x1x256x256 .bf16) (x6 : Vec F S1x1x256x256 .bf16) (x7 : Vec F S1x1x256x256 .bf16) (x8 : Vec F S1x1x256x256 .bf16) (x9 : Vec F S1x1x256x256 .bf16) (x10 : Vec F S1x1x256x256 .bf16) (x11 : Vec F S1x1x256x256 .bf16) (x12 : Vec F S1x1x256x256 .bf16) (x13 : Vec F S1x1x256x256 .bf16) (x14 : Vec F S1x1x256x256 .bf16) (x15 : Vec F S1x1x256x256 .bf16) (x16 : Vec F S1x1x256x256 .bf16) (x17 : Vec F S1x1x256x256 .bf16) (x18 : Vec F S1x1x256x256 .bf16) (x19 : Vec F S1x1x256x256 .bf16) (x20 : Vec F S1x1x256x256 .bf16) (x21 : Vec F S1x1x256x256 .bf16) (x22 : Vec F S1x1x256x256 .bf16) (x23 : Vec F S1x1x256x256 .bf16) (x24 : Vec F S1x4x768x256 .f32) (x25 : Vec F S1x4x768x256 .f32) (x26 : Vec F S1x4x768x256 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ (∃ d, owns (c : Thread nD τ) arg30 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare (out0_27 x0 x1 x2 x3 x4 x5 x6 x7 x8 x9 x10 x11 x12 x13 x14 x15 x16 x17 x18 x19 x20 x21 x22 x23 x24 x25 x26)) -∗ K ⟨⟩))
      ⊢ wp frame (wpE (defs₀ (F := F)) Variants.none c none) E (cc0_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_attn_eq_skeleton]; unfold cc0_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, Hk⟩
  subst hf0 hf1 hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  iexists _; isplitr
  swap; · iexact H27
  ipureintro
  split
  · rename_i hc
    have hf : ¬ flag (arg3.view.read (Elt F) f0) = 1#1 := (lowered_iff _).1 hc
    split
    · rename_i hc2
      exact absurd ((plain_iff _).1 hc2) hf
    · rw [out0_27, if_neg hf]
      refine (View.read_writes_eq_canon _ _ _ (cover _ _ _ _ _ _ _ _)).trans ?_
      exact canon_congr (by rfl) (by rfl) (by rfl) (by rfl) (by rfl) (by rfl) (by rfl) (by rfl)
  · rename_i hc
    split
    · rename_i hc2
      have hf : flag (arg3.view.read (Elt F) f0) = 1#1 := (plain_iff _).1 hc2
      rw [out0_27, if_pos hf]
      refine (View.read_writes_eq_canon _ _ _ (cover _ _ _ _ _ _ _ _)).trans ?_
      exact canon_congr (by rfl) (by rfl) (by rfl) (by rfl) (by rfl) (by rfl) (by rfl) (by rfl)
    · rename_i hc2
      exact absurd (Classical.byContradiction fun h => hc ((lowered_iff _).2 h)) fun h => hc2 ((plain_iff _).2 h)

end Cert.KernelIdeal.Attn

end
-- ==== Proof.AttnFrame.lean ====
module

public import proofs.«01_k».proof.Proof.AttnRun
public import Idealize.ShloMosaic.Lib.Claim

/-! The launch of the neighbourhood attention: what every window holds at every grid point, the body
    obligation from the body's triple, and the run. Several windows read the same array (the key blocks and
    the value blocks), so each input is held at a share. -/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: inputs keep their blocks, the output window ends at `out0_27` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨k + 28, h⟩ => absurd (show k + 28 < 28 from h) (by omega)
  Φ _ := Pipeline.ΦA spec0 c
  q w := Pipeline.shareOf spec0 w
  owed _ := 0

/-- The arrays are what the region finds. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (A_eq m c 10) (after_10 m c) t d
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  before0_11_of m (dats m 0 c) (A_eq m c 11) (after_11 m c) t d
theorem after_12 (c : Dev nD) (t : Fin cfg0.N) : (dats m 0 c).after 12 t = iblk m c 12 t := by dsimp only [dats]
theorem before_12 (c : Dev nD) (t : Fin cfg0.N) (d) : (dats m 0 c).before 12 t d = iblk m c 12 t :=
  before0_12_of m (dats m 0 c) (A_eq m c 12) (after_12 m c) t d
theorem after_13 (c : Dev nD) (t : Fin cfg0.N) : (dats m 0 c).after 13 t = iblk m c 13 t := by dsimp only [dats]
theorem before_13 (c : Dev nD) (t : Fin cfg0.N) (d) : (dats m 0 c).before 13 t d = iblk m c 13 t :=
  before0_13_of m (dats m 0 c) (A_eq m c 13) (after_13 m c) t d
theorem after_14 (c : Dev nD) (t : Fin cfg0.N) : (dats m 0 c).after 14 t = iblk m c 14 t := by dsimp only [dats]
theorem before_14 (c : Dev nD) (t : Fin cfg0.N) (d) : (dats m 0 c).before 14 t d = iblk m c 14 t :=
  before0_14_of m (dats m 0 c) (A_eq m c 14) (after_14 m c) t d
theorem after_15 (c : Dev nD) (t : Fin cfg0.N) : (dats m 0 c).after 15 t = iblk m c 15 t := by dsimp only [dats]
theorem before_15 (c : Dev nD) (t : Fin cfg0.N) (d) : (dats m 0 c).before 15 t d = iblk m c 15 t :=
  before0_15_of m (dats m 0 c) (A_eq m c 15) (after_15 m c) t d
theorem after_16 (c : Dev nD) (t : Fin cfg0.N) : (dats m 0 c).after 16 t = iblk m c 16 t := by dsimp only [dats]
theorem before_16 (c : Dev nD) (t : Fin cfg0.N) (d) : (dats m 0 c).before 16 t d = iblk m c 16 t :=
  before0_16_of m (dats m 0 c) (A_eq m c 16) (after_16 m c) t d
theorem after_17 (c : Dev nD) (t : Fin cfg0.N) : (dats m 0 c).after 17 t = iblk m c 17 t := by dsimp only [dats]
theorem before_17 (c : Dev nD) (t : Fin cfg0.N) (d) : (dats m 0 c).before 17 t d = iblk m c 17 t :=
  before0_17_of m (dats m 0 c) (A_eq m c 17) (after_17 m c) t d
theorem after_18 (c : Dev nD) (t : Fin cfg0.N) : (dats m 0 c).after 18 t = iblk m c 18 t := by dsimp only [dats]
theorem before_18 (c : Dev nD) (t : Fin cfg0.N) (d) : (dats m 0 c).before 18 t d = iblk m c 18 t :=
  before0_18_of m (dats m 0 c) (A_eq m c 18) (after_18 m c) t d
theorem after_19 (c : Dev nD) (t : Fin cfg0.N) : (dats m 0 c).after 19 t = iblk m c 19 t := by dsimp only [dats]
theorem before_19 (c : Dev nD) (t : Fin cfg0.N) (d) : (dats m 0 c).before 19 t d = iblk m c 19 t :=
  before0_19_of m (dats m 0 c) (A_eq m c 19) (after_19 m c) t d
theorem after_20 (c : Dev nD) (t : Fin cfg0.N) : (dats m 0 c).after 20 t = iblk m c 20 t := by dsimp only [dats]
theorem before_20 (c : Dev nD) (t : Fin cfg0.N) (d) : (dats m 0 c).before 20 t d = iblk m c 20 t :=
  before0_20_of m (dats m 0 c) (A_eq m c 20) (after_20 m c) t d
theorem after_21 (c : Dev nD) (t : Fin cfg0.N) : (dats m 0 c).after 21 t = iblk m c 21 t := by dsimp only [dats]
theorem before_21 (c : Dev nD) (t : Fin cfg0.N) (d) : (dats m 0 c).before 21 t d = iblk m c 21 t :=
  before0_21_of m (dats m 0 c) (A_eq m c 21) (after_21 m c) t d
theorem after_22 (c : Dev nD) (t : Fin cfg0.N) : (dats m 0 c).after 22 t = iblk m c 22 t := by dsimp only [dats]
theorem before_22 (c : Dev nD) (t : Fin cfg0.N) (d) : (dats m 0 c).before 22 t d = iblk m c 22 t :=
  before0_22_of m (dats m 0 c) (A_eq m c 22) (after_22 m c) t d
theorem after_23 (c : Dev nD) (t : Fin cfg0.N) : (dats m 0 c).after 23 t = iblk m c 23 t := by dsimp only [dats]
theorem before_23 (c : Dev nD) (t : Fin cfg0.N) (d) : (dats m 0 c).before 23 t d = iblk m c 23 t :=
  before0_23_of m (dats m 0 c) (A_eq m c 23) (after_23 m c) t d
theorem after_24 (c : Dev nD) (t : Fin cfg0.N) : (dats m 0 c).after 24 t = iblk m c 24 t := by dsimp only [dats]
theorem before_24 (c : Dev nD) (t : Fin cfg0.N) (d) : (dats m 0 c).before 24 t d = iblk m c 24 t :=
  before0_24_of m (dats m 0 c) (A_eq m c 24) (after_24 m c) t d
theorem after_25 (c : Dev nD) (t : Fin cfg0.N) : (dats m 0 c).after 25 t = iblk m c 25 t := by dsimp only [dats]
theorem before_25 (c : Dev nD) (t : Fin cfg0.N) (d) : (dats m 0 c).before 25 t d = iblk m c 25 t :=
  before0_25_of m (dats m 0 c) (A_eq m c 25) (after_25 m c) t d
theorem after_26 (c : Dev nD) (t : Fin cfg0.N) : (dats m 0 c).after 26 t = iblk m c 26 t := by dsimp only [dats]
theorem before_26 (c : Dev nD) (t : Fin cfg0.N) (d) : (dats m 0 c).before 26 t d = iblk m c 26 t :=
  before0_26_of m (dats m 0 c) (A_eq m c 26) (after_26 m c) t d
theorem after_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- What the body returns at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24, before_25, before_26]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body table's row at a point's slots. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: the arrays end at what the proof data gives, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run, without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were launched, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ))
    ((θ_run defs _ _).mono (fun _ h => h.2) (run_main_quiescent m ρ))

end Cert.KernelIdeal.Attn

end
-- ==== Proof.References.lean ====
module

public import proofs.«01_k».proof.Defs
public import proofs.«01_k».proof.Proof.Gen.CtxReferenceIdeal
public import proofs.«01_k».proof.Proof.Gen.ReferenceIdeal
public import Idealize.ShloMosaic.Lib.Claim
public import Idealize.ShloMosaic.Lib.Quiescent
public import Idealize.ShloMosaic.Lib.Tactic

/-! The two references are host operations only: they run, leave their arguments alone, and have no
    semaphore at all. -/

@[expose] public section

set_option maxRecDepth 16384

noncomputable section

namespace Cert.Proof.References

open Idealize.ShloMosaic Idealize.ShloMosaic.TcCoe Idealize.ShloMosaic.Tactic
open Idealize.SL.Sem

set_option maxHeartbeats 1600000 in
/-- The context attention's reference leaves its arguments as they were. -/
theorem ctx : Cert.quiescent_CtxReferenceIdeal := by
  intro m g _; hlo_run
  · intro _; and_intros <;> trivial
  · exact sem_eq_zero_of_no_sems (sig := Cert.CtxReferenceIdeal.sig) (by decide) _

set_option maxHeartbeats 1600000 in
/-- The neighbourhood attention's reference leaves its arguments as they were. -/
theorem attn : Cert.quiescent_ReferenceIdeal := by
  intro m g _; hlo_run
  · intro _; and_intros <;> trivial
  · exact sem_eq_zero_of_no_sems (sig := Cert.ReferenceIdeal.sig) (by decide) _

end Cert.Proof.References

end
-- ==== Proof.Mix.lean ====
/- The row of a transformer block's feed-forward part over the extended reals: the modulated norm, SwiGLU in its
   two spellings, and why they agree where the gate is finite. -/
module

public import Idealize.ShloMosaic.Lib.Pipeline.ValueKit
public import Idealize.ShloMosaic.Lib.Pointwise
public import Idealize.ShloMosaic.Lib.IdealHost

@[expose] public section

noncomputable section

namespace Cert.Proof.Mix

open Idealize.ShloMosaic

/-- A finite extended real. -/
def IsReal (x : EReal) : Prop := ∃ r : ℝ, x = r

theorem IsReal.coe (r : ℝ) : IsReal r := ⟨r, rfl⟩

theorem IsReal.one : IsReal 1 := ⟨1, rfl⟩

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The width of a token's row. -/
theorem width_eq : Ideal.ofBits .f32 0x44800000#32 = ((1024 : ℝ) : EReal) := by
  simp [Ideal.ofBits, Ideal.ieee, -EReal.coe_mul]; norm_num

/-- The width of a head of the recurrence. -/
theorem head_width_eq : Ideal.ofBits .f32 0x43000000#32 = ((128 : ℝ) : EReal) := by
  simp [Ideal.ofBits, Ideal.ieee, -EReal.coe_mul]; norm_num

/-- The norm's epsilon is a positive real. -/
theorem eps_eq : ∃ e : ℝ, 0 < e ∧ Ideal.ofBits .f32 0x358637BD#32 = (e : EReal) := by
  refine ⟨_, ?_, by simp [Ideal.ofBits, Ideal.ieee, -EReal.coe_mul]; rfl⟩
  positivity

theorem half_eq : Ideal.ofBits .f32 0x3F000000#32 = ((1 / 2 : ℝ) : EReal) := by
  simp [Ideal.ofBits, Ideal.ieee, -EReal.coe_mul]; norm_num

/-- The reciprocal root of a mean square of finite numbers plus the epsilon is finite. -/
theorem isReal_rms {n : ℕ} {x : Fin n → EReal} (hx : ∀ k, IsReal (x k)) {w : EReal} {c : ℝ} (hw : w = c) (hc : 0 < c) :
    IsReal (Ideal.rsqrt (Ideal.div (∑ k, x k * x k) w + Ideal.ofBits .f32 0x358637BD#32)) := by
  obtain ⟨e, he, hee⟩ := eps_eq
  choose g hg using hx
  have hs : (∑ k, x k * x k) = ((∑ k, g k * g k : ℝ) : EReal) := by
    rw [coe_sum]; exact Finset.sum_congr rfl fun k _ => by rw [hg k, EReal.coe_mul]
  have h0 : 0 ≤ ∑ k, g k * g k := Finset.sum_nonneg fun k _ => mul_self_nonneg _
  rw [hs, hee, hw, Ideal.div_coe hc.ne', ← EReal.coe_mul, ← EReal.coe_add, Ideal.rsqrt_coe]
  have hp : 0 < (∑ k, g k * g k) * (1 / c) + e := by positivity
  rw [if_neg (not_lt.mpr hp.le), if_neg hp.ne']
  exact ⟨_, rfl⟩

/-- The modulated norm of a row. -/
def hRow (x n sc sh : Fin 1024 → EReal) (d : Fin 1024) : EReal :=
  x d * Ideal.rsqrt (Ideal.div (∑ k, x k * x k) (Ideal.ofBits .f32 0x44800000#32) + Ideal.ofBits .f32 0x358637BD#32)
    * n d * (1 + sc d) + sh d

theorem isReal_hRow {x n sc sh : Fin 1024 → EReal} (hx : ∀ d, IsReal (x d)) (hn : ∀ d, IsReal (n d))
    (hsc : ∀ d, IsReal (sc d)) (hsh : ∀ d, IsReal (sh d)) (d : Fin 1024) : IsReal (hRow x n sc sh d) :=
  ((((hx d).mul (isReal_rms hx width_eq (by norm_num))).mul (hn d)).mul (IsReal.one.add (hsc d))).add (hsh d)

/-- SiLU by the hyperbolic tangent of half the argument. -/
def siluTanh (a : EReal) : EReal :=
  Ideal.ofBits .f32 0x3F000000#32 * a
    + Ideal.ofBits .f32 0x3F000000#32 * a * Ideal.tanh (Ideal.ofBits .f32 0x3F000000#32 * a)

/-- SiLU by the logistic function. -/
def silu (a : EReal) : EReal := a * Ideal.div 1 (1 + Ideal.exp (-a))

theorem half_tanh (a : ℝ) : 1 / 2 * a + 1 / 2 * a * Real.tanh (1 / 2 * a) = a * (1 + Real.exp (-a))⁻¹ := by
  have h1 : Real.exp (-a) = Real.exp (-(1 / 2 * a)) * Real.exp (-(1 / 2 * a)) := by rw [← Real.exp_add]; ring_nf
  have h2 : Real.exp (1 / 2 * a) * Real.exp (-(1 / 2 * a)) = 1 := by rw [← Real.exp_add]; simp
  rw [Real.tanh_eq_sinh_div_cosh, Real.sinh_eq, Real.cosh_eq, h1]
  have hp := Real.exp_pos (1 / 2 * a)
  have hq := Real.exp_pos (-(1 / 2 * a))
  set p := Real.exp (1 / 2 * a)
  set q := Real.exp (-(1 / 2 * a))
  have hs : 1 + q * q = q * (p + q) := by rw [mul_add, mul_comm q p, h2]
  rw [hs]
  field_simp
  linear_combination 2 * a * h2

/-- The two spellings agree at a finite argument. -/
theorem siluTanh_eq {a : EReal} : IsReal a → siluTanh a = silu a := by
  rintro ⟨r, rfl⟩
  have h : Ideal.div 1 (1 + Ideal.exp (-(r : EReal))) = (((1 + Real.exp (-r))⁻¹ : ℝ) : EReal) := Ideal.logistic_coe r
  rw [siluTanh, silu, h, half_eq, ← EReal.coe_mul, Ideal.tanh_coe, ← EReal.coe_mul, ← EReal.coe_mul, ← EReal.coe_add,
    half_tanh]

/-- A row of the feed-forward part, with its activation `act`. -/
def ffRow (act : EReal → EReal) (h : Fin 1024 → EReal) (win : Fin 1024 → Fin 5632 → EReal)
    (wout : Fin 2816 → Fin 1024 → EReal) (d : Fin 1024) : EReal :=
  ∑ f : Fin 2816, act (∑ k, h k * win k ⟨f, by omega⟩) * (∑ k, h k * win k ⟨2816 + f, by omega⟩) * wout f d

theorem ffRow_tanh {h : Fin 1024 → EReal} {win : Fin 1024 → Fin 5632 → EReal} {wout : Fin 2816 → Fin 1024 → EReal}
    (hh : ∀ k, IsReal (h k)) (hw : ∀ k f, IsReal (win k f)) (d : Fin 1024) :
    ffRow siluTanh h win wout d = ffRow silu h win wout d :=
  Finset.sum_congr rfl fun f _ => by rw [siluTanh_eq (IsReal.sum _ fun k => (hh k).mul (hw k _))]

/-- The hidden channels in the two parts that the kernel multiplies one after the other. -/
theorem ffRow_split (act : EReal → EReal) (h : Fin 1024 → EReal) (win : Fin 1024 → Fin 5632 → EReal)
    (wout : Fin 2816 → Fin 1024 → EReal) (d : Fin 1024) :
    ffRow act h win wout d
      = (∑ f : Fin 1536, act (∑ k, h k * win k ⟨f, by omega⟩) * (∑ k, h k * win k ⟨2816 + f, by omega⟩)
          * wout ⟨f, by omega⟩ d)
        + ∑ f : Fin 1280, act (∑ k, h k * win k ⟨1536 + f, by omega⟩) * (∑ k, h k * win k ⟨4352 + f, by omega⟩)
          * wout ⟨1536 + f, by omega⟩ d := by
  unfold ffRow
  refine (Fin.sum_univ_add (a := 1536) (b := 1280) _).trans (congrArg₂ (· + ·) rfl
    (Finset.sum_congr rfl fun f _ => ?_))
  have e : (⟨2816 + (1536 + (f : ℕ)), by omega⟩ : Fin 5632) = ⟨4352 + f, by omega⟩ := Fin.ext (by simp; omega)
  show act (∑ k, h k * win k ⟨1536 + f, _⟩) * (∑ k, h k * win k ⟨2816 + (1536 + f), _⟩) * wout ⟨1536 + f, _⟩ d = _
  rw [e]

/-- A row of the block's output: the gated residual after the mixer, then the gated residual after the
    feed-forward part. -/
def outRow (act : EReal → EReal) (x1 n sc sh g : Fin 1024 → EReal) (win : Fin 1024 → Fin 5632 → EReal)
    (wout : Fin 2816 → Fin 1024 → EReal) (d : Fin 1024) : EReal :=
  x1 d + g d * ffRow act (hRow x1 n sc sh) win wout d

theorem outRow_tanh {x1 n sc sh g : Fin 1024 → EReal} {win : Fin 1024 → Fin 5632 → EReal}
    {wout : Fin 2816 → Fin 1024 → EReal} (hx : ∀ d, IsReal (x1 d)) (hn : ∀ d, IsReal (n d))
    (hsc : ∀ d, IsReal (sc d)) (hsh : ∀ d, IsReal (sh d)) (hw : ∀ k f, IsReal (win k f)) (d : Fin 1024) :
    outRow siluTanh x1 n sc sh g win wout d = outRow silu x1 n sc sh g win wout d := by
  rw [outRow, outRow, ffRow_tanh (isReal_hRow hx hn hsc hsh) hw]

end Cert.Proof.Mix
-- ==== Proof.MixReference.lean ====
/- What the references of the feed-forward blocks compute, at one entry. -/
module

public import proofs.«01_k».proof.Proof.Mix
public import proofs.«01_k».proof.Proof.Gen.NaMixReferenceIdeal
public import proofs.«01_k».proof.Proof.Gen.HgMixReferenceIdeal

@[expose] public section

set_option maxRecDepth 16384

noncomputable section

namespace Cert.NaMixReferenceIdeal.Val

open Idealize.ShloMosaic Cert.NaMixReferenceIdeal Cert.NaMixReferenceIdeal.Gen Cert.Proof.Mix

/-- The stream after the attention's output projection and its gated residual. -/
abbrev x1Ref (a : FVec Ideal S4x4x8192x256 .bf16) (x : FVec Ideal S4x8192x1024 .f32) (g1 : FVec Ideal S4x1x1024 .f32)
    (wo : FVec Ideal S1024x1024 .bf16) : FVec Ideal S4x8192x1024 .f32 :=
  addf x (mulf (broadcastInDim S4x8192x1024 ![0, 1, 2] bcast_S4x1x1024_S4x8192x1024_0_1_2 g1)
    (Host.dotGeneral dot_S4x8192x1024_S1024x1024_S4x8192x1024_2_0_01_1_n_n none
      (extf .f32 (shapeCast S4x8192x1024 (transpose S4x8192x4x256 [1, 2, 0, 3] a
        transposes_S4x4x8192x256_S4x8192x4x256_1_2_0_3) shapeCasts_S4x8192x4x256_S4x8192x1024) bitsLt_bf16_f32)
      (extf .f32 wo bitsLt_bf16_f32)))

/-- The modulated norm. -/
abbrev hRef (x1 : FVec Ideal S4x8192x1024 .f32) (n : FVec Ideal S1x1024 .f32) (sc sh : FVec Ideal S4x1x1024 .f32) :
    FVec Ideal S4x8192x1024 .f32 :=
  addf (mulf (mulf (mulf x1 (broadcastInDim S4x8192x1024 ![0, 1, 2] bcast_S4x8192x1_S4x8192x1024_0_1_2
      (Host.rsqrt (addf (Host.divf (broadcastInDim S4x8192x1 ![0, 1] bcast_S4x8192_S4x8192x1_0_1
          (Host.reduceAdd (mulf x1 x1) (constant S_ .f32 0x00000000#32) reducesTo_S4x8192x1024_S4x8192_d2 h_S_))
          (broadcastInDim S4x8192x1 ![] bcast_S_S4x8192x1 (constant S_ .f32 0x44800000#32)))
        (broadcastInDim S4x8192x1 ![] bcast_S_S4x8192x1 (constant S_ .f32 0x358637BD#32))))))
      (broadcastInDim S4x8192x1024 ![0, 1, 2] bcast_S1x1x1024_S4x8192x1024_0_1_2
        (broadcastInDim S1x1x1024 ![1, 2] bcast_S1x1024_S1x1x1024_1_2 n)))
      (broadcastInDim S4x8192x1024 ![0, 1, 2] bcast_S4x1x1024_S4x8192x1024_0_1_2
        (addf (broadcastInDim S4x1x1024 ![] bcast_S_S4x1x1024 (constant S_ .f32 0x3F800000#32)) sc)))
    (broadcastInDim S4x8192x1024 ![0, 1, 2] bcast_S4x1x1024_S4x8192x1024_0_1_2 sh)

/-- The logistic function's spelling in SiLU. -/
abbrev siluRef (v : FVec Ideal S4x8192x2816 .f32) : FVec Ideal S4x8192x2816 .f32 :=
  mulf v (Host.divf (broadcastInDim S4x8192x2816 ![] bcast_S_S4x8192x2816 (constant S_ .f32 0x3F800000#32))
    (addf (broadcastInDim S4x8192x2816 ![] bcast_S_S4x8192x2816 (constant S_ .f32 0x3F800000#32))
      (Host.exp (Host.negf v))))

/-- Gate and up projections. -/
abbrev guRef (h : FVec Ideal S4x8192x1024 .f32) (win : FVec Ideal S1024x5632 .bf16) : FVec Ideal S4x8192x5632 .f32 :=
  Host.dotGeneral dot_S4x8192x1024_S1024x5632_S4x8192x5632_2_0_01_1_n_n none h (extf .f32 win bitsLt_bf16_f32)

/-- The gated residual after the feed-forward part. -/
abbrev outRef (x1 h : FVec Ideal S4x8192x1024 .f32) (g2 : FVec Ideal S4x1x1024 .f32) (win : FVec Ideal S1024x5632 .bf16)
    (wout : FVec Ideal S2816x1024 .bf16) : FVec Ideal S4x8192x1024 .f32 :=
  addf x1 (mulf (broadcastInDim S4x8192x1024 ![0, 1, 2] bcast_S4x1x1024_S4x8192x1024_0_1_2 g2)
    (Host.dotGeneral dot_S4x8192x2816_S2816x1024_S4x8192x1024_2_0_01_1_n_n none
      (mulf (siluRef (extractStridedSlice S4x8192x2816 ![0, 0, 0] (guRef h win)
          slices_S4x8192x5632_S4x8192x2816_0_0_0))
        (extractStridedSlice S4x8192x2816 ![0, 0, 2816] (guRef h win) slices_S4x8192x5632_S4x8192x2816_0_0_2816))
      (extf .f32 wout bitsLt_bf16_f32)))

theorem x1Ref_at (a : FVec Ideal S4x4x8192x256 .bf16) (x : FVec Ideal S4x8192x1024 .f32)
    (g1 : FVec Ideal S4x1x1024 .f32) (wo : FVec Ideal S1024x1024 .bf16) (b : Fin 4) (t : Fin 8192) (d : Fin 1024) :
    x1Ref a x g1 wo (ix3 b t d) = x (ix3 b t d) + g1 (ix3 b 0 d)
      * ∑ k : Fin 1024, a (ix4 ⟨k / 256, by omega⟩ b t ⟨k % 256, by omega⟩) * wo (ix2 k d) := by
  pointwise [x1Ref]

theorem hRef_at (x1 : FVec Ideal S4x8192x1024 .f32) (n : FVec Ideal S1x1024 .f32) (sc sh : FVec Ideal S4x1x1024 .f32)
    (b : Fin 4) (t : Fin 8192) (d : Fin 1024) :
    hRef x1 n sc sh (ix3 b t d)
      = hRow (fun k => x1 (ix3 b t k)) (fun k => n (ix2 0 k)) (fun k => sc (ix3 b 0 k)) (fun k => sh (ix3 b 0 k)) d := by
  pointwise [hRef, hRow]

theorem outRef_at (x1 h : FVec Ideal S4x8192x1024 .f32) (g2 : FVec Ideal S4x1x1024 .f32)
    (win : FVec Ideal S1024x5632 .bf16) (wout : FVec Ideal S2816x1024 .bf16) (b : Fin 4) (t : Fin 8192) (d : Fin 1024) :
    outRef x1 h g2 win wout (ix3 b t d)
      = x1 (ix3 b t d) + g2 (ix3 b 0 d) * ffRow silu (fun k => h (ix3 b t k)) (fun k f => win (ix2 k f))
          (fun f k => wout (ix2 f k)) d := by
  pointwise [outRef, siluRef, guRef, ffRow, silu]

end Cert.NaMixReferenceIdeal.Val
-- ==== Proof.FiniteArgs.lean ====
/- A printed `jnp.all(jnp.abs(a) < jnp.inf)` read back: every entry is a real number. -/
module

public import proofs.«01_k».proof.Proof.Mix
public import proofs.«01_k».proof.Proof.Gen.Pre_finite_na
public import proofs.«01_k».proof.Proof.Gen.Pre_finite_hg
public import proofs.«01_k».proof.Proof.Gen.Pre_finite_proj
public import Idealize.ShloMosaic.Lib.ReduceAll

@[expose] public section

noncomputable section

namespace Cert.Proof.Mix

open Idealize.ShloMosaic

theorem inf_eq : Ideal.ofBits .f32 0x7F800000#32 = ⊤ := by
  simp [Ideal.ofBits, Ideal.ieee]

theorem isReal_of_abs {x : EReal} (h : x ⊔ -x < ⊤) : IsReal x := by
  induction x with
  | bot => simp at h
  | top => simp at h
  | coe r => exact ⟨r, rfl⟩

theorem and_one {a b : BitVec 1} (h : IntOp.andi a b = 1#1) : a = 1#1 ∧ b = 1#1 := by
  revert a b; decide

/-- The printed test of a whole array. -/
theorem isReal_of_all {s t u : Shape} {axes : List (Fin s.rank)} [Subsingleton t.Idx] (x : FVec Ideal s .f32) (S0 : Shape)
    (dims : Fin S0.rank → Fin s.rank)
    (hb : S0.BroadcastsInDim s dims) (init : u.Idx → BitVec 1) (h : s.ReducesTo axes t) (hu : 0 < u.numel) (j : t.Idx)
    (e : Host.reduce IntOp.andi (cmpf .olt (Host.absf x) (broadcastInDim s dims hb (constant S0 .f32 0x7F800000#32))) init h hu j = 1#1)
    (i : s.Idx) : IsReal (x i) := by
  have h1 := Host.reduce_andi_all _ init h hu j e i
  pointwise at h1
  rw [inf_eq] at h1
  have h2 : FloatOps.absf (F := Ideal) (φ := .f32) (x i) < ⊤ := by
    by_contra hc
    rw [decide_eq_false hc] at h1
    exact absurd h1 (by decide)
  exact isReal_of_abs h2

theorem na {a0 : FVec Ideal Cert.Pre_finite_na.S4x4x8192x256 .bf16} {a1 : FVec Ideal Cert.Pre_finite_na.S4x8192x1024 .f32}
    {a2 : FVec Ideal Cert.Pre_finite_na.S4x1x1024 .f32} {a3 : FVec Ideal Cert.Pre_finite_na.S1x1024 .f32}
    {a4 a5 a6 : FVec Ideal Cert.Pre_finite_na.S4x1x1024 .f32} {a7 : FVec Ideal Cert.Pre_finite_na.S1024x1024 .bf16}
    {a8 : FVec Ideal Cert.Pre_finite_na.S1024x5632 .bf16} {a9 : FVec Ideal Cert.Pre_finite_na.S2816x1024 .bf16}
    (h : Cert.Pre_finite_na.fn (F := Ideal) a0 a1 a2 a3 a4 a5 a6 a7 a8 a9 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a7 i)) ∧ (∀ i, IsReal (a8 i)) := by
  have e := congrFun h ix0
  dsimp only [Cert.Pre_finite_na.fn, Cert.Pre_finite_na.fn_part1, Cert.Pre_finite_na.fn_part2, andi] at e
  obtain ⟨e, h8⟩ := and_one e
  obtain ⟨e, h7⟩ := and_one e
  obtain ⟨e, h5⟩ := and_one e
  obtain ⟨e, h4⟩ := and_one e
  obtain ⟨e, h3⟩ := and_one e
  obtain ⟨e, h2⟩ := and_one e
  obtain ⟨h0, h1⟩ := and_one e
  exact ⟨isReal_of_all _ _ _ _ _ _ _ _ h0, isReal_of_all _ _ _ _ _ _ _ _ h1, isReal_of_all _ _ _ _ _ _ _ _ h2,
    isReal_of_all _ _ _ _ _ _ _ _ h3, isReal_of_all _ _ _ _ _ _ _ _ h4, isReal_of_all _ _ _ _ _ _ _ _ h5,
    isReal_of_all _ _ _ _ _ _ _ _ h7, isReal_of_all _ _ _ _ _ _ _ _ h8⟩

theorem hg {a0 a1 a2 : FVec Ideal Cert.Pre_finite_hg.S4x8192x1024 .bf16} {a3 : FVec Ideal Cert.Pre_finite_hg.S1x1024 .f32}
    {a4 : FVec Ideal Cert.Pre_finite_hg.S4x8192x1024 .f32} {a5 : FVec Ideal Cert.Pre_finite_hg.S4x1x1024 .f32}
    {a6 : FVec Ideal Cert.Pre_finite_hg.S1x1024 .f32} {a7 a8 a9 : FVec Ideal Cert.Pre_finite_hg.S4x1x1024 .f32}
    {a10 : FVec Ideal Cert.Pre_finite_hg.S1024x1024 .bf16} {a11 : FVec Ideal Cert.Pre_finite_hg.S1024x5632 .bf16}
    {a12 : FVec Ideal Cert.Pre_finite_hg.S2816x1024 .bf16}
    (h : Cert.Pre_finite_hg.fn (F := Ideal) a0 a1 a2 a3 a4 a5 a6 a7 a8 a9 a10 a11 a12 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i))
      ∧ (∀ i, IsReal (a10 i)) ∧ (∀ i, IsReal (a11 i)) := by
  have e := congrFun h ix0
  dsimp only [Cert.Pre_finite_hg.fn, Cert.Pre_finite_hg.fn_part1, Cert.Pre_finite_hg.fn_part2, Cert.Pre_finite_hg.fn_part3,
    andi] at e
  obtain ⟨e, h11⟩ := and_one e
  obtain ⟨e, h10⟩ := and_one e
  obtain ⟨e, h8⟩ := and_one e
  obtain ⟨e, h7⟩ := and_one e
  obtain ⟨e, h6⟩ := and_one e
  obtain ⟨e, h5⟩ := and_one e
  obtain ⟨e, h4⟩ := and_one e
  obtain ⟨e, h3⟩ := and_one e
  obtain ⟨e, h2⟩ := and_one e
  obtain ⟨h0, h1⟩ := and_one e
  exact ⟨isReal_of_all _ _ _ _ _ _ _ _ h0, isReal_of_all _ _ _ _ _ _ _ _ h1, isReal_of_all _ _ _ _ _ _ _ _ h2, isReal_of_all _ _ _ _ _ _ _ _ h3, isReal_of_all _ _ _ _ _ _ _ _ h4, isReal_of_all _ _ _ _ _ _ _ _ h5, isReal_of_all _ _ _ _ _ _ _ _ h6, isReal_of_all _ _ _ _ _ _ _ _ h7, isReal_of_all _ _ _ _ _ _ _ _ h8, isReal_of_all _ _ _ _ _ _ _ _ h10, isReal_of_all _ _ _ _ _ _ _ _ h11⟩

/-- The printed test of a whole array against a lower bound. -/
theorem le_of_all {s t u : Shape} {axes : List (Fin s.rank)} [Subsingleton t.Idx] (x : FVec Ideal s .f32) (S0 : Shape)
    (b : BitVec 32) (dims : Fin S0.rank → Fin s.rank)
    (hb : S0.BroadcastsInDim s dims) (init : u.Idx → BitVec 1) (h : s.ReducesTo axes t) (hu : 0 < u.numel) (j : t.Idx)
    (e : Host.reduce IntOp.andi (cmpf .oge x (broadcastInDim s dims hb (constant S0 .f32 b))) init h hu j = 1#1)
    (i : s.Idx) : Ideal.ofBits .f32 b ≤ x i := by
  have h1 := Host.reduce_andi_all _ init h hu j e i
  pointwise at h1
  by_contra hc
  rw [decide_eq_false hc] at h1
  exact absurd h1 (by decide)

theorem proj {a0 : FVec Ideal Cert.Pre_finite_proj.S4x8192x1024 .f32} {a1 : FVec Ideal Cert.Pre_finite_proj.S1x1024 .f32}
    {a2 a3 : FVec Ideal Cert.Pre_finite_proj.S4x1x1024 .f32} {a4 : FVec Ideal Cert.Pre_finite_proj.S1024x5120 .bf16}
    {a5 : FVec Ideal Cert.Pre_finite_proj.S2x1x1024 .f32}
    (h : Cert.Pre_finite_proj.fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ ∀ i, Ideal.ofBits .f32 0x0D800000#32 ≤ a5 i := by
  have e := congrFun h ix0
  dsimp only [Cert.Pre_finite_proj.fn, Cert.Pre_finite_proj.fn_part1, andi] at e
  obtain ⟨e, h6⟩ := and_one e
  obtain ⟨e, h5⟩ := and_one e
  obtain ⟨e, h4⟩ := and_one e
  obtain ⟨e, h3⟩ := and_one e
  obtain ⟨e, h2⟩ := and_one e
  obtain ⟨h0, h1⟩ := and_one e
  exact ⟨isReal_of_all _ _ _ _ _ _ _ _ h0, isReal_of_all _ _ _ _ _ _ _ _ h1, isReal_of_all _ _ _ _ _ _ _ _ h2,
    isReal_of_all _ _ _ _ _ _ _ _ h3, isReal_of_all _ _ _ _ _ _ _ _ h4, isReal_of_all _ _ _ _ _ _ _ _ h5,
    le_of_all _ _ _ _ _ _ _ _ _ h6⟩

end Cert.Proof.Mix
-- ==== Proof.NaValue.lean ====
/- What the feed-forward kernel after the neighbourhood attention computes. -/
module

public import proofs.«01_k».proof.Proof.MixReference
public import proofs.«01_k».proof.Proof.FiniteArgs
public import proofs.«01_k».proof.Proof.Gen.NaMixIdeal.Frame

@[expose] public section

set_option maxRecDepth 16384

noncomputable section

namespace Cert.NaMixIdeal.Val

open Idealize.ShloMosaic Idealize.ShloMosaic.TcCoe Idealize.SL.Sem Cert.NaMixIdeal Cert.NaMixIdeal.Gen Cert.Proof.Mix
open Idealize.ShloMosaic.Pipeline (Dat)

/-- The output projection, one group of heads after the other. -/
theorem groups {M : Type*} [AddCommMonoid M] (f : Fin 1024 → M) :
    (∑ x : Fin 256, f ⟨x, by omega⟩) + (∑ x : Fin 256, f ⟨256 + x, by omega⟩) + (∑ x : Fin 256, f ⟨512 + x, by omega⟩)
      + (∑ x : Fin 256, f ⟨768 + x, by omega⟩) = ∑ k, f k := by
  rw [Fin.sum_univ_tiles 4 256 rfl f, Fin.sum_univ_four]
  refine congrArg₂ (· + ·) (congrArg₂ (· + ·) (congrArg₂ (· + ·) ?_ ?_) ?_) ?_ <;>
    exact Finset.sum_congr rfl fun x _ => congrArg f (Fin.ext (by simp))

/-- The stream after the output projection, of one row of the block. -/
def x1Row (x0 : Vec Ideal S4x1x512x256 .bf16) (x1 : Vec Ideal S1x512x1024 .f32) (x2 : Vec Ideal S1x1x1024 .f32)
    (x7 : Vec Ideal S1024x1024 .bf16) (r : Fin 512) (d : Fin 1024) : EReal :=
  x1 (ix3 0 r d) + x2 (ix3 0 0 d)
    * ∑ k : Fin 1024, x0 (ix4 ⟨k / 256, by omega⟩ 0 r ⟨k % 256, by omega⟩) * x7 (ix2 k d)

section
variable (x0 : Vec Ideal S4x1x512x256 .bf16) (x1 : Vec Ideal S1x512x1024 .f32) (x2 : Vec Ideal S1x1x1024 .f32) (x3 : Vec Ideal S1x1024 .f32) (x4 x5 x6 : Vec Ideal S1x1x1024 .f32)
  (x7 : Vec Ideal S1024x1024 .bf16) (x8 : Vec Ideal S1024x5632 .bf16) (x9 : Vec Ideal S2816x1024 .bf16)

/-- The feed-forward part of 256 rows, the hidden channels in two parts. -/
theorem ff_low (h : FVec Ideal S256x1024 .bf16) (r : Fin 256) (d : Fin 1024) :
    k0_pay16 h (View.ld x8 r0_16) (View.ld x8 r0_17) (View.ld x9 r0_18) (ix2 r d)
        + k0_pay17 h (View.ld x8 r0_19) (View.ld x8 r0_20) (View.ld x9 r0_21) (ix2 r d)
      = ffRow siluTanh (fun k => h (ix2 r k)) (fun k f => x8 (ix2 k f)) (fun f k => x9 (ix2 f k)) d := by
  rw [ffRow_split]
  unfold siluTanh
  pointwise [k0_pay16, k0_pay17]
  all_goals blk_point []

theorem low_x1 (r : Fin 256) (d : Fin 1024) :
    k0_pay5 (k0_pay21 x0 x1 x2 x3 x4 x5 x6 x7 x8 x9) (k0_pay22 x0 x1 x2 x3 x4 x5 x6 x7 x8 x9)
      (k0_pay23 x0 x1 x2 x3 x4 x5 x6 x7 x8 x9) (ix2 r d) = x1Row x0 x1 x2 x7 ⟨r, by omega⟩ d := by
  unfold x1Row
  rw [← groups]
  pointwise [k0_pay5, k0_pay21, k0_pay22, k0_pay23, k0_pay2, k0_pay3, k0_pay4]
  all_goals blk_point []

theorem high_x1 (r : Fin 256) (d : Fin 1024) :
    (k0_pay28 x0 x1 x2 x3 x4 x5 x6 x7 x8 x9) (ix2 r d) = x1Row x0 x1 x2 x7 ⟨256 + r, by omega⟩ d := by
  unfold x1Row
  rw [← groups]
  pointwise [k0_pay28, k0_pay25, k0_pay26, k0_pay27, k0_pay10, k0_pay7, k0_pay8, k0_pay9]
  all_goals blk_point []

theorem norm_low (v1 v22 v23 : FVec Ideal S256x1024 .f32) (n : Vec Ideal S1x1024 .f32)
    (sc sh : Vec Ideal S1x1x1024 .f32) (r : Fin 256) (d : Fin 1024) :
    k0_pay6 v1 v22 v23 n sc sh (ix2 r d) = hRow (fun k => k0_pay5 v1 v22 v23 (ix2 r k)) (fun k => n (ix2 0 k))
      (fun k => sc (ix3 0 0 k)) (fun k => sh (ix3 0 0 k)) d := by
  pointwise [k0_pay6, k0_pay5, hRow]

theorem norm_high (v51 : FVec Ideal S256x1024 .f32) (v53 : FVec Ideal S1x1024 .f32) (v57 : FVec Ideal S256x1024 .f32)
    (v58 v62 v66 : Vec Ideal S1x1x256x256 .bf16) (v60 v64 v68 : Vec Ideal S256x1024 .bf16) (n : Vec Ideal S1x1024 .f32)
    (sc sh : Vec Ideal S1x1x1024 .f32) (r : Fin 256) (d : Fin 1024) :
    k0_pay15 (k0_pay10 v51 v53 v57 v58 v60 v62 v64 v66 v68) n (k0_pay11 sc) (k0_pay12 sh)
        (k0_pay13 v51 v53 v57 v58 v60 v62 v64 v66 v68) k0_pay14 (ix2 r d)
      = hRow (fun k => k0_pay10 v51 v53 v57 v58 v60 v62 v64 v66 v68 (ix2 r k)) (fun k => n (ix2 0 k))
        (fun k => sc (ix3 0 0 k)) (fun k => sh (ix3 0 0 k)) d := by
  unfold k0_pay13
  generalize k0_pay10 v51 v53 v57 v58 v60 v62 v64 v66 v68 = x
  pointwise [k0_pay15, k0_pay11, k0_pay12, k0_pay14, hRow]

/-- A row of the block's output. -/
def outAt (r : Fin 512) (d : Fin 1024) : EReal :=
  outRow siluTanh (x1Row x0 x1 x2 x7 r) (fun k => x3 (ix2 0 k)) (fun k => x4 (ix3 0 0 k)) (fun k => x5 (ix3 0 0 k))
    (fun k => x6 (ix3 0 0 k)) (fun k f => x8 (ix2 k f)) (fun f k => x9 (ix2 f k)) d

theorem low_out (z : Fin 1) (r : Fin 256) (d : Fin 1024) :
    k0_pay18 (k0_pay5 (k0_pay21 x0 x1 x2 x3 x4 x5 x6 x7 x8 x9) (k0_pay22 x0 x1 x2 x3 x4 x5 x6 x7 x8 x9) (k0_pay23 x0 x1 x2 x3 x4 x5 x6 x7 x8 x9))
        (k0_pay16 (k0_pay24 x0 x1 x2 x3 x4 x5 x6 x7 x8 x9) (View.ld x8 r0_16) (View.ld x8 r0_17) (View.ld x9 r0_18))
        (k0_pay17 (k0_pay24 x0 x1 x2 x3 x4 x5 x6 x7 x8 x9) (View.ld x8 r0_19) (View.ld x8 r0_20) (View.ld x9 r0_21)) (View.ld x6 r0_1) (ix3 z r d)
      = outAt x0 x1 x2 x3 x4 x5 x6 x7 x8 x9 ⟨r, by omega⟩ d := by
  have h1 : (fun k => k0_pay5 (k0_pay21 x0 x1 x2 x3 x4 x5 x6 x7 x8 x9) (k0_pay22 x0 x1 x2 x3 x4 x5 x6 x7 x8 x9) (k0_pay23 x0 x1 x2 x3 x4 x5 x6 x7 x8 x9) (ix2 r k)) = x1Row x0 x1 x2 x7 ⟨r, by omega⟩ :=
    funext fun k => low_x1 x0 x1 x2 x3 x4 x5 x6 x7 x8 x9 r k
  have h2 : (fun k => (k0_pay24 x0 x1 x2 x3 x4 x5 x6 x7 x8 x9) (ix2 r k))
      = hRow (x1Row x0 x1 x2 x7 ⟨r, by omega⟩) (fun k => x3 (ix2 0 k)) (fun k => x4 (ix3 0 0 k))
        (fun k => x5 (ix3 0 0 k)) := by
    funext k
    unfold k0_pay24
    rw [norm_low, h1]
    congr 1
    all_goals (funext k; pointwise)
  have hf := ff_low x8 x9 (k0_pay24 x0 x1 x2 x3 x4 x5 x6 x7 x8 x9) r d
  rw [h2] at hf
  unfold outAt outRow
  rw [← hf, ← low_x1 x0 x1 x2 x3 x4 x5 x6 x7 x8 x9 r d]
  generalize k0_pay5 (k0_pay21 x0 x1 x2 x3 x4 x5 x6 x7 x8 x9) (k0_pay22 x0 x1 x2 x3 x4 x5 x6 x7 x8 x9) (k0_pay23 x0 x1 x2 x3 x4 x5 x6 x7 x8 x9) = u
  generalize k0_pay16 (k0_pay24 x0 x1 x2 x3 x4 x5 x6 x7 x8 x9) (View.ld x8 r0_16) (View.ld x8 r0_17) (View.ld x9 r0_18) = p
  generalize k0_pay17 (k0_pay24 x0 x1 x2 x3 x4 x5 x6 x7 x8 x9) (View.ld x8 r0_19) (View.ld x8 r0_20) (View.ld x9 r0_21) = q
  pointwise [k0_pay18]

theorem high_out (z : Fin 1) (r : Fin 256) (d : Fin 1024) :
    k0_pay1 (k0_pay28 x0 x1 x2 x3 x4 x5 x6 x7 x8 x9) (k0_pay19 (k0_pay29 x0 x1 x2 x3 x4 x5 x6 x7 x8 x9) (View.ld x8 r0_16) (View.ld x8 r0_17) (View.ld x9 r0_18))
        (k0_pay20 (k0_pay29 x0 x1 x2 x3 x4 x5 x6 x7 x8 x9) (View.ld x8 r0_19) (View.ld x8 r0_20)) (View.ld x9 r0_21) (View.ld x6 r0_1) (ix3 z r d)
      = outAt x0 x1 x2 x3 x4 x5 x6 x7 x8 x9 ⟨256 + r, by omega⟩ d := by
  have h1 : (fun k => (k0_pay28 x0 x1 x2 x3 x4 x5 x6 x7 x8 x9) (ix2 r k)) = x1Row x0 x1 x2 x7 ⟨256 + r, by omega⟩ :=
    funext fun k => high_x1 x0 x1 x2 x3 x4 x5 x6 x7 x8 x9 r k
  have h2 : (fun k => (k0_pay29 x0 x1 x2 x3 x4 x5 x6 x7 x8 x9) (ix2 r k))
      = hRow (x1Row x0 x1 x2 x7 ⟨256 + r, by omega⟩) (fun k => x3 (ix2 0 k)) (fun k => x4 (ix3 0 0 k))
        (fun k => x5 (ix3 0 0 k)) := by
    funext k
    rw [← h1]
    unfold k0_pay29 k0_pay28
    rw [norm_high]
    congr 1
    all_goals (funext k; pointwise)
  have hf := ff_low x8 x9 (k0_pay29 x0 x1 x2 x3 x4 x5 x6 x7 x8 x9) r d
  rw [h2] at hf
  unfold outAt outRow
  rw [← hf, ← high_x1 x0 x1 x2 x3 x4 x5 x6 x7 x8 x9 r d]
  have e16 : k0_pay19 (k0_pay29 x0 x1 x2 x3 x4 x5 x6 x7 x8 x9) (View.ld x8 r0_16) (View.ld x8 r0_17) (View.ld x9 r0_18)
    = k0_pay16 (k0_pay29 x0 x1 x2 x3 x4 x5 x6 x7 x8 x9) (View.ld x8 r0_16) (View.ld x8 r0_17) (View.ld x9 r0_18) := rfl
  have e17 : k0_pay17 (k0_pay29 x0 x1 x2 x3 x4 x5 x6 x7 x8 x9) (View.ld x8 r0_19) (View.ld x8 r0_20) (View.ld x9 r0_21)
    = matmul dot_S256x1280_S1280x1024_S256x1024_1_0_0_1_n_n none (k0_pay20 (k0_pay29 x0 x1 x2 x3 x4 x5 x6 x7 x8 x9) (View.ld x8 r0_19) (View.ld x8 r0_20))
      (View.ld x9 r0_21) (constant S256x1024 .f32 0x00000000#32) := rfl
  rw [e16, e17]
  generalize k0_pay16 (k0_pay29 x0 x1 x2 x3 x4 x5 x6 x7 x8 x9) (View.ld x8 r0_16) (View.ld x8 r0_17) (View.ld x9 r0_18) = p
  generalize k0_pay20 (k0_pay29 x0 x1 x2 x3 x4 x5 x6 x7 x8 x9) (View.ld x8 r0_19) (View.ld x8 r0_20) = q
  generalize (k0_pay28 x0 x1 x2 x3 x4 x5 x6 x7 x8 x9) = u
  pointwise [k0_pay1]

/-- The block's output at any entry. -/
theorem out_at (y : S1x512x1024.Idx) : out0_10 x0 x1 x2 x3 x4 x5 x6 x7 x8 x9 y = outAt x0 x1 x2 x3 x4 x5 x6 x7 x8 x9 (y 1) (y 2) := by
  unfold out0_10
  canon_tiles u h
  · idx_vars u
    rw [high_out]
    exact congrArg₂ (outAt x0 x1 x2 x3 x4 x5 x6 x7 x8 x9) (Fin.ext h1.symm) (Fin.ext h2.symm)
  · idx_vars u
    rw [low_out]
    exact congrArg₂ (outAt x0 x1 x2 x3 x4 x5 x6 x7 x8 x9) (Fin.ext h1.symm) (Fin.ext h2.symm)

end

variable (m : (ℓ : Loc nD τ sig) → Buf (Elt Ideal) ℓ)

theorem idx : ∀ t : Fin cfg0.N, win0_0.index t = ![0, t.val / 16, t.val % 16, 0] ∧ win0_1.index t = ![t.val / 16, t.val % 16, 0]
    ∧ win0_2.index t = ![t.val / 16, 0, 0] ∧ win0_3.index t = ![0, 0] ∧ win0_4.index t = ![t.val / 16, 0, 0]
    ∧ win0_5.index t = ![t.val / 16, 0, 0] ∧ win0_6.index t = ![t.val / 16, 0, 0] ∧ win0_7.index t = ![0, 0]
    ∧ win0_8.index t = ![0, 0] ∧ win0_9.index t = ![0, 0] ∧ win0_10.index t = ![t.val / 16, t.val % 16, 0] :=
  (by decide +kernel : ∀ t : Fin grid0.N, _)

/-- The reference's term over the kernel's arguments. -/
def REF (a : FVec Ideal S4x4x8192x256 .bf16) (x : FVec Ideal S4x8192x1024 .f32) (g1 : FVec Ideal S4x1x1024 .f32)
    (n : FVec Ideal S1x1024 .f32) (sc sh g2 : FVec Ideal S4x1x1024 .f32) (wo : FVec Ideal S1024x1024 .bf16)
    (win : FVec Ideal S1024x5632 .bf16) (wout : FVec Ideal S2816x1024 .bf16) : FVec Ideal S4x8192x1024 .f32 :=
  Cert.NaMixReferenceIdeal.Val.outRef (Cert.NaMixReferenceIdeal.Val.x1Ref a x g1 wo)
    (Cert.NaMixReferenceIdeal.Val.hRef (Cert.NaMixReferenceIdeal.Val.x1Ref a x g1 wo) n sc sh) g2 win wout

/-- The arguments of which the claim asks that they are finite. -/
structure Finite (a : FVec Ideal S4x4x8192x256 .bf16) (x : FVec Ideal S4x8192x1024 .f32)
    (g1 : FVec Ideal S4x1x1024 .f32) (n : FVec Ideal S1x1024 .f32) (sc sh : FVec Ideal S4x1x1024 .f32)
    (wo : FVec Ideal S1024x1024 .bf16) (win : FVec Ideal S1024x5632 .bf16) : Prop where
  a : ∀ i, IsReal (a i)
  x : ∀ i, IsReal (x i)
  g1 : ∀ i, IsReal (g1 i)
  n : ∀ i, IsReal (n i)
  sc : ∀ i, IsReal (sc i)
  sh : ∀ i, IsReal (sh i)
  wo : ∀ i, IsReal (wo i)
  win : ∀ i, IsReal (win i)

/-- One entry of a block against the reference's entry there. -/
theorem point (c : Dev nD) (t : Fin cfg0.N) (y : S1x512x1024.Idx)
    (hf : Finite (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg7)) (m ((c : Thread nD τ).loc main_arg8))) :
    out0_10 (iblk m c 0 t) (iblk m c 1 t) (iblk m c 2 t) (iblk m c 3 t) (iblk m c 4 t) (iblk m c 5 t) (iblk m c 6 t)
        (iblk m c 7 t) (iblk m c 8 t) (iblk m c 9 t) y
      = REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9))
        (((cfg0.win 10).blk t).view.emb y) := by
  rw [out_at]
  have hN : t.val < 64 := lt_of_lt_of_eq t.isLt N_0
  obtain ⟨b, hb⟩ : ∃ b : Fin 4, b = ⟨t.val / 16, by omega⟩ := ⟨_, rfl⟩
  idx_vars y
  obtain ⟨s, hs⟩ : ∃ s : Fin 8192, s = ⟨t.val % 16 * 512 + y1, by omega⟩ := ⟨_, rfl⟩
  have he : (((cfg0.win 10).blk t).view.emb (ix3 y0 y1 y2)) = ix3 b s y2 := by
    subst hb hs
    blk_ext [idx t]
  rw [he]
  unfold REF
  rw [Cert.NaMixReferenceIdeal.Val.outRef_at]
  simp only [Cert.NaMixReferenceIdeal.Val.hRef_at]
  have e1 : x1Row (iblk m c 0 t) (iblk m c 1 t) (iblk m c 2 t) (iblk m c 7 t) y1
      = fun d => Cert.NaMixReferenceIdeal.Val.x1Ref (m ((c : Thread nD τ).loc main_arg0))
        (m ((c : Thread nD τ).loc main_arg1)) (m ((c : Thread nD τ).loc main_arg2))
        (m ((c : Thread nD τ).loc main_arg7)) (ix3 b s d) := by
    funext d
    rw [Cert.NaMixReferenceIdeal.Val.x1Ref_at, x1Row]
    subst hb hs
    blk_point [iblk, V, idx t]
  have r1 : ∀ d, IsReal (Cert.NaMixReferenceIdeal.Val.x1Ref (m ((c : Thread nD τ).loc main_arg0))
        (m ((c : Thread nD τ).loc main_arg1)) (m ((c : Thread nD τ).loc main_arg2))
        (m ((c : Thread nD τ).loc main_arg7)) (ix3 b s d)) := fun d => by
    rw [Cert.NaMixReferenceIdeal.Val.x1Ref_at]
    exact (hf.x _).add ((hf.g1 _).mul (IsReal.sum _ fun k => (hf.a _).mul (hf.wo _)))
  rw [outAt, e1]
  have e3 : (fun k => iblk m c 3 t (ix2 0 k)) = fun k => m ((c : Thread nD τ).loc main_arg3) (ix2 0 k) := by
    funext k; blk_point [iblk, V, idx t]
  have e4 : (fun k => iblk m c 4 t (ix3 0 0 k)) = fun k => m ((c : Thread nD τ).loc main_arg4) (ix3 b 0 k) := by
    funext k; subst hb; blk_point [iblk, V, idx t]
  have e5 : (fun k => iblk m c 5 t (ix3 0 0 k)) = fun k => m ((c : Thread nD τ).loc main_arg5) (ix3 b 0 k) := by
    funext k; subst hb; blk_point [iblk, V, idx t]
  have e6 : (fun k => iblk m c 6 t (ix3 0 0 k)) = fun k => m ((c : Thread nD τ).loc main_arg6) (ix3 b 0 k) := by
    funext k; subst hb; blk_point [iblk, V, idx t]
  have e8 : (fun k f => iblk m c 8 t (ix2 k f)) = fun k f => m ((c : Thread nD τ).loc main_arg8) (ix2 k f) := by
    funext k f; blk_point [iblk, V, idx t]
  have e9 : (fun k f => iblk m c 9 t (ix2 k f)) = fun k f => m ((c : Thread nD τ).loc main_arg9) (ix2 k f) := by
    funext k f; blk_point [iblk, V, idx t]
  rw [e3, e4, e5, e6, e8, e9]
  exact outRow_tanh r1 (fun d => hf.n _) (fun d => hf.sc _) (fun d => hf.sh _) (fun k f => hf.win _) y2

/-- The result array after the run. -/
theorem final (c : Dev nD)
    (hf : Finite (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg7)) (m ((c : Thread nD τ).loc main_arg8))) :
    (dats m 0 c).arrAt 10 (cfgs 0).N
      = REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9)) := by
  refine (dats m 0 c).arrAt_eq_of_covers 10 _ (by decide +kernel) fun t _ y => ?_
  blk_simp
  rw [after0_10]
  exact point m c t y hf

end Cert.NaMixIdeal.Val
-- ==== Proof.NaClaim.lean ====
/- The claims about the feed-forward kernel after the neighbourhood attention and its reference. -/
module

public import proofs.«01_k».proof.Defs
public import proofs.«01_k».proof.Proof.NaValue
public import Idealize.ShloMosaic.Lib.Quiescent

@[expose] public section

noncomputable section

namespace Cert.Proof.Na

open Idealize.ShloMosaic Idealize.ShloMosaic.TcCoe Idealize.ShloMosaic.Tactic Idealize.SL.Sem

/-- The precondition, entry by entry. -/
theorem finite {m : (ℓ : Loc Cert.NaMixIdeal.nD Cert.NaMixIdeal.τ Cert.NaMixIdeal.sig) → Buf (Elt Ideal) ℓ}
    (h : Pre_NaMixIdeal_finite_na m) (c : Dev Cert.NaMixIdeal.nD) :
    Cert.NaMixIdeal.Val.Finite (m ((c.tc : Thread Cert.NaMixIdeal.nD Cert.NaMixIdeal.τ).loc Cert.NaMixIdeal.main_arg0))
      (m ((c.tc : Thread Cert.NaMixIdeal.nD Cert.NaMixIdeal.τ).loc Cert.NaMixIdeal.main_arg1)) (m ((c.tc : Thread Cert.NaMixIdeal.nD Cert.NaMixIdeal.τ).loc Cert.NaMixIdeal.main_arg2))
      (m ((c.tc : Thread Cert.NaMixIdeal.nD Cert.NaMixIdeal.τ).loc Cert.NaMixIdeal.main_arg3)) (m ((c.tc : Thread Cert.NaMixIdeal.nD Cert.NaMixIdeal.τ).loc Cert.NaMixIdeal.main_arg4))
      (m ((c.tc : Thread Cert.NaMixIdeal.nD Cert.NaMixIdeal.τ).loc Cert.NaMixIdeal.main_arg5)) (m ((c.tc : Thread Cert.NaMixIdeal.nD Cert.NaMixIdeal.τ).loc Cert.NaMixIdeal.main_arg7))
      (m ((c.tc : Thread Cert.NaMixIdeal.nD Cert.NaMixIdeal.τ).loc Cert.NaMixIdeal.main_arg8)) :=
  let f := Mix.na (h c)
  ⟨f.1, f.2.1, f.2.2.1, f.2.2.2.1, f.2.2.2.2.1, f.2.2.2.2.2.1, f.2.2.2.2.2.2.1, f.2.2.2.2.2.2.2⟩

set_option maxHeartbeats 4000000 in
theorem reference : quiescent_NaMixReferenceIdeal := by
  intro m g _
  hlo_run
  · intro _; and_intros <;> trivial
  · exact sem_eq_zero_of_no_sems (sig := Cert.NaMixReferenceIdeal.sig) (by decide) _

set_option maxHeartbeats 4000000 in
theorem reference_pre : quiescent_NaMixReferenceIdeal_pre_finite_na := by
  intro m g _
  hlo_run
  · intro _; and_intros <;> trivial
  · exact sem_eq_zero_of_no_sems (sig := Cert.NaMixReferenceIdeal.sig) (by decide) _

set_option maxHeartbeats 16000000 in
theorem value : algebraic_NaMixIdeal_NaMixReferenceIdeal_pre_finite_na := by
  intro m g m' g' hp hagree
  have hf := finite hp
  clear hp
  refine Exists.intro ?_ ?_
  rotate_right
  refine And.intro ?_ ?_
  · run_from Cert.NaMixIdeal.Gen.run_main m g
  · hlo_run
    exact (Cert.NaMixIdeal.Val.final m c (hf c)).symm

end Cert.Proof.Na
-- ==== Proof.HgReference.lean ====
/- What the reference of the feed-forward block after the recurrence computes before its norm, at one entry. -/
module

public import proofs.«01_k».proof.Proof.MixReference

@[expose] public section

set_option maxRecDepth 16384

noncomputable section

namespace Cert.Proof.Mix

open Idealize.ShloMosaic

/-- A head's row of the recurrence's output over its root mean square. -/
def headRow (o : Fin 1024 → EReal) (h : Fin 8) (l : Fin 128) : EReal :=
  o ⟨h * 128 + l, by omega⟩ * Ideal.rsqrt (Ideal.div (∑ j : Fin 128, o ⟨h * 128 + j, by omega⟩ * o ⟨h * 128 + j, by omega⟩)
    (Ideal.ofBits .f32 0x43000000#32) + Ideal.ofBits .f32 0x358637BD#32)

theorem isReal_headRow {o : Fin 1024 → EReal} (ho : ∀ k, IsReal (o k)) (h : Fin 8) (l : Fin 128) :
    IsReal (headRow o h l) :=
  (ho _).mul (isReal_rms (x := fun j : Fin 128 => o ⟨h * 128 + j, by omega⟩) (fun j => ho _) head_width_eq (by norm_num))

/-- The stream of one row after the recurrence's output projection. -/
def mixRow (o gn sg x g : Fin 1024 → EReal) (wo : Fin 1024 → Fin 1024 → EReal) (d : Fin 1024) : EReal :=
  x d + g d * ∑ k : Fin 1024, headRow o ⟨k / 128, by omega⟩ ⟨k % 128, by omega⟩ * gn k * sg k * wo k d

theorem isReal_mixRow {o gn sg x g : Fin 1024 → EReal} {wo : Fin 1024 → Fin 1024 → EReal} (ho : ∀ k, IsReal (o k))
    (hgn : ∀ k, IsReal (gn k)) (hsg : ∀ k, IsReal (sg k)) (hx : ∀ k, IsReal (x k)) (hg : ∀ k, IsReal (g k))
    (hw : ∀ k d, IsReal (wo k d)) (d : Fin 1024) : IsReal (mixRow o gn sg x g wo d) :=
  (hx d).add ((hg d).mul (IsReal.sum _ fun k => (((isReal_headRow ho _ _).mul (hgn k)).mul (hsg k)).mul (hw k d)))

end Cert.Proof.Mix

namespace Cert.HgMixReferenceIdeal.Val

open Idealize.ShloMosaic Cert.HgMixReferenceIdeal Cert.HgMixReferenceIdeal.Gen Cert.Proof.Mix

/-- The two scans' outputs added, head by head. -/
abbrev oRef (f b : FVec Ideal S4x8192x1024 .bf16) : FVec Ideal S4x8192x8x128 .f32 :=
  shapeCast S4x8192x8x128 (addf (extf .f32 f bitsLt_bf16_f32) (extf .f32 b bitsLt_bf16_f32))
    shapeCasts_S4x8192x1024_S4x8192x8x128

/-- Each head over its root mean square, times the gain. -/
abbrev normRef (o : FVec Ideal S4x8192x8x128 .f32) (gn : FVec Ideal S1x1024 .f32) : FVec Ideal S4x8192x1024 .f32 :=
  shapeCast S4x8192x1024 (mulf (mulf o (broadcastInDim S4x8192x8x128 ![0, 1, 2, 3] bcast_S4x8192x8x1_S4x8192x8x128_0_1_2_3
      (Host.rsqrt (addf (Host.divf (broadcastInDim S4x8192x8x1 ![0, 1, 2] bcast_S4x8192x8_S4x8192x8x1_0_1_2
          (Host.reduceAdd (mulf o o) (constant S_ .f32 0x00000000#32) reducesTo_S4x8192x8x128_S4x8192x8_d3 h_S_))
          (broadcastInDim S4x8192x8x1 ![] bcast_S_S4x8192x8x1 (constant S_ .f32 0x43000000#32)))
        (broadcastInDim S4x8192x8x1 ![] bcast_S_S4x8192x8x1 (constant S_ .f32 0x358637BD#32))))))
    (broadcastInDim S4x8192x8x128 ![0, 1, 2, 3] bcast_S1x1x8x128_S4x8192x8x128_0_1_2_3
      (broadcastInDim S1x1x8x128 ![2, 3] bcast_S8x128_S1x1x8x128_2_3 (shapeCast S8x128 gn shapeCasts_S1x1024_S8x128))))
    shapeCasts_S4x8192x8x128_S4x8192x1024

/-- The stream after the recurrence's output projection and its gated residual. -/
abbrev x1Ref (f b sg : FVec Ideal S4x8192x1024 .bf16) (gn : FVec Ideal S1x1024 .f32) (x : FVec Ideal S4x8192x1024 .f32)
    (g1 : FVec Ideal S4x1x1024 .f32) (wo : FVec Ideal S1024x1024 .bf16) : FVec Ideal S4x8192x1024 .f32 :=
  addf x (mulf (broadcastInDim S4x8192x1024 ![0, 1, 2] bcast_S4x1x1024_S4x8192x1024_0_1_2 g1)
    (Host.dotGeneral dot_S4x8192x1024_S1024x1024_S4x8192x1024_2_0_01_1_n_n none
      (mulf (normRef (oRef f b) gn) (extf .f32 sg bitsLt_bf16_f32)) (extf .f32 wo bitsLt_bf16_f32)))

theorem oRef_at (f b : FVec Ideal S4x8192x1024 .bf16) (i : Fin 4) (t : Fin 8192) (h : Fin 8) (l : Fin 128) :
    oRef f b (ix4 i t h l) = f (ix3 i t ⟨h * 128 + l, by omega⟩) + b (ix3 i t ⟨h * 128 + l, by omega⟩) := by
  pointwise [oRef]

theorem normRef_at (o : FVec Ideal S4x8192x8x128 .f32) (gn : FVec Ideal S1x1024 .f32) (i : Fin 4) (t : Fin 8192)
    (k : Fin 1024) :
    normRef o gn (ix3 i t k) = o (ix4 i t ⟨k / 128, by omega⟩ ⟨k % 128, by omega⟩)
      * Ideal.rsqrt (Ideal.div (∑ j : Fin 128, o (ix4 i t ⟨k / 128, by omega⟩ j) * o (ix4 i t ⟨k / 128, by omega⟩ j))
        (Ideal.ofBits .f32 0x43000000#32) + Ideal.ofBits .f32 0x358637BD#32) * gn (ix2 0 k) := by
  pointwise [normRef]

theorem x1Ref_at (f b sg : FVec Ideal S4x8192x1024 .bf16) (gn : FVec Ideal S1x1024 .f32)
    (x : FVec Ideal S4x8192x1024 .f32) (g1 : FVec Ideal S4x1x1024 .f32) (wo : FVec Ideal S1024x1024 .bf16)
    (i : Fin 4) (t : Fin 8192) (d : Fin 1024) :
    x1Ref f b sg gn x g1 wo (ix3 i t d)
      = mixRow (fun k => f (ix3 i t k) + b (ix3 i t k)) (fun k => gn (ix2 0 k)) (fun k => sg (ix3 i t k))
        (fun k => x (ix3 i t k)) (fun k => g1 (ix3 i 0 k)) (fun k d => wo (ix2 k d)) d := by
  have e : ∀ k, normRef (oRef f b) gn (ix3 i t k)
      = headRow (fun k => f (ix3 i t k) + b (ix3 i t k)) ⟨k / 128, by omega⟩ ⟨k % 128, by omega⟩ * gn (ix2 0 k) := by
    intro k
    rw [normRef_at, headRow]
    simp only [oRef_at]
  unfold mixRow
  simp only [← e]
  unfold x1Ref
  generalize normRef (oRef f b) gn = z
  pointwise

end Cert.HgMixReferenceIdeal.Val
-- ==== Proof.HgValue.lean ====
/- What the feed-forward kernel after the recurrence computes. -/
module

public import proofs.«01_k».proof.Proof.HgReference
public import proofs.«01_k».proof.Proof.FiniteArgs
public import proofs.«01_k».proof.Proof.Gen.HgMixIdeal.Frame

@[expose] public section

set_option maxRecDepth 16384

noncomputable section

namespace Cert.HgMixIdeal.Val

open Idealize.ShloMosaic Idealize.ShloMosaic.TcCoe Idealize.SL.Sem Cert.HgMixIdeal Cert.HgMixIdeal.Gen Cert.Proof.Mix
open Idealize.ShloMosaic.Pipeline (Dat)

/-- The heads' rows put side by side. -/
theorem side (p0 p1 p2 p3 p4 p5 p6 p7 : FVec Ideal S256x128 .f32) (o : Fin 1024 → EReal) (r : Fin 256)
    (h0 : ∀ l, p0 (ix2 r l) = headRow o 0 l) (h1 : ∀ l, p1 (ix2 r l) = headRow o 1 l)
    (h2 : ∀ l, p2 (ix2 r l) = headRow o 2 l) (h3 : ∀ l, p3 (ix2 r l) = headRow o 3 l)
    (h4 : ∀ l, p4 (ix2 r l) = headRow o 4 l) (h5 : ∀ l, p5 (ix2 r l) = headRow o 5 l)
    (h6 : ∀ l, p6 (ix2 r l) = headRow o 6 l) (h7 : ∀ l, p7 (ix2 r l) = headRow o 7 l) (k : Fin 1024) :
    concatenate S256x1024 1 [⟨S256x128, p0⟩, ⟨S256x128, p1⟩, ⟨S256x128, p2⟩, ⟨S256x128, p3⟩, ⟨S256x128, p4⟩, ⟨S256x128, p5⟩, ⟨S256x128, p6⟩, ⟨S256x128, p7⟩]
        concatenates_S256x128_S256x128_S256x128_S256x128_S256x128_S256x128_S256x128_S256x128_S256x1024_d1 (ix2 r k)
      = headRow o ⟨k / 128, by omega⟩ ⟨k % 128, by omega⟩ := by
  have hp : ∀ (h : Fin 8) (l : Fin 128), ![p0, p1, p2, p3, p4, p5, p6, p7] h (ix2 r l) = headRow o h l := by
    intro h l
    fin_cases h
    · exact h0 l
    · exact h1 l
    · exact h2 l
    · exact h3 l
    · exact h4 l
    · exact h5 l
    · exact h6 l
    · exact h7 l
  rw [← hp]
  refine concatenate_ofFn_apply (t := S256x1024) (s₁ := S256x128) 1 ![p0, p1, p2, p3, p4, p5, p6, p7]
    concatenates_S256x128_S256x128_S256x128_S256x128_S256x128_S256x128_S256x128_S256x128_S256x1024_d1 rfl 128 rfl (ix2 r k)
    ⟨k / 128, by omega⟩ rfl (ix2 r ⟨k % 128, by omega⟩) rfl fun b hb => ?_
  fin_cases b
  · rfl
  · exact absurd rfl hb

/-- The stream after the output projection, from the heads put side by side. -/
def mixTail (v1 : FVec Ideal S256x1024 .f32) (v3 : FVec Ideal S1x1024 .f32) (z : FVec Ideal S256x1024 .f32)
    (gn : Vec Ideal S1x1024 .f32) (sg : Vec Ideal S1x256x1024 .bf16) (wo : Vec Ideal S1024x1024 .bf16) :
    FVec Ideal S256x1024 .f32 :=
  addf v1 (mulf (broadcastTo S256x1024 v3 broadcasts_S1x1024_S256x1024)
    (matmul (φ₁ := .bf16) (φ₂ := .bf16) dot_S256x1024_S1024x1024_S256x1024_1_0_0_1_n_n none
      (truncf .bf16 (mulf (mulf z (broadcastTo S256x1024 gn broadcasts_S1x1024_S256x1024))
        (extf .f32 (shapeCast S256x1024 sg shapeCasts_S1x256x1024_S256x1024) bitsLt_bf16_f32)) bitsLt_bf16_f32) wo
      (constant S256x1024 .f32 0x00000000#32)))

theorem mixTail_at (v1 : FVec Ideal S256x1024 .f32) (v3 : FVec Ideal S1x1024 .f32) (z : FVec Ideal S256x1024 .f32)
    (gn : Vec Ideal S1x1024 .f32) (sg : Vec Ideal S1x256x1024 .bf16) (wo : Vec Ideal S1024x1024 .bf16)
    (o : Fin 1024 → EReal) (r : Fin 256) (d : Fin 1024)
    (hz : ∀ k : Fin 1024, z (ix2 r k) = headRow o ⟨k / 128, by omega⟩ ⟨k % 128, by omega⟩) :
    mixTail v1 v3 z gn sg wo (ix2 r d) = mixRow o (fun k => gn (ix2 0 k)) (fun k => sg (ix3 0 r k))
      (fun k => v1 (ix2 r k)) (fun k => v3 (ix2 0 k)) (fun k d => wo (ix2 k d)) d := by
  unfold mixRow
  simp only [← hz]
  pointwise [mixTail]

section
variable (v4 v7 : Vec Ideal S1x256x1024 .bf16)

/-- The two scans' outputs of one row, added. -/
abbrev oRow (r : Fin 256) (k : Fin 1024) : EReal := v4 (ix3 0 r k) + v7 (ix3 0 r k)

theorem low0 (r : Fin 256) (l : Fin 128) : k0_pay5 v4 v7 (ix2 r l) = headRow (oRow v4 v7 r) 0 l := by
  pointwise [k0_pay4, k0_pay5, k0_pay6, k0_pay7, k0_pay8, k0_pay9, k0_pay10, k0_pay11, k0_pay12, k0_pay13, k0_pay14, k0_pay15, headRow]
  all_goals blk_point []

theorem low1 (r : Fin 256) (l : Fin 128) : k0_pay6 v4 v7 (ix2 r l) = headRow (oRow v4 v7 r) 1 l := by
  pointwise [k0_pay4, k0_pay5, k0_pay6, k0_pay7, k0_pay8, k0_pay9, k0_pay10, k0_pay11, k0_pay12, k0_pay13, k0_pay14, k0_pay15, headRow]
  all_goals blk_point []

theorem low2 (r : Fin 256) (l : Fin 128) : k0_pay10 (k0_pay7 v4 v7) (k0_pay8 v4 v7) k0_pay9 (ix2 r l) = headRow (oRow v4 v7 r) 2 l := by
  pointwise [k0_pay4, k0_pay5, k0_pay6, k0_pay7, k0_pay8, k0_pay9, k0_pay10, k0_pay11, k0_pay12, k0_pay13, k0_pay14, k0_pay15, headRow]
  all_goals blk_point []

theorem low3 (r : Fin 256) (l : Fin 128) : k0_pay11 (k0_pay4 v4 v7) (ix2 r l) = headRow (oRow v4 v7 r) 3 l := by
  pointwise [k0_pay4, k0_pay5, k0_pay6, k0_pay7, k0_pay8, k0_pay9, k0_pay10, k0_pay11, k0_pay12, k0_pay13, k0_pay14, k0_pay15, headRow]
  all_goals blk_point []

theorem low4 (r : Fin 256) (l : Fin 128) : k0_pay12 (k0_pay4 v4 v7) (ix2 r l) = headRow (oRow v4 v7 r) 4 l := by
  pointwise [k0_pay4, k0_pay5, k0_pay6, k0_pay7, k0_pay8, k0_pay9, k0_pay10, k0_pay11, k0_pay12, k0_pay13, k0_pay14, k0_pay15, headRow]
  all_goals blk_point []

theorem low5 (r : Fin 256) (l : Fin 128) : k0_pay13 (k0_pay4 v4 v7) (ix2 r l) = headRow (oRow v4 v7 r) 5 l := by
  pointwise [k0_pay4, k0_pay5, k0_pay6, k0_pay7, k0_pay8, k0_pay9, k0_pay10, k0_pay11, k0_pay12, k0_pay13, k0_pay14, k0_pay15, headRow]
  all_goals blk_point []

theorem high0 (r : Fin 256) (l : Fin 128) : k0_pay24 v4 v7 (ix2 r l) = headRow (oRow v4 v7 r) 0 l := by
  pointwise [k0_pay23, k0_pay24, k0_pay25, k0_pay26, k0_pay27, k0_pay28, k0_pay29, k0_pay30, k0_pay31, k0_pay32, headRow]
  all_goals blk_point []

theorem high1 (r : Fin 256) (l : Fin 128) : k0_pay27 (k0_pay25 v4 v7) (k0_pay26 v4 v7) (ix2 r l) = headRow (oRow v4 v7 r) 1 l := by
  pointwise [k0_pay23, k0_pay24, k0_pay25, k0_pay26, k0_pay27, k0_pay28, k0_pay29, k0_pay30, k0_pay31, k0_pay32, headRow]
  all_goals blk_point []

theorem high2 (r : Fin 256) (l : Fin 128) : k0_pay28 (k0_pay23 v4 v7) (ix2 r l) = headRow (oRow v4 v7 r) 2 l := by
  pointwise [k0_pay23, k0_pay24, k0_pay25, k0_pay26, k0_pay27, k0_pay28, k0_pay29, k0_pay30, k0_pay31, k0_pay32, headRow]
  all_goals blk_point []

theorem high3 (r : Fin 256) (l : Fin 128) : k0_pay29 (k0_pay23 v4 v7) (ix2 r l) = headRow (oRow v4 v7 r) 3 l := by
  pointwise [k0_pay23, k0_pay24, k0_pay25, k0_pay26, k0_pay27, k0_pay28, k0_pay29, k0_pay30, k0_pay31, k0_pay32, headRow]
  all_goals blk_point []

theorem high4 (r : Fin 256) (l : Fin 128) : k0_pay30 (k0_pay23 v4 v7) (ix2 r l) = headRow (oRow v4 v7 r) 4 l := by
  pointwise [k0_pay23, k0_pay24, k0_pay25, k0_pay26, k0_pay27, k0_pay28, k0_pay29, k0_pay30, k0_pay31, k0_pay32, headRow]
  all_goals blk_point []

/-- Head 5 of a row, by its slice. -/
def head5 (o : FVec Ideal S256x1024 .f32) : FVec Ideal S256x128 .f32 :=
  mulf (extractStridedSlice S256x128 ![0, 640] o slices_S256x1024_o0_640_S256x128)
    (broadcastTo S256x128 (rsqrt (addf (divf (shapeCast S256x1 (multiReduction .add [1] S256
        (mulf (extractStridedSlice S256x128 ![0, 640] o slices_S256x1024_o0_640_S256x128)
          (extractStridedSlice S256x128 ![0, 640] o slices_S256x1024_o0_640_S256x128))
        0x00000000#32 reduces_S256x128_S256 (.inl rfl) rfl) shapeCasts_S256_S256x1)
      (broadcast S256x1 (Scalar.ofBits .f32 0x43000000#32))) (broadcast S256x1 (Scalar.ofBits .f32 0x358637BD#32))))
      broadcasts_S256x1_S256x128)

theorem head5_low (r : Fin 256) (l : Fin 128) : head5 (k0_pay4 v4 v7) (ix2 r l) = headRow (oRow v4 v7 r) 5 l := by
  pointwise [head5, k0_pay4, headRow]
  all_goals blk_point []

theorem head5_high (r : Fin 256) (l : Fin 128) : head5 (k0_pay23 v4 v7) (ix2 r l) = headRow (oRow v4 v7 r) 5 l := by
  pointwise [head5, k0_pay23, headRow]
  all_goals blk_point []

/-- Head 6 of a row, by its slice. -/
def head6 (o : FVec Ideal S256x1024 .f32) : FVec Ideal S256x128 .f32 :=
  mulf (extractStridedSlice S256x128 ![0, 768] o slices_S256x1024_o0_768_S256x128)
    (broadcastTo S256x128 (rsqrt (addf (divf (shapeCast S256x1 (multiReduction .add [1] S256
        (mulf (extractStridedSlice S256x128 ![0, 768] o slices_S256x1024_o0_768_S256x128)
          (extractStridedSlice S256x128 ![0, 768] o slices_S256x1024_o0_768_S256x128))
        0x00000000#32 reduces_S256x128_S256 (.inl rfl) rfl) shapeCasts_S256_S256x1)
      (broadcast S256x1 (Scalar.ofBits .f32 0x43000000#32))) (broadcast S256x1 (Scalar.ofBits .f32 0x358637BD#32))))
      broadcasts_S256x1_S256x128)

theorem head6_low (r : Fin 256) (l : Fin 128) : head6 (k0_pay4 v4 v7) (ix2 r l) = headRow (oRow v4 v7 r) 6 l := by
  pointwise [head6, k0_pay4, headRow]
  all_goals blk_point []

theorem head6_high (r : Fin 256) (l : Fin 128) : head6 (k0_pay23 v4 v7) (ix2 r l) = headRow (oRow v4 v7 r) 6 l := by
  pointwise [head6, k0_pay23, headRow]
  all_goals blk_point []

/-- Head 7 of a row, by its slice. -/
def head7 (o : FVec Ideal S256x1024 .f32) : FVec Ideal S256x128 .f32 :=
  mulf (extractStridedSlice S256x128 ![0, 896] o slices_S256x1024_o0_896_S256x128)
    (broadcastTo S256x128 (rsqrt (addf (divf (shapeCast S256x1 (multiReduction .add [1] S256
        (mulf (extractStridedSlice S256x128 ![0, 896] o slices_S256x1024_o0_896_S256x128)
          (extractStridedSlice S256x128 ![0, 896] o slices_S256x1024_o0_896_S256x128))
        0x00000000#32 reduces_S256x128_S256 (.inl rfl) rfl) shapeCasts_S256_S256x1)
      (broadcast S256x1 (Scalar.ofBits .f32 0x43000000#32))) (broadcast S256x1 (Scalar.ofBits .f32 0x358637BD#32))))
      broadcasts_S256x1_S256x128)

theorem head7_low (r : Fin 256) (l : Fin 128) : head7 (k0_pay4 v4 v7) (ix2 r l) = headRow (oRow v4 v7 r) 7 l := by
  pointwise [head7, k0_pay4, headRow]
  all_goals blk_point []

theorem head7_high (r : Fin 256) (l : Fin 128) : head7 (k0_pay23 v4 v7) (ix2 r l) = headRow (oRow v4 v7 r) 7 l := by
  pointwise [head7, k0_pay23, headRow]
  all_goals blk_point []

end

section
variable (x0 x1 x2 : Vec Ideal S1x512x1024 .bf16) (x3 : Vec Ideal S1x1024 .f32) (x4 : Vec Ideal S1x512x1024 .f32)
  (x5 : Vec Ideal S1x1x1024 .f32) (x6 : Vec Ideal S1x1024 .f32) (x7 x8 x9 : Vec Ideal S1x1x1024 .f32)
  (x10 : Vec Ideal S1024x1024 .bf16) (x11 : Vec Ideal S1024x5632 .bf16) (x12 : Vec Ideal S2816x1024 .bf16)

/-- The stream after the output projection, of one row of the block. -/
def x1Row (r : Fin 512) (d : Fin 1024) : EReal :=
  mixRow (fun k => x0 (ix3 0 r k) + x1 (ix3 0 r k)) (fun k => x3 (ix2 0 k)) (fun k => x2 (ix3 0 r k))
    (fun k => x4 (ix3 0 r k)) (fun k => x5 (ix3 0 0 k)) (fun k d => x10 (ix2 k d)) d

theorem low_x1 (r : Fin 256) (d : Fin 1024) : (k0_pay52 x0 x1 x2 x3 x4 x5 x6 x7 x8 x9 x10 x11 x12) (ix2 r d) = x1Row x0 x1 x2 x3 x4 x5 x10 ⟨r, by omega⟩ d := by
  have e : (k0_pay52 x0 x1 x2 x3 x4 x5 x6 x7 x8 x9 x10 x11 x12) = mixTail (k0_pay2 (View.ld x4 r0_0)) (k0_pay3 (View.ld x5 r0_1))
      (concatenate S256x1024 1 [⟨S256x128, k0_pay5 (View.ld x0 r0_0) (View.ld x1 r0_0)⟩, ⟨S256x128, k0_pay6 (View.ld x0 r0_0) (View.ld x1 r0_0)⟩, ⟨S256x128, k0_pay10 (k0_pay7 (View.ld x0 r0_0) (View.ld x1 r0_0)) (k0_pay8 (View.ld x0 r0_0) (View.ld x1 r0_0)) k0_pay9⟩, ⟨S256x128, k0_pay11 (k0_pay4 (View.ld x0 r0_0) (View.ld x1 r0_0))⟩, ⟨S256x128, k0_pay12 (k0_pay4 (View.ld x0 r0_0) (View.ld x1 r0_0))⟩, ⟨S256x128, k0_pay13 (k0_pay4 (View.ld x0 r0_0) (View.ld x1 r0_0))⟩, ⟨S256x128, head6 (k0_pay4 (View.ld x0 r0_0) (View.ld x1 r0_0))⟩, ⟨S256x128, head7 (k0_pay4 (View.ld x0 r0_0) (View.ld x1 r0_0))⟩]
        concatenates_S256x128_S256x128_S256x128_S256x128_S256x128_S256x128_S256x128_S256x128_S256x1024_d1)
      (View.ld x3 r0_2) (View.ld x2 r0_0) (View.ld x10 r0_3) := rfl
  rw [e, mixTail_at _ _ _ _ _ _ (oRow (View.ld x0 r0_0) (View.ld x1 r0_0) r) r d
    (side _ _ _ _ _ _ _ _ _ _ (low0 _ _ r) (low1 _ _ r) (low2 _ _ r) (low3 _ _ r) (low4 _ _ r) (low5 _ _ r) (head6_low _ _ r)
      (head7_low _ _ r)), x1Row]
  congr 1
  all_goals first | (funext k d; pointwise) | (funext k; unfold oRow; pointwise; done) | (funext k; unfold oRow; blk_point []) | (funext k; pointwise [k0_pay2, k0_pay3]) | (funext k; blk_point [k0_pay2, k0_pay3]) | (funext k; pointwise [k0_pay2, k0_pay3]; done) | (funext k; pointwise [k0_pay2, k0_pay3]; blk_point [])

theorem high_x1 (r : Fin 256) (d : Fin 1024) : (k0_pay55 x0 x1 x2 x3 x4 x5 x6 x7 x8 x9 x10 x11 x12) (ix2 r d) = x1Row x0 x1 x2 x3 x4 x5 x10 ⟨256 + r, by omega⟩ d := by
  have e : (k0_pay55 x0 x1 x2 x3 x4 x5 x6 x7 x8 x9 x10 x11 x12) = mixTail (k0_pay21 (View.ld x4 r0_4)) (k0_pay22 (View.ld x5 r0_1))
      (concatenate S256x1024 1 [⟨S256x128, k0_pay24 (View.ld x0 r0_4) (View.ld x1 r0_4)⟩, ⟨S256x128, k0_pay27 (k0_pay25 (View.ld x0 r0_4) (View.ld x1 r0_4)) (k0_pay26 (View.ld x0 r0_4) (View.ld x1 r0_4))⟩, ⟨S256x128, k0_pay28 (k0_pay23 (View.ld x0 r0_4) (View.ld x1 r0_4))⟩, ⟨S256x128, k0_pay29 (k0_pay23 (View.ld x0 r0_4) (View.ld x1 r0_4))⟩, ⟨S256x128, k0_pay30 (k0_pay23 (View.ld x0 r0_4) (View.ld x1 r0_4))⟩, ⟨S256x128, head5 (k0_pay23 (View.ld x0 r0_4) (View.ld x1 r0_4))⟩, ⟨S256x128, head6 (k0_pay23 (View.ld x0 r0_4) (View.ld x1 r0_4))⟩, ⟨S256x128, head7 (k0_pay23 (View.ld x0 r0_4) (View.ld x1 r0_4))⟩]
        concatenates_S256x128_S256x128_S256x128_S256x128_S256x128_S256x128_S256x128_S256x128_S256x1024_d1)
      (View.ld x3 r0_2) (View.ld x2 r0_4) (View.ld x10 r0_3) := rfl
  rw [e, mixTail_at _ _ _ _ _ _ (oRow (View.ld x0 r0_4) (View.ld x1 r0_4) r) r d
    (side _ _ _ _ _ _ _ _ _ _ (high0 _ _ r) (high1 _ _ r) (high2 _ _ r) (high3 _ _ r) (high4 _ _ r) (head5_high _ _ r) (head6_high _ _ r)
      (head7_high _ _ r)), x1Row]
  congr 1
  all_goals first | (funext k d; pointwise) | (funext k; unfold oRow; pointwise; done) | (funext k; unfold oRow; blk_point []) | (funext k; pointwise [k0_pay21, k0_pay22]) | (funext k; blk_point [k0_pay21, k0_pay22]) | (funext k; pointwise [k0_pay21, k0_pay22]; done) | (funext k; pointwise [k0_pay21, k0_pay22]; blk_point [])

/-- The feed-forward part of 256 rows, the hidden channels in two parts. -/
def ffTail (h : FVec Ideal S256x1024 .bf16) (w0 w1 : Vec Ideal S1024x1280 .bf16) (w2 : Vec Ideal S1280x1024 .bf16) :
    FVec Ideal S256x1024 .f32 :=
  matmul (φ₁ := .bf16) (φ₂ := .bf16) dot_S256x1280_S1280x1024_S256x1024_1_0_0_1_n_n none
    (truncf .bf16 (mulf (addf (mulf (broadcast S256x1280 (Scalar.ofBits .f32 0x3F000000#32)) (k0_pay37 h w0))
      (mulf (mulf (broadcast S256x1280 (Scalar.ofBits .f32 0x3F000000#32)) (k0_pay37 h w0))
        (tanh (mulf (broadcast S256x1280 (Scalar.ofBits .f32 0x3F000000#32)) (k0_pay37 h w0))))) (k0_pay37 h w1)) bitsLt_bf16_f32)
    w2 (constant S256x1024 .f32 0x00000000#32)

theorem ff_at (h : FVec Ideal S256x1024 .bf16) (r : Fin 256) (d : Fin 1024) :
    k0_pay36 h (View.ld x11 r0_5) (View.ld x11 r0_6) (View.ld x12 r0_7) (ix2 r d)
        + ffTail h (View.ld x11 r0_8) (View.ld x11 r0_9) (View.ld x12 r0_10) (ix2 r d)
      = ffRow siluTanh (fun k => h (ix2 r k)) (fun k f => x11 (ix2 k f)) (fun f k => x12 (ix2 f k)) d := by
  rw [ffRow_split]
  unfold siluTanh
  pointwise [k0_pay36, k0_pay37, ffTail]
  all_goals blk_point []

/-- The modulated norm of 256 rows. -/
theorem norm_at (u : FVec Ideal S256x1024 .f32) (n : Vec Ideal S1x1024 .f32) (sc sh : Vec Ideal S1x1x1024 .f32)
    (r : Fin 256) (d : Fin 1024) :
    k0_pay35 u n (k0_pay34 sc) sh (ix2 r d) = hRow (fun k => u (ix2 r k)) (fun k => n (ix2 0 k))
      (fun k => sc (ix3 0 0 k)) (fun k => sh (ix3 0 0 k)) d := by
  pointwise [k0_pay35, k0_pay34, hRow]

/-- A row of the block's output. -/
def outAt (r : Fin 512) (d : Fin 1024) : EReal :=
  outRow siluTanh (x1Row x0 x1 x2 x3 x4 x5 x10 r) (fun k => x6 (ix2 0 k)) (fun k => x7 (ix3 0 0 k)) (fun k => x8 (ix3 0 0 k))
    (fun k => x9 (ix3 0 0 k)) (fun k f => x11 (ix2 k f)) (fun f k => x12 (ix2 f k)) d

/-- The gated residual after the feed-forward part, of 256 rows. -/
def outTail (u p q : FVec Ideal S256x1024 .f32) (g : Vec Ideal S1x1x1024 .f32) : FVec Ideal S1x256x1024 .f32 :=
  shapeCast S1x256x1024 (addf u (mulf (broadcastTo S256x1024 (shapeCast S1x1024 g shapeCasts_S1x1x1024_S1x1024)
    broadcasts_S1x1024_S256x1024) (addf p q))) shapeCasts_S256x1024_S1x256x1024

theorem tail_at (u : FVec Ideal S256x1024 .f32) (R : Fin 512) (z : Fin 1) (r : Fin 256) (d : Fin 1024)
    (hu : ∀ d, u (ix2 r d) = x1Row x0 x1 x2 x3 x4 x5 x10 R d) :
    outTail u (k0_pay36 (k0_pay35 u (View.ld x6 r0_2) (k0_pay34 (View.ld x7 r0_1)) (View.ld x8 r0_1)) (View.ld x11 r0_5) (View.ld x11 r0_6) (View.ld x12 r0_7))
        (ffTail (k0_pay35 u (View.ld x6 r0_2) (k0_pay34 (View.ld x7 r0_1)) (View.ld x8 r0_1)) (View.ld x11 r0_8) (View.ld x11 r0_9) (View.ld x12 r0_10)) (View.ld x9 r0_1) (ix3 z r d)
      = outAt x0 x1 x2 x3 x4 x5 x6 x7 x8 x9 x10 x11 x12 R d := by
  have h1 : (fun k => u (ix2 r k)) = x1Row x0 x1 x2 x3 x4 x5 x10 R := funext hu
  have h2 : (fun k => k0_pay35 u (View.ld x6 r0_2) (k0_pay34 (View.ld x7 r0_1)) (View.ld x8 r0_1) (ix2 r k))
      = hRow (x1Row x0 x1 x2 x3 x4 x5 x10 R) (fun k => x6 (ix2 0 k)) (fun k => x7 (ix3 0 0 k)) (fun k => x8 (ix3 0 0 k)) := by
    funext k
    rw [norm_at, h1]
    congr 1
    all_goals (funext k; pointwise)
  have hf := ff_at x11 x12 (k0_pay35 u (View.ld x6 r0_2) (k0_pay34 (View.ld x7 r0_1)) (View.ld x8 r0_1)) r d
  rw [h2] at hf
  unfold outAt outRow
  rw [← hf, ← hu d]
  generalize k0_pay35 u (View.ld x6 r0_2) (k0_pay34 (View.ld x7 r0_1)) (View.ld x8 r0_1) = h
  generalize k0_pay36 h (View.ld x11 r0_5) (View.ld x11 r0_6) (View.ld x12 r0_7) = p
  generalize ffTail h (View.ld x11 r0_8) (View.ld x11 r0_9) (View.ld x12 r0_10) = q
  pointwise [outTail]

/-- The block's output at any entry. -/
theorem out_at (y : S1x512x1024.Idx) : out0_13 x0 x1 x2 x3 x4 x5 x6 x7 x8 x9 x10 x11 x12 y = outAt x0 x1 x2 x3 x4 x5 x6 x7 x8 x9 x10 x11 x12 (y 1) (y 2) := by
  unfold out0_13
  canon_tiles u h
  · idx_vars u
    refine (tail_at x0 x1 x2 x3 x4 x5 x6 x7 x8 x9 x10 x11 x12 (k0_pay55 x0 x1 x2 x3 x4 x5 x6 x7 x8 x9 x10 x11 x12) ⟨256 + u1, by omega⟩ u0 u1 u2 (fun d => high_x1 x0 x1 x2 x3 x4 x5 x6 x7 x8 x9 x10 x11 x12 u1 d)).trans ?_
    exact congrArg₂ (outAt x0 x1 x2 x3 x4 x5 x6 x7 x8 x9 x10 x11 x12) (Fin.ext h1.symm) (Fin.ext h2.symm)
  · idx_vars u
    refine (tail_at x0 x1 x2 x3 x4 x5 x6 x7 x8 x9 x10 x11 x12 (k0_pay52 x0 x1 x2 x3 x4 x5 x6 x7 x8 x9 x10 x11 x12) ⟨u1, by omega⟩ u0 u1 u2 (fun d => low_x1 x0 x1 x2 x3 x4 x5 x6 x7 x8 x9 x10 x11 x12 u1 d)).trans ?_
    exact congrArg₂ (outAt x0 x1 x2 x3 x4 x5 x6 x7 x8 x9 x10 x11 x12) (Fin.ext h1.symm) (Fin.ext h2.symm)

end

variable (m : (ℓ : Loc nD τ sig) → Buf (Elt Ideal) ℓ)

theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![0, 0] ∧ win0_4.index t = ![t.val / 16, t.val % 16, 0]
    ∧ win0_5.index t = ![t.val / 16, 0, 0] ∧ win0_6.index t = ![0, 0] ∧ win0_7.index t = ![t.val / 16, 0, 0]
    ∧ win0_8.index t = ![t.val / 16, 0, 0] ∧ win0_9.index t = ![t.val / 16, 0, 0] ∧ win0_10.index t = ![0, 0]
    ∧ win0_11.index t = ![0, 0] ∧ win0_12.index t = ![0, 0] ∧ win0_13.index t = ![t.val / 16, t.val % 16, 0] :=
  (by decide +kernel : ∀ t : Fin grid0.N, _)

/-- The reference's term over the kernel's arguments. -/
def REF (f b sg : FVec Ideal S4x8192x1024 .bf16) (gn : FVec Ideal S1x1024 .f32) (x : FVec Ideal S4x8192x1024 .f32)
    (g1 : FVec Ideal S4x1x1024 .f32) (n : FVec Ideal S1x1024 .f32) (sc sh g2 : FVec Ideal S4x1x1024 .f32)
    (wo : FVec Ideal S1024x1024 .bf16) (win : FVec Ideal S1024x5632 .bf16) (wout : FVec Ideal S2816x1024 .bf16) :
    FVec Ideal S4x8192x1024 .f32 :=
  Cert.NaMixReferenceIdeal.Val.outRef (Cert.HgMixReferenceIdeal.Val.x1Ref f b sg gn x g1 wo)
    (Cert.NaMixReferenceIdeal.Val.hRef (Cert.HgMixReferenceIdeal.Val.x1Ref f b sg gn x g1 wo) n sc sh) g2 win wout

/-- The arguments of which the claim asks that they are finite. -/
structure Finite (f b sg : FVec Ideal S4x8192x1024 .bf16) (gn : FVec Ideal S1x1024 .f32) (x : FVec Ideal S4x8192x1024 .f32)
    (g1 : FVec Ideal S4x1x1024 .f32) (n : FVec Ideal S1x1024 .f32) (sc sh : FVec Ideal S4x1x1024 .f32)
    (wo : FVec Ideal S1024x1024 .bf16) (win : FVec Ideal S1024x5632 .bf16) : Prop where
  f : ∀ i, IsReal (f i)
  b : ∀ i, IsReal (b i)
  sg : ∀ i, IsReal (sg i)
  gn : ∀ i, IsReal (gn i)
  x : ∀ i, IsReal (x i)
  g1 : ∀ i, IsReal (g1 i)
  n : ∀ i, IsReal (n i)
  sc : ∀ i, IsReal (sc i)
  sh : ∀ i, IsReal (sh i)
  wo : ∀ i, IsReal (wo i)
  win : ∀ i, IsReal (win i)

/-- One entry of a block against the reference's entry there. -/
theorem point (c : Dev nD) (t : Fin cfg0.N) (y : S1x512x1024.Idx)
    (hf : Finite (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11))) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (((cfg0.win 13).blk t).view.emb y) := by
  rw [out_at]
  have hN : t.val < 64 := lt_of_lt_of_eq t.isLt N_0
  obtain ⟨b, hb⟩ : ∃ b : Fin 4, b = ⟨t.val / 16, by omega⟩ := ⟨_, rfl⟩
  idx_vars y
  obtain ⟨s, hs⟩ : ∃ s : Fin 8192, s = ⟨t.val % 16 * 512 + y1, by omega⟩ := ⟨_, rfl⟩
  have he : (((cfg0.win 13).blk t).view.emb (ix3 y0 y1 y2)) = ix3 b s y2 := by
    subst hb hs
    blk_ext [idx t]
  rw [he]
  unfold REF
  rw [Cert.NaMixReferenceIdeal.Val.outRef_at]
  simp only [Cert.NaMixReferenceIdeal.Val.hRef_at]
  have e1 : x1Row (iblk m c 0 t) (iblk m c 1 t) (iblk m c 2 t) (iblk m c 3 t) (iblk m c 4 t) (iblk m c 5 t) (iblk m c 10 t) y1
      = fun d => Cert.HgMixReferenceIdeal.Val.x1Ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (ix3 b s d) := by
    funext d
    rw [Cert.HgMixReferenceIdeal.Val.x1Ref_at, x1Row]
    subst hb hs
    congr 1
    all_goals first | (funext k d; blk_point [iblk, V, idx t]) | (funext k; blk_point [iblk, V, idx t])
  have r1 : ∀ d, IsReal (Cert.HgMixReferenceIdeal.Val.x1Ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (ix3 b s d)) := fun d => by
    rw [Cert.HgMixReferenceIdeal.Val.x1Ref_at]
    exact isReal_mixRow (fun k => (hf.f _).add (hf.b _)) (fun k => hf.gn _) (fun k => hf.sg _) (fun k => hf.x _)
      (fun k => hf.g1 _) (fun k d => hf.wo _) d
  rw [outAt, e1]
  have e6 : (fun k => iblk m c 6 t (ix2 0 k)) = fun k => m ((c : Thread nD τ).loc main_arg6) (ix2 0 k) := by
    funext k; blk_point [iblk, V, idx t]
  have e7 : (fun k => iblk m c 7 t (ix3 0 0 k)) = fun k => m ((c : Thread nD τ).loc main_arg7) (ix3 b 0 k) := by
    funext k; subst hb; blk_point [iblk, V, idx t]
  have e8 : (fun k => iblk m c 8 t (ix3 0 0 k)) = fun k => m ((c : Thread nD τ).loc main_arg8) (ix3 b 0 k) := by
    funext k; subst hb; blk_point [iblk, V, idx t]
  have e9 : (fun k => iblk m c 9 t (ix3 0 0 k)) = fun k => m ((c : Thread nD τ).loc main_arg9) (ix3 b 0 k) := by
    funext k; subst hb; blk_point [iblk, V, idx t]
  have e11 : (fun k f => iblk m c 11 t (ix2 k f)) = fun k f => m ((c : Thread nD τ).loc main_arg11) (ix2 k f) := by
    funext k f; blk_point [iblk, V, idx t]
  have e12 : (fun k f => iblk m c 12 t (ix2 k f)) = fun k f => m ((c : Thread nD τ).loc main_arg12) (ix2 k f) := by
    funext k f; blk_point [iblk, V, idx t]
  rw [e6, e7, e8, e9, e11, e12]
  exact outRow_tanh r1 (fun d => hf.n _) (fun d => hf.sc _) (fun d => hf.sh _) (fun k f => hf.win _) y2

/-- The result array after the run. -/
theorem final (c : Dev nD)
    (hf : Finite (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11))) :
    (dats m 0 c).arrAt 13 (cfgs 0).N
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 13 _ (by decide +kernel) fun t _ y => ?_
  blk_simp
  rw [after0_13]
  exact point m c t y hf

end Cert.HgMixIdeal.Val
-- ==== Proof.HgClaim.lean ====
/- The claims about the feed-forward kernel after the recurrence and its reference. -/
module

public import proofs.«01_k».proof.Defs
public import proofs.«01_k».proof.Proof.HgValue
public import Idealize.ShloMosaic.Lib.Quiescent

@[expose] public section

noncomputable section

namespace Cert.Proof.Hg

open Idealize.ShloMosaic Idealize.ShloMosaic.TcCoe Idealize.ShloMosaic.Tactic Idealize.SL.Sem

/-- The precondition, entry by entry. -/
theorem finite {m : (ℓ : Loc Cert.HgMixIdeal.nD Cert.HgMixIdeal.τ Cert.HgMixIdeal.sig) → Buf (Elt Ideal) ℓ}
    (h : Pre_HgMixIdeal_finite_hg m) (c : Dev Cert.HgMixIdeal.nD) :
    Cert.HgMixIdeal.Val.Finite (m ((c.tc : Thread Cert.HgMixIdeal.nD Cert.HgMixIdeal.τ).loc Cert.HgMixIdeal.main_arg0))
      (m ((c.tc : Thread Cert.HgMixIdeal.nD Cert.HgMixIdeal.τ).loc Cert.HgMixIdeal.main_arg1))
      (m ((c.tc : Thread Cert.HgMixIdeal.nD Cert.HgMixIdeal.τ).loc Cert.HgMixIdeal.main_arg2))
      (m ((c.tc : Thread Cert.HgMixIdeal.nD Cert.HgMixIdeal.τ).loc Cert.HgMixIdeal.main_arg3))
      (m ((c.tc : Thread Cert.HgMixIdeal.nD Cert.HgMixIdeal.τ).loc Cert.HgMixIdeal.main_arg4))
      (m ((c.tc : Thread Cert.HgMixIdeal.nD Cert.HgMixIdeal.τ).loc Cert.HgMixIdeal.main_arg5))
      (m ((c.tc : Thread Cert.HgMixIdeal.nD Cert.HgMixIdeal.τ).loc Cert.HgMixIdeal.main_arg6))
      (m ((c.tc : Thread Cert.HgMixIdeal.nD Cert.HgMixIdeal.τ).loc Cert.HgMixIdeal.main_arg7))
      (m ((c.tc : Thread Cert.HgMixIdeal.nD Cert.HgMixIdeal.τ).loc Cert.HgMixIdeal.main_arg8))
      (m ((c.tc : Thread Cert.HgMixIdeal.nD Cert.HgMixIdeal.τ).loc Cert.HgMixIdeal.main_arg10))
      (m ((c.tc : Thread Cert.HgMixIdeal.nD Cert.HgMixIdeal.τ).loc Cert.HgMixIdeal.main_arg11)) :=
  let f := Mix.hg (h c)
  ⟨f.1, f.2.1, f.2.2.1, f.2.2.2.1, f.2.2.2.2.1, f.2.2.2.2.2.1, f.2.2.2.2.2.2.1, f.2.2.2.2.2.2.2.1, f.2.2.2.2.2.2.2.2.1,
    f.2.2.2.2.2.2.2.2.2.1, f.2.2.2.2.2.2.2.2.2.2⟩

set_option maxHeartbeats 4000000 in
theorem reference : quiescent_HgMixReferenceIdeal := by
  intro m g _
  hlo_run
  · intro _; and_intros <;> trivial
  · exact sem_eq_zero_of_no_sems (sig := Cert.HgMixReferenceIdeal.sig) (by decide) _

set_option maxHeartbeats 4000000 in
theorem reference_pre : quiescent_HgMixReferenceIdeal_pre_finite_hg := by
  intro m g _
  hlo_run
  · intro _; and_intros <;> trivial
  · exact sem_eq_zero_of_no_sems (sig := Cert.HgMixReferenceIdeal.sig) (by decide) _

set_option maxHeartbeats 16000000 in
theorem value : algebraic_HgMixIdeal_HgMixReferenceIdeal_pre_finite_hg := by
  intro m g m' g' hp hagree
  have hf := finite hp
  clear hp
  refine Exists.intro ?_ ?_
  rotate_right
  refine And.intro ?_ ?_
  · run_from Cert.HgMixIdeal.Gen.run_main m g
  · hlo_run
    exact (Cert.HgMixIdeal.Val.final m c (hf c)).symm

end Cert.Proof.Hg
-- ==== Proof.HeadNorm.lean ====
/- The norm of a head's channels in the two spellings: the mean square by a sum over the head's channels, and by
   multiplications with one-hot matrices that add up the channels of each head and spread the result again. -/
module

public import proofs.«01_k».proof.Proof.Mix

@[expose] public section

noncomputable section

namespace Cert.Proof.Mix

open Idealize.ShloMosaic

theorem sixtyFour_eq : Ideal.ofBits .f32 0x42800000#32 = ((64 : ℝ) : EReal) := by
  simp [Ideal.ofBits, Ideal.ieee, -EReal.coe_mul]; norm_num

theorem sixtyFourth_eq : Ideal.ofBits .f32 0x3C800000#32 = ((1 / 64 : ℝ) : EReal) := by
  simp [Ideal.ofBits, Ideal.ieee, -EReal.coe_mul]; norm_num

theorem sq_nonneg_ereal (x : EReal) : 0 ≤ x * x := by
  induction x with
  | bot => simp
  | top => simp
  | coe r => rw [← EReal.coe_mul]; exact_mod_cast mul_self_nonneg r

/-- The reciprocal root of a sum of squares, scaled and with the epsilon, is a real. -/
theorem isReal_rsqrt_eps {s : EReal} (h : 0 ≤ s) :
    IsReal (Ideal.rsqrt (s * Ideal.ofBits .f32 0x3C800000#32 + Ideal.ofBits .f32 0x358637BD#32)) := by
  obtain ⟨e, he, hee⟩ := eps_eq
  rw [sixtyFourth_eq, hee]
  induction s with
  | bot => simp at h
  | top =>
    rw [EReal.top_mul_coe_of_pos (by norm_num), EReal.top_add_coe]
    exact ⟨0, rfl⟩
  | coe r =>
    have hr : 0 ≤ r := by exact_mod_cast h
    have hp : 0 < r * (1 / 64) + e := by positivity
    rw [← EReal.coe_mul, ← EReal.coe_add, Ideal.rsqrt_coe, if_neg (not_lt.mpr hp.le), if_neg hp.ne']
    exact ⟨_, rfl⟩

theorem div_64 (s : EReal) : Ideal.div s (Ideal.ofBits .f32 0x42800000#32) = s * Ideal.ofBits .f32 0x3C800000#32 := by
  rw [sixtyFour_eq, sixtyFourth_eq, Ideal.div_coe (by norm_num)]

/-- The norm over a head's 64 channels. -/
def headNorm (z gain : Fin 1024 → EReal) (d : Fin 1024) : EReal :=
  z d * Ideal.rsqrt (Ideal.div (∑ l : Fin 64, z ⟨(d / 64) * 64 + l, by omega⟩ * z ⟨(d / 64) * 64 + l, by omega⟩)
    (Ideal.ofBits .f32 0x42800000#32) + Ideal.ofBits .f32 0x358637BD#32) * gain d

/-- Adding up a head's channels with a one-hot matrix. -/
theorem sum_head (f : Fin 1024 → EReal) (red : Fin 1024 → EReal) (l : Fin 16)
    (hr : ∀ k : Fin 1024, red k = if (k : ℕ) / 64 = l then 1 else 0) :
    (∑ k, f k * red k) = ∑ j : Fin 64, f ⟨l * 64 + j, by omega⟩ := by
  rw [Fin.sum_univ_tiles 16 64 rfl (fun k => f k * red k)]
  rw [Finset.sum_eq_single l]
  · refine Finset.sum_congr rfl fun j _ => ?_
    rw [hr, if_pos (by show ((l : ℕ) * 64 + j) / 64 = l; omega), mul_one]
  · intro b _ hb
    have hb' : (b : ℕ) ≠ l := fun h => hb (Fin.ext h)
    refine Finset.sum_eq_zero fun j _ => ?_
    rw [hr, if_neg (by show ¬((b : ℕ) * 64 + j) / 64 = l; omega), mul_zero]
  · exact fun h => absurd (Finset.mem_univ l) h

/-- An entry of a one-hot matrix made by comparing two indices. -/
theorem oneHot_eq (a b : ℕ) (ha : a < 1024) (hb : b < 1024) :
    (FloatOps.uitofp .bf16 (IntOp.cmpi .eq (BitVec.ofNat 32 a) (BitVec.ofNat 32 b)) : Ideal .bf16)
      = (if a = b then 1 else 0 : EReal) := by
  by_cases h : a = b
  · subst h
    simp [IntOp.cmpi, FloatOps.uitofp]
  · have hne : BitVec.ofNat 32 a ≠ BitVec.ofNat 32 b := fun e => h (by
      have := congrArg BitVec.toNat e
      simp only [BitVec.toNat_ofNat] at this
      omega)
    simp [IntOp.cmpi, FloatOps.uitofp, h, hne]

theorem IsReal.sub_self {x : EReal} : IsReal x → x - x = 0 := by
  rintro ⟨r, rfl⟩; rw [← EReal.coe_sub, _root_.sub_self, EReal.coe_zero]

/-- The reciprocal root of a head's mean square, by a one-hot matrix over lanes. -/
def lane (z : Fin 1024 → EReal) (red : Fin 1024 → Fin 128 → EReal) (l : Fin 128) : EReal :=
  Ideal.rsqrt ((∑ k, z k * z k * red k l) * Ideal.ofBits .f32 0x3C800000#32 + Ideal.ofBits .f32 0x358637BD#32)

/-- The norm of the heads by one-hot matrices. -/
def oneHotNorm (z gain : Fin 1024 → EReal) (red : Fin 1024 → Fin 128 → EReal) (ex : Fin 256 → Fin 1024 → EReal)
    (d : Fin 1024) : EReal :=
  z d * ((∑ x : Fin 128, lane z red x * ex ⟨x, by omega⟩ d)
    + ∑ x : Fin 128, (lane z red x - lane z red x) * ex ⟨128 + x, by omega⟩ d) * gain d

theorem oneHotNorm_eq (z gain : Fin 1024 → EReal) (red : Fin 1024 → Fin 128 → EReal)
    (ex : Fin 256 → Fin 1024 → EReal)
    (hr : ∀ k l, red k l = if (k : ℕ) / 64 = l then 1 else 0)
    (he : ∀ (x : Fin 256) (d : Fin 1024), ex x d = if (x : ℕ) % 128 = (d : ℕ) / 64 then 1 else 0) (d : Fin 1024) :
    oneHotNorm z gain red ex d = headNorm z gain d := by
  have hl : ∀ l, IsReal (lane z red l) := fun l => isReal_rsqrt_eps (Finset.sum_nonneg fun k _ =>
    mul_nonneg (sq_nonneg_ereal _) (by rw [hr]; split_ifs <;> simp))
  have h2 : (∑ x : Fin 128, (lane z red x - lane z red x) * ex ⟨128 + x, by omega⟩ d) = 0 :=
    Finset.sum_eq_zero fun x _ => by rw [(hl x).sub_self, zero_mul]
  have h1 : (∑ x : Fin 128, lane z red x * ex ⟨x, by omega⟩ d) = lane z red ⟨d / 64, by omega⟩ := by
    rw [Finset.sum_eq_single (⟨d / 64, by omega⟩ : Fin 128)]
    · rw [he, if_pos (by show (d : ℕ) / 64 % 128 = d / 64; omega), mul_one]
    · intro b _ hb
      have hb' : (b : ℕ) ≠ d / 64 := fun h => hb (Fin.ext h)
      rw [he, if_neg (by show ¬(b : ℕ) % 128 = d / 64; omega), mul_zero]
    · exact fun h => absurd (Finset.mem_univ _) h
  unfold oneHotNorm headNorm
  rw [h1, h2, add_zero, div_64, lane,
    sum_head (fun k => z k * z k) (fun k => red k ⟨d / 64, by omega⟩) ⟨d / 64, by omega⟩ (fun k => hr k _)]

end Cert.Proof.Mix
-- ==== Proof.QkvReference.lean ====
/- What the reference of the projections to queries, keys and values computes, at one entry. -/
module

public import proofs.«01_k».proof.Proof.HeadNorm
public import proofs.«01_k».proof.Proof.Gen.QkvReferenceIdeal

@[expose] public section

set_option maxRecDepth 16384

noncomputable section

namespace Cert.QkvReferenceIdeal.Val

open Idealize.ShloMosaic Cert.QkvReferenceIdeal Cert.QkvReferenceIdeal.Gen Cert.Proof.Mix

/-- The modulated norm. -/
abbrev hRef (x : FVec Ideal S4x8192x1024 .f32) (n : FVec Ideal S1x1024 .f32) (sc sh : FVec Ideal S4x1x1024 .f32) :
    FVec Ideal S4x8192x1024 .f32 :=
  addf (mulf (mulf (mulf x (broadcastInDim S4x8192x1024 ![0, 1, 2] bcast_S4x8192x1_S4x8192x1024_0_1_2
      (Host.rsqrt (addf (Host.divf (broadcastInDim S4x8192x1 ![0, 1] bcast_S4x8192_S4x8192x1_0_1
          (Host.reduceAdd (mulf x x) (constant S_ .f32 0x00000000#32) reducesTo_S4x8192x1024_S4x8192_d2 h_S_))
          (broadcastInDim S4x8192x1 ![] bcast_S_S4x8192x1 (constant S_ .f32 0x44800000#32)))
        (broadcastInDim S4x8192x1 ![] bcast_S_S4x8192x1 (constant S_ .f32 0x358637BD#32))))))
      (broadcastInDim S4x8192x1024 ![0, 1, 2] bcast_S1x1x1024_S4x8192x1024_0_1_2
        (broadcastInDim S1x1x1024 ![1, 2] bcast_S1x1024_S1x1x1024_1_2 n)))
      (broadcastInDim S4x8192x1024 ![0, 1, 2] bcast_S4x1x1024_S4x8192x1024_0_1_2
        (addf (broadcastInDim S4x1x1024 ![] bcast_S_S4x1x1024 (constant S_ .f32 0x3F800000#32)) sc)))
    (broadcastInDim S4x8192x1024 ![0, 1, 2] bcast_S4x1x1024_S4x8192x1024_0_1_2 sh)

/-- The projection to queries and keys. -/
abbrev zRef (h : FVec Ideal S4x8192x1024 .f32) (w : FVec Ideal S1024x2048 .bf16) : FVec Ideal S4x8192x2048 .f32 :=
  Host.dotGeneral dot_S4x8192x1024_S1024x2048_S4x8192x2048_2_0_01_1_n_n none h (extf .f32 w bitsLt_bf16_f32)

/-- The norm of each head, the heads in groups. -/
abbrev normRef (z : FVec Ideal S4x8192x1024 .f32) (g : FVec Ideal S1x1024 .f32) : FVec Ideal S4x4x8192x256 .bf16 :=
  truncf .bf16 (transpose S4x4x8192x256 [2, 0, 1, 3] (shapeCast S4x8192x4x256
    (mulf (mulf (shapeCast S4x8192x16x64 z shapeCasts_S4x8192x1024_S4x8192x16x64)
        (broadcastInDim S4x8192x16x64 ![0, 1, 2, 3] bcast_S4x8192x16x1_S4x8192x16x64_0_1_2_3
          (Host.rsqrt (addf (Host.divf (broadcastInDim S4x8192x16x1 ![0, 1, 2] bcast_S4x8192x16_S4x8192x16x1_0_1_2
              (Host.reduceAdd (mulf (shapeCast S4x8192x16x64 z shapeCasts_S4x8192x1024_S4x8192x16x64)
                  (shapeCast S4x8192x16x64 z shapeCasts_S4x8192x1024_S4x8192x16x64))
                (constant S_ .f32 0x00000000#32) reducesTo_S4x8192x16x64_S4x8192x16_d3 h_S_))
            (broadcastInDim S4x8192x16x1 ![] bcast_S_S4x8192x16x1 (constant S_ .f32 0x42800000#32)))
            (broadcastInDim S4x8192x16x1 ![] bcast_S_S4x8192x16x1 (constant S_ .f32 0x358637BD#32))))))
      (broadcastInDim S4x8192x16x64 ![0, 1, 2, 3] bcast_S1x1x16x64_S4x8192x16x64_0_1_2_3
        (broadcastInDim S1x1x16x64 ![2, 3] bcast_S16x64_S1x1x16x64_2_3 (shapeCast S16x64 g shapeCasts_S1x1024_S16x64))))
    shapeCasts_S4x8192x16x64_S4x8192x4x256) transposes_S4x8192x4x256_S4x4x8192x256_2_0_1_3) bitsLt_bf16_f32

/-- The queries. -/
abbrev qRef (z : FVec Ideal S4x8192x2048 .f32) (g : FVec Ideal S1x1024 .f32) : FVec Ideal S4x4x8192x256 .bf16 :=
  normRef (extractStridedSlice S4x8192x1024 ![0, 0, 0] z slices_S4x8192x2048_S4x8192x1024_0_0_0) g

/-- The keys. -/
abbrev kRef (z : FVec Ideal S4x8192x2048 .f32) (g : FVec Ideal S1x1024 .f32) : FVec Ideal S4x4x8192x256 .bf16 :=
  normRef (extractStridedSlice S4x8192x1024 ![0, 0, 1024] z slices_S4x8192x2048_S4x8192x1024_0_0_1024) g

/-- The values, the tokens of each block across. -/
abbrev vRef (h : FVec Ideal S4x8192x1024 .f32) (w : FVec Ideal S1024x1024 .bf16) : FVec Ideal S4x32x1024x256 .bf16 :=
  truncf .bf16 (transpose S4x32x1024x256 [0, 1, 3, 2] (shapeCast S4x32x256x1024
    (Host.dotGeneral dot_S4x8192x1024_S1024x1024_S4x8192x1024_2_0_01_1_n_n none h
      (transpose S1024x1024 [1, 0] (extf .f32 w bitsLt_bf16_f32) transposes_S1024x1024_S1024x1024_1_0))
    shapeCasts_S4x8192x1024_S4x32x256x1024) transposes_S4x32x256x1024_S4x32x1024x256_0_1_3_2) bitsLt_bf16_f32

theorem hRef_at (x : FVec Ideal S4x8192x1024 .f32) (n : FVec Ideal S1x1024 .f32) (sc sh : FVec Ideal S4x1x1024 .f32)
    (b : Fin 4) (t : Fin 8192) (d : Fin 1024) :
    hRef x n sc sh (ix3 b t d)
      = hRow (fun k => x (ix3 b t k)) (fun k => n (ix2 0 k)) (fun k => sc (ix3 b 0 k)) (fun k => sh (ix3 b 0 k)) d := by
  pointwise [hRef, hRow]

theorem zRef_at (h : FVec Ideal S4x8192x1024 .f32) (w : FVec Ideal S1024x2048 .bf16)
    (b : Fin 4) (t : Fin 8192) (d : Fin 2048) :
    zRef h w (ix3 b t d) = ∑ k, h (ix3 b t k) * w (ix2 k d) := by
  pointwise [zRef]

theorem normRef_at (z : FVec Ideal S4x8192x1024 .f32) (g : FVec Ideal S1x1024 .f32)
    (p : Fin 4) (b : Fin 4) (t : Fin 8192) (d : Fin 256) :
    normRef z g (ix4 p b t d)
      = headNorm (fun k => z (ix3 b t k)) (fun k => g (ix2 0 k)) ⟨p * 256 + d, by omega⟩ := by
  have e1 : (⟨p * 256 + d, by omega⟩ : Fin 1024) = ⟨(p * 4 + d / 64) * 64 + d % 64, by omega⟩ := Fin.ext (by simp; omega)
  rw [e1]
  have e2 : (((p : ℕ) * 4 + d / 64) * 64 + d % 64) / 64 = p * 4 + d / 64 := by omega
  pointwise [normRef, headNorm]
  simp only [e2]

theorem vRef_at (h : FVec Ideal S4x8192x1024 .f32) (w : FVec Ideal S1024x1024 .bf16)
    (b : Fin 4) (j : Fin 32) (d : Fin 1024) (s : Fin 256) :
    vRef h w (ix4 b j d s) = ∑ k, h (ix3 b ⟨j * 256 + s, by omega⟩ k) * w (ix2 d k) := by
  pointwise [vRef]

end Cert.QkvReferenceIdeal.Val
-- ==== Proof.QkvValue.lean ====
/- What the kernel of the projections to queries, keys and values computes. -/
module

public import proofs.«01_k».proof.Proof.QkvReference
public import proofs.«01_k».proof.Proof.Gen.QkvIdeal.Frame

@[expose] public section

set_option maxRecDepth 16384

noncomputable section

namespace Cert.QkvIdeal.Val

open Idealize.ShloMosaic Idealize.ShloMosaic.TcCoe Idealize.SL.Sem Cert.QkvIdeal Cert.QkvIdeal.Gen Cert.Proof.Mix
open Idealize.ShloMosaic.Pipeline (Dat)

section
variable (m : (ℓ : Loc nD τ sig) → Buf (Elt Ideal) ℓ)

/-- The one-hot matrix that adds up the channels of a head. -/
theorem V_red (c : Dev nD) (k : Fin 1024) (l : Fin 128) :
    (V m c main_v8 : FVec Ideal S1024x128 .bf16) (ix2 k l) = (if (k : ℕ) / 64 = l then 1 else 0 : EReal) := by
  have e : V m c main_v8 = shapeCast S1024x128 (uitofp .bf16 (cmpi .eq (iotaInDim S16x64x128 32 0)
      (iotaInDim S16x64x128 32 2)) : FVec Ideal S16x64x128 .bf16) shapeCasts_S16x64x128_S1024x128 := by
    show StableHlo.after hostOps0 _ (Proc.devRef .tc main_v8) = _
    after_results
    rfl
  rw [e, ← oneHot_eq _ _ (by omega) (by omega)]
  pointwise

/-- The one-hot matrix that spreads a head's number over its channels. -/
theorem V_expand (c : Dev nD) (x : Fin 256) (d : Fin 1024) :
    (V m c main_v9 : FVec Ideal S256x1024 .bf16) (ix2 x d)
      = (if (x : ℕ) % 128 = (d : ℕ) / 64 then 1 else 0 : EReal) := by
  have e : V m c main_v9 = shapeCast S256x1024 (uitofp .bf16 (cmpi .eq (iotaInDim S2x128x16x64 32 1)
      (iotaInDim S2x128x16x64 32 2)) : FVec Ideal S2x128x16x64 .bf16) shapeCasts_S2x128x16x64_S256x1024 := by
    show StableHlo.after hostOps0 _ (Proc.devRef .tc main_v9) = _
    after_results
    rfl
  rw [e, ← oneHot_eq _ _ (by omega) (by omega)]
  pointwise

end

/-- The modulated norm of a row of the block. -/
theorem h_at (x : Vec Ideal S1x1024x1024 .f32) (n : Vec Ideal S1x1024 .f32) (sc sh : Vec Ideal S1x1x1024 .f32) (r d : Fin 1024) :
    k0_pay7 x n sc sh (ix2 r d) = hRow (fun k => x (ix3 0 r k)) (fun k => n (ix2 0 k)) (fun k => sc (ix3 0 0 k)) (fun k => sh (ix3 0 0 k)) d := by
  pointwise [k0_pay7, hRow]

theorem norm_at (z : FVec Ideal S1024x1024 .f32) (gain : Vec Ideal S1x1024 .f32) (red : Vec Ideal S1024x128 .bf16)
    (ex : Vec Ideal S256x1024 .bf16) (r d : Fin 1024) :
    k0_pay11 z gain (truncf .bf16 (mulf z z) bitsLt_bf16_f32) red ex (ix2 r d)
      = oneHotNorm (fun k => z (ix2 r k)) (fun k => gain (ix2 0 k)) (fun k l => red (ix2 k l))
        (fun x k => ex (ix2 x k)) d := by
  pointwise [k0_pay11, oneHotNorm, lane]

theorem norm_keys (z : FVec Ideal S1024x1024 .f32) (gain : Vec Ideal S1x1024 .f32) (red : Vec Ideal S1024x128 .bf16)
    (ex : Vec Ideal S256x1024 .bf16) :
    k0_pay18 z gain red ex = k0_pay11 z gain (truncf .bf16 (mulf z z) bitsLt_bf16_f32) red ex := rfl

section
variable (x0 : Vec Ideal S1x1024x1024 .f32) (x1 : Vec Ideal S1x1024 .f32) (x2 x3 : Vec Ideal S1x1x1024 .f32)
  (x4 : Vec Ideal S1024x2048 .bf16) (x5 : Vec Ideal S1024x1024 .bf16) (x6 x7 : Vec Ideal S1x1024 .f32)
  (x8 : Vec Ideal S1024x128 .bf16) (x9 : Vec Ideal S256x1024 .bf16)

/-- A row of the modulated norm. -/
def hAt (r : Fin 1024) : Fin 1024 → EReal :=
  hRow (fun k => x0 (ix3 0 r k)) (fun k => x1 (ix2 0 k)) (fun k => x2 (ix3 0 0 k)) (fun k => x3 (ix3 0 0 k))

theorem h_ld (r d : Fin 1024) :
    k0_pay7 (View.ld x0 r0_0) (View.ld x1 r0_1) (View.ld x2 r0_2) (View.ld x3 r0_2) (ix2 r d)
      = hAt x0 x1 x2 x3 r d := by
  rw [h_at, hAt]
  congr 1
  all_goals (funext k; pointwise)

theorem q_at (r d : Fin 1024) :
    k0_pay22 x0 x1 x2 x3 x4 x5 x6 x7 x8 x9 (ix2 r d)
      = ∑ k, hAt x0 x1 x2 x3 r k * x4 (ix2 k ⟨d, by omega⟩) := by
  simp only [← h_ld]
  unfold k0_pay22 k0_pay8
  generalize k0_pay7 (View.ld x0 r0_0) (View.ld x1 r0_1) (View.ld x2 r0_2) (View.ld x3 r0_2) = h
  pointwise
  all_goals blk_point []

theorem k_at (r d : Fin 1024) :
    k0_pay23 x0 x1 x2 x3 x4 x5 x6 x7 x8 x9 (ix2 r d)
      = ∑ k, hAt x0 x1 x2 x3 r k * x4 (ix2 k ⟨1024 + d, by omega⟩) := by
  simp only [← h_ld]
  unfold k0_pay23 k0_pay9
  generalize k0_pay7 (View.ld x0 r0_0) (View.ld x1 r0_1) (View.ld x2 r0_2) (View.ld x3 r0_2) = h
  pointwise
  all_goals blk_point []

theorem v_at (d s : Fin 1024) :
    k0_pay25 x0 x1 x2 x3 x4 x5 x6 x7 x8 x9 (ix2 d s)
      = ∑ k, hAt x0 x1 x2 x3 s k * x5 (ix2 d k) := by
  simp only [← h_ld]
  unfold k0_pay25
  generalize k0_pay7 (View.ld x0 r0_0) (View.ld x1 r0_1) (View.ld x2 r0_2) (View.ld x3 r0_2) = h
  pointwise [k0_pay17]
  all_goals exact Finset.sum_congr rfl fun k _ => mul_comm _ _

/-- A column of a group of 256. -/
def groupCol (g : Fin 4) (d : Fin 256) : Fin 1024 := ⟨g * 256 + d, by omega⟩

/-- The queries or keys of a row, from their projection. -/
def normAt (z : Fin 1024 → Fin 1024 → EReal) (gain : Vec Ideal S1x1024 .f32) (g : Fin 4) (r : Fin 1024) (d : Fin 256) : EReal :=
  oneHotNorm (z r) (fun k => gain (ix2 0 k)) (fun k l => x8 (ix2 k l)) (fun x k => x9 (ix2 x k))
    (groupCol g d)

theorem norm_ld (z : FVec Ideal S1024x1024 .f32) (gain : Vec Ideal S1x1024 .f32) (r d : Fin 1024) :
    k0_pay11 z (View.ld gain r0_1) (truncf .bf16 (mulf z z) bitsLt_bf16_f32) (View.ld x8 r0_5) (View.ld x9 r0_6) (ix2 r d)
      = oneHotNorm (fun k => z (ix2 r k)) (fun k => gain (ix2 0 k)) (fun k l => x8 (ix2 k l))
        (fun x k => x9 (ix2 x k)) d := by
  rw [norm_at]
  congr 1
  · funext k; pointwise
  · funext k l; pointwise
  · funext k l; pointwise

/-- The four groups of heads, stored one after the other. -/
theorem groups_at (z : FVec Ideal S1024x1024 .bf16) (y : S4x1x1024x256.Idx) :
    (View.canon [⟨r0_10, (shapeCast S1x1x1024x256 (extractStridedSlice S1024x256 ![0, 768] z slices_S1024x1024_o0_768_S1024x256) shapeCasts_S1024x256_S1x1x1024x256 : FVec Ideal S1x1x1024x256 .bf16)⟩,
      ⟨r0_9, (shapeCast S1x1x1024x256 (extractStridedSlice S1024x256 ![0, 512] z slices_S1024x1024_o0_512_S1024x256) shapeCasts_S1024x256_S1x1x1024x256 : FVec Ideal S1x1x1024x256 .bf16)⟩,
      ⟨r0_8, (shapeCast S1x1x1024x256 (extractStridedSlice S1024x256 ![0, 256] z slices_S1024x1024_o0_256_S1024x256) shapeCasts_S1024x256_S1x1x1024x256 : FVec Ideal S1x1x1024x256 .bf16)⟩,
      ⟨r0_7, (shapeCast S1x1x1024x256 (extractStridedSlice S1024x256 ![0, 0] z slices_S1024x1024_o0_0_S1024x256) shapeCasts_S1024x256_S1x1x1024x256 : FVec Ideal S1x1x1024x256 .bf16)⟩] : Vec Ideal S4x1x1024x256 .bf16) y
      = z (ix2 (y 2) (groupCol (y 0) (y 3))) := by
  canon_tiles u h
  all_goals idx_vars u
  all_goals
    pointwise
    refine congrArg z (congrArg₂ ix2 (Fin.ext h2.symm) (Fin.ext ?_))
    simp only [groupCol, h0, h3]
    omega

/-- The four blocks of tokens of the values, stored one after the other. -/
theorem blocks_at (z : FVec Ideal S1024x1024 .bf16) (y : S1x4x1024x256.Idx) :
    (View.canon [⟨r0_15, k0_pay6 z⟩, ⟨r0_14, k0_pay5 z⟩, ⟨r0_13, k0_pay4 z⟩, ⟨r0_12, k0_pay3 z⟩] : Vec Ideal S1x4x1024x256 .bf16) y
      = z (ix2 (y 2) (groupCol (y 1) (y 3))) := by
  unfold k0_pay6 k0_pay5 k0_pay4 k0_pay3
  canon_tiles u h
  all_goals idx_vars u
  all_goals
    pointwise
    refine congrArg z (congrArg₂ ix2 (Fin.ext h2.symm) (Fin.ext ?_))
    simp only [groupCol, h1, h3]
    omega

theorem out10_at (y : S4x1x1024x256.Idx) : out0_10 x0 x1 x2 x3 x4 x5 x6 x7 x8 x9 y
    = normAt x8 x9 (fun r d => ∑ k, hAt x0 x1 x2 x3 r k * x4 (ix2 k ⟨d, by omega⟩)) x6 (y 0) (y 2) (y 3) := by
  have hn := norm_ld x8 x9 (k0_pay22 x0 x1 x2 x3 x4 x5 x6 x7 x8 x9) x6
  simp only [q_at] at hn
  exact (groups_at _ y).trans (hn _ _)

theorem out11_at (y : S4x1x1024x256.Idx) : out0_11 x0 x1 x2 x3 x4 x5 x6 x7 x8 x9 y
    = normAt x8 x9 (fun r d => ∑ k, hAt x0 x1 x2 x3 r k * x4 (ix2 k ⟨1024 + d, by omega⟩)) x7 (y 0) (y 2) (y 3) := by
  have hn := norm_ld x8 x9 (k0_pay23 x0 x1 x2 x3 x4 x5 x6 x7 x8 x9) x7
  simp only [k_at] at hn
  exact (groups_at _ y).trans (hn _ _)

theorem out12_at (y : S1x4x1024x256.Idx) : out0_12 x0 x1 x2 x3 x4 x5 x6 x7 x8 x9 y
    = ∑ k, hAt x0 x1 x2 x3 (groupCol (y 1) (y 3)) k * x5 (ix2 (y 2) k) :=
  (blocks_at _ y).trans (v_at x0 x1 x2 x3 x4 x5 x6 x7 x8 x9 _ _)

end

variable (m : (ℓ : Loc nD τ sig) → Buf (Elt Ideal) ℓ)

theorem idx : ∀ t : Fin cfg0.N, win0_0.index t = ![t.val / 8, t.val % 8, 0] ∧ win0_1.index t = ![0, 0]
    ∧ win0_2.index t = ![t.val / 8, 0, 0] ∧ win0_3.index t = ![t.val / 8, 0, 0] ∧ win0_4.index t = ![0, 0]
    ∧ win0_5.index t = ![0, 0] ∧ win0_6.index t = ![0, 0] ∧ win0_7.index t = ![0, 0]
    ∧ win0_8.index t = ![0, 0] ∧ win0_9.index t = ![0, 0] ∧ win0_10.index t = ![0, t.val / 8, t.val % 8, 0]
    ∧ win0_11.index t = ![0, t.val / 8, t.val % 8, 0] ∧ win0_12.index t = ![t.val / 8, t.val % 8, 0, 0] :=
  (by decide +kernel : ∀ t : Fin grid0.N, _)

/-- The reference's modulated norm over the kernel's arguments. -/
def hREF (c : Dev nD) : FVec Ideal S4x8192x1024 .f32 :=
  Cert.QkvReferenceIdeal.Val.hRef (m ((c : Thread nD τ).loc main_arg0)) (m ((c : Thread nD τ).loc main_arg1))
    (m ((c : Thread nD τ).loc main_arg2)) (m ((c : Thread nD τ).loc main_arg3))

/-- The reference's queries. -/
def qREF (c : Dev nD) : FVec Ideal S4x4x8192x256 .bf16 :=
  Cert.QkvReferenceIdeal.Val.qRef (Cert.QkvReferenceIdeal.Val.zRef (hREF m c) (m ((c : Thread nD τ).loc main_arg4))) (m ((c : Thread nD τ).loc main_arg6))

/-- The reference's keys. -/
def kREF (c : Dev nD) : FVec Ideal S4x4x8192x256 .bf16 :=
  Cert.QkvReferenceIdeal.Val.kRef (Cert.QkvReferenceIdeal.Val.zRef (hREF m c) (m ((c : Thread nD τ).loc main_arg4))) (m ((c : Thread nD τ).loc main_arg7))

/-- The reference's values. -/
def vREF (c : Dev nD) : FVec Ideal S4x32x1024x256 .bf16 :=
  Cert.QkvReferenceIdeal.Val.vRef (hREF m c) (m ((c : Thread nD τ).loc main_arg5))

/-- The block's rows of the modulated norm are the reference's. -/
theorem hAt_eq (c : Dev nD) (t : Fin cfg0.N) (r : Fin 1024) (b : Fin 4) (s : Fin 8192) (hb : (b : ℕ) = t.val / 8)
    (hs : (s : ℕ) = t.val % 8 * 1024 + r) :
    hAt (iblk m c 0 t) (iblk m c 1 t) (iblk m c 2 t) (iblk m c 3 t) r = fun k => hREF m c (ix3 b s k) := by
  have hN : t.val < 32 := lt_of_lt_of_eq t.isLt N_0
  have eb : b = ⟨t.val / 8, by omega⟩ := Fin.ext hb
  have es : s = ⟨t.val % 8 * 1024 + r, by omega⟩ := Fin.ext hs
  funext k
  rw [hREF, Cert.QkvReferenceIdeal.Val.hRef_at, hAt, eb, es]
  congr 1
  · funext k; blk_point [iblk, V_main_arg0, idx t]
  · funext k; blk_point [iblk, V_main_arg1, idx t]
  · funext k; blk_point [iblk, V_main_arg2, idx t]
  · funext k; blk_point [iblk, V_main_arg3, idx t]

/-- The one-hot norm of a block's row is the norm over each head. -/
theorem normAt_eq (c : Dev nD) (t : Fin cfg0.N) (z : Fin 1024 → Fin 1024 → EReal) (gain : Vec Ideal S1x1024 .f32)
    (g : Fin 4) (r : Fin 1024) (d : Fin 256) :
    normAt (iblk m c 8 t) (iblk m c 9 t) z gain g r d = headNorm (z r) (fun k => gain (ix2 0 k)) (groupCol g d) := by
  refine oneHotNorm_eq _ _ _ _ (fun k l => ?_) (fun x k => ?_) _
  · rw [← V_red m c k l]
    blk_point [iblk, idx t]
  · rw [← V_expand m c x k]
    blk_point [iblk, idx t]

theorem point10 (c : Dev nD) (t : Fin cfg0.N) (y : S4x1x1024x256.Idx) :
    out0_10 (iblk m c 0 t) (iblk m c 1 t) (iblk m c 2 t) (iblk m c 3 t) (iblk m c 4 t) (iblk m c 5 t) (iblk m c 6 t)
        (iblk m c 7 t) (iblk m c 8 t) (iblk m c 9 t) y = qREF m c (((cfg0.win 10).blk t).view.emb y) := by
  refine (out10_at _ _ _ _ _ _ _ _ _ _ y).trans ((normAt_eq m c t _ _ _ _ _).trans ?_)
  have hN : t.val < 32 := lt_of_lt_of_eq t.isLt N_0
  obtain ⟨b, hb⟩ : ∃ b : Fin 4, b = ⟨t.val / 8, by omega⟩ := ⟨_, rfl⟩
  idx_vars y
  obtain ⟨s, hs⟩ : ∃ s : Fin 8192, s = ⟨t.val % 8 * 1024 + y2, by omega⟩ := ⟨_, rfl⟩
  have he : (((cfg0.win 10).blk t).view.emb (ix4 y0 y1 y2 y3)) = ix4 y0 b s y3 := by
    subst hb hs
    blk_ext [idx t]
  rw [he, qREF]
  refine Eq.trans ?_ (Cert.QkvReferenceIdeal.Val.normRef_at _ _ _ _ _ _).symm
  have e4 : ∀ k d, (iblk m c 4 t : Vec Ideal S1024x2048 .bf16) (ix2 k d) = (m ((c : Thread nD τ).loc main_arg4)) (ix2 k d) := fun k d => by
    blk_point [iblk, V_main_arg4, idx t]
  have e6 : ∀ k, (iblk m c 6 t : Vec Ideal S1x1024 .f32) (ix2 0 k) = (m ((c : Thread nD τ).loc main_arg6)) (ix2 0 k) := fun k => by
    blk_point [iblk, V_main_arg6, idx t]
  show headNorm (fun d => ∑ k, hAt (iblk m c 0 t) (iblk m c 1 t) (iblk m c 2 t) (iblk m c 3 t) y2 k
    * (iblk m c 4 t : Vec Ideal S1024x2048 .bf16) (ix2 k ⟨d, by omega⟩)) _ (groupCol y0 y3) = _
  simp only [hAt_eq m c t y2 b s (by rw [hb]) (by rw [hs]), e4, e6]
  congr 1
  funext d
  rw [← Cert.QkvReferenceIdeal.Val.zRef_at]
  generalize Cert.QkvReferenceIdeal.Val.zRef (hREF m c) _ = z
  pointwise

theorem point11 (c : Dev nD) (t : Fin cfg0.N) (y : S4x1x1024x256.Idx) :
    out0_11 (iblk m c 0 t) (iblk m c 1 t) (iblk m c 2 t) (iblk m c 3 t) (iblk m c 4 t) (iblk m c 5 t) (iblk m c 6 t)
        (iblk m c 7 t) (iblk m c 8 t) (iblk m c 9 t) y = kREF m c (((cfg0.win 11).blk t).view.emb y) := by
  refine (out11_at _ _ _ _ _ _ _ _ _ _ y).trans ((normAt_eq m c t _ _ _ _ _).trans ?_)
  have hN : t.val < 32 := lt_of_lt_of_eq t.isLt N_0
  obtain ⟨b, hb⟩ : ∃ b : Fin 4, b = ⟨t.val / 8, by omega⟩ := ⟨_, rfl⟩
  idx_vars y
  obtain ⟨s, hs⟩ : ∃ s : Fin 8192, s = ⟨t.val % 8 * 1024 + y2, by omega⟩ := ⟨_, rfl⟩
  have he : (((cfg0.win 11).blk t).view.emb (ix4 y0 y1 y2 y3)) = ix4 y0 b s y3 := by
    subst hb hs
    blk_ext [idx t]
  rw [he, kREF]
  refine Eq.trans ?_ (Cert.QkvReferenceIdeal.Val.normRef_at _ _ _ _ _ _).symm
  have e4 : ∀ k d, (iblk m c 4 t : Vec Ideal S1024x2048 .bf16) (ix2 k d) = (m ((c : Thread nD τ).loc main_arg4)) (ix2 k d) := fun k d => by
    blk_point [iblk, V_main_arg4, idx t]
  have e7 : ∀ k, (iblk m c 7 t : Vec Ideal S1x1024 .f32) (ix2 0 k) = (m ((c : Thread nD τ).loc main_arg7)) (ix2 0 k) := fun k => by
    blk_point [iblk, V_main_arg7, idx t]
  show headNorm (fun d => ∑ k, hAt (iblk m c 0 t) (iblk m c 1 t) (iblk m c 2 t) (iblk m c 3 t) y2 k
    * (iblk m c 4 t : Vec Ideal S1024x2048 .bf16) (ix2 k ⟨1024 + d, by omega⟩)) _ (groupCol y0 y3) = _
  simp only [hAt_eq m c t y2 b s (by rw [hb]) (by rw [hs]), e4, e7]
  congr 1
  funext d
  rw [← Cert.QkvReferenceIdeal.Val.zRef_at]
  generalize Cert.QkvReferenceIdeal.Val.zRef (hREF m c) _ = z
  pointwise

theorem point12 (c : Dev nD) (t : Fin cfg0.N) (y : S1x4x1024x256.Idx) :
    out0_12 (iblk m c 0 t) (iblk m c 1 t) (iblk m c 2 t) (iblk m c 3 t) (iblk m c 4 t) (iblk m c 5 t) (iblk m c 6 t)
        (iblk m c 7 t) (iblk m c 8 t) (iblk m c 9 t) y = vREF m c (((cfg0.win 12).blk t).view.emb y) := by
  rw [out12_at]
  have hN : t.val < 32 := lt_of_lt_of_eq t.isLt N_0
  obtain ⟨b, hb⟩ : ∃ b : Fin 4, b = ⟨t.val / 8, by omega⟩ := ⟨_, rfl⟩
  idx_vars y
  obtain ⟨j, hj⟩ : ∃ j : Fin 32, j = ⟨t.val % 8 * 4 + y1, by omega⟩ := ⟨_, rfl⟩
  have he : (((cfg0.win 12).blk t).view.emb (ix4 y0 y1 y2 y3)) = ix4 b j y2 y3 := by
    subst hb hj
    blk_ext [idx t]
  rw [he, vREF, Cert.QkvReferenceIdeal.Val.vRef_at]
  have e5 : ∀ k d, (iblk m c 5 t : Vec Ideal S1024x1024 .bf16) (ix2 k d) = (m ((c : Thread nD τ).loc main_arg5)) (ix2 k d) := fun k d => by
    blk_point [iblk, V_main_arg5, idx t]
  refine Finset.sum_congr rfl fun k _ => ?_
  rw [hAt_eq m c t _ b ⟨j * 256 + y3, by omega⟩ (by rw [hb]) (by
    show (j : ℕ) * 256 + y3 = t.val % 8 * 1024 + (y1 * 256 + y3)
    rw [hj]; simp only []; omega)]
  exact congrArg _ (e5 _ _)

/-- The queries after the run. -/
theorem final10 (c : Dev nD) : (dats m 0 c).arrAt 10 (cfgs 0).N = qREF m c := by
  refine (dats m 0 c).arrAt_eq_of_covers 10 _ (by decide +kernel) fun t _ y => ?_
  blk_simp
  rw [after0_10]
  exact point10 m c t y

/-- The keys after the run. -/
theorem final11 (c : Dev nD) : (dats m 0 c).arrAt 11 (cfgs 0).N = kREF m c := by
  refine (dats m 0 c).arrAt_eq_of_covers 11 _ (by decide +kernel) fun t _ y => ?_
  blk_simp
  rw [after0_11]
  exact point11 m c t y

/-- The values after the run. -/
theorem final12 (c : Dev nD) : (dats m 0 c).arrAt 12 (cfgs 0).N = vREF m c := by
  refine (dats m 0 c).arrAt_eq_of_covers 12 _ (by decide +kernel) fun t _ y => ?_
  blk_simp
  rw [after0_12]
  exact point12 m c t y

end Cert.QkvIdeal.Val
-- ==== Proof.QkvClaim.lean ====
/- The claims about the kernel of the projections to queries, keys and values and its reference. -/
module

public import proofs.«01_k».proof.Defs
public import proofs.«01_k».proof.Proof.QkvValue
public import Idealize.ShloMosaic.Lib.Quiescent

@[expose] public section

noncomputable section

namespace Cert.Proof.Qkv

open Idealize.ShloMosaic Idealize.ShloMosaic.TcCoe Idealize.ShloMosaic.Tactic Idealize.SL.Sem

set_option maxHeartbeats 4000000 in
theorem reference : quiescent_QkvReferenceIdeal := by
  intro m g _
  hlo_run
  · intro _; and_intros <;> trivial
  · exact sem_eq_zero_of_no_sems (sig := Cert.QkvReferenceIdeal.sig) (by decide) _

set_option maxHeartbeats 16000000 in
theorem value : algebraic_QkvIdeal_QkvReferenceIdeal := by
  intro m g m' g' _ hagree
  refine Exists.intro ?_ (Exists.intro ?_ (Exists.intro ?_ ?_))
  rotate_right
  refine And.intro ?_ ?_
  · run_from Cert.QkvIdeal.Gen.run_main m g
  · hlo_run
    · exact (Cert.QkvIdeal.Val.final10 m c).symm
    · exact (Cert.QkvIdeal.Val.final11 m c).symm
    · exact (Cert.QkvIdeal.Val.final12 m c).symm

end Cert.Proof.Qkv
-- ==== Proof.WindowSum.lean ====
/- A sum over a window that ends or begins at each position: the running sums inside a chunk of 64 tokens. -/
module

public import proofs.«01_k».proof.Proof.Mix

@[expose] public section

noncomputable section

namespace Cert.Proof.Window

open Idealize.ShloMosaic

/-- A chunk's window: 64 positions along the third axis. -/
abbrev W : Shape := ⟨4, ![1, 1, 64, 1]⟩

/-- The chunked array. -/
abbrev C : Shape := ⟨4, ![4, 128, 64, 1024]⟩

theorem W_numel : W.numel = 64 := by decide

theorem W_coords : ∀ n : Fin W.numel, (W.rowMajor.symm n 0).val = 0 ∧ (W.rowMajor.symm n 1).val = 0
    ∧ (W.rowMajor.symm n 2).val = n.val ∧ (W.rowMajor.symm n 3).val = 0 := by decide +kernel

theorem foldl_add {ι : Type*} (l : List ι) (f : ι → EReal) (v : EReal) :
    l.foldl (fun r n => r + f n) v = v + (l.map f).sum := by
  induction l generalizing v with
  | nil => simp
  | cons a l ih => rw [List.foldl_cons, ih, List.map_cons, List.sum_cons, add_assoc]

theorem foldl_finRange {n : ℕ} (f : Fin n → EReal) : (List.finRange n).foldl (fun r k => r + f k) 0 = ∑ k, f k := by
  rw [foldl_add, zero_add, Fin.sum_univ_def]

/-- Position `n` of the window at `r`, the positions counted on from `r`. -/
def turn (r : Fin 64) : Fin W.numel ≃ Fin 64 := (finCongr W_numel).trans (Equiv.addRight r)

theorem turn_val (r : Fin 64) (n : Fin W.numel) : (turn r n : ℕ) = (n.val + r.val) % 64 := by
  simp [turn, Fin.val_add]

theorem forward (x : C.Idx → EReal) (u : Shape) (init : u.Idx → EReal) (h) (hu) (h0 : init (Shape.Idx.first hu) = 0)
    (b : Fin 4) (j : Fin 128) (r : Fin 64) (d : Fin 1024) :
    Host.reduceWindow (s := C) (t := C) (fun a b : EReal => a + b) ![1, 1, 64, 1] ![1, 1, 1, 1] ![0, 0, 63, 0] ![0, 0, 0, 0] x init h hu
        (ix4 b j r d : C.Idx)
      = ∑ k : Fin 64, if (k : ℕ) ≤ r then x (ix4 b j k d : C.Idx) else 0 := by
  unfold Host.reduceWindow
  simp only [h0]
  refine (foldl_finRange _).trans ?_
  refine Fintype.sum_equiv ((turn r).trans (Equiv.addRight 1)) _ _ fun n => ?_
  have hn : n.val < 64 := n.isLt
  obtain ⟨c0, c1, c2, c3⟩ := W_coords n
  have ht : (((turn r).trans (Equiv.addRight 1)) n : ℕ) = (n.val + r.val + 1) % 64 := by
    simp [Fin.val_add, turn_val]
  by_cases hr : 63 ≤ r.val + n.val
  · have e : (n.val + r.val + 1) % 64 = r.val + n.val - 63 := by omega
    rw [if_pos (by rw [ht, e]; omega), dif_pos]
    · refine congrArg x (funext fun a => Fin.ext ?_)
      fin_cases a
      · show (b : ℕ) * 1 + (W.rowMajor.symm n 0).val - 0 = b
        omega
      · show (j : ℕ) * 1 + (W.rowMajor.symm n 1).val - 0 = j
        omega
      · show (r : ℕ) * 1 + (W.rowMajor.symm n 2).val - 63 = (((turn r).trans (Equiv.addRight 1)) n : ℕ)
        omega
      · show (d : ℕ) * 1 + (W.rowMajor.symm n 3).val - 0 = d
        omega
    · intro a
      fin_cases a
      · show 0 ≤ (b : ℕ) * 1 + (W.rowMajor.symm n 0).val ∧ (b : ℕ) * 1 + (W.rowMajor.symm n 0).val - 0 < 4
        omega
      · show 0 ≤ (j : ℕ) * 1 + (W.rowMajor.symm n 1).val ∧ (j : ℕ) * 1 + (W.rowMajor.symm n 1).val - 0 < 128
        omega
      · show 63 ≤ (r : ℕ) * 1 + (W.rowMajor.symm n 2).val ∧ (r : ℕ) * 1 + (W.rowMajor.symm n 2).val - 63 < 64
        omega
      · show 0 ≤ (d : ℕ) * 1 + (W.rowMajor.symm n 3).val ∧ (d : ℕ) * 1 + (W.rowMajor.symm n 3).val - 0 < 1024
        omega
  · rw [if_neg (by rw [ht]; omega), dif_neg]
    intro hin
    have h2 : 63 ≤ (r : ℕ) * 1 + (W.rowMajor.symm n 2).val := (hin 2).1
    omega

theorem backward (x : C.Idx → EReal) (u : Shape) (init : u.Idx → EReal) (h) (hu) (h0 : init (Shape.Idx.first hu) = 0)
    (b : Fin 4) (j : Fin 128) (r : Fin 64) (d : Fin 1024) :
    Host.reduceWindow (s := C) (t := C) (fun a b : EReal => a + b) ![1, 1, 64, 1] ![1, 1, 1, 1] ![0, 0, 0, 0] ![0, 0, 63, 0] x init h hu
        (ix4 b j r d : C.Idx)
      = ∑ k : Fin 64, if (r : ℕ) ≤ k then x (ix4 b j k d : C.Idx) else 0 := by
  unfold Host.reduceWindow
  simp only [h0]
  refine (foldl_finRange _).trans ?_
  refine Fintype.sum_equiv (turn r) _ _ fun n => ?_
  have hn : n.val < 64 := n.isLt
  obtain ⟨c0, c1, c2, c3⟩ := W_coords n
  have ht := turn_val r n
  by_cases hr : r.val + n.val < 64
  · have e : (n.val + r.val) % 64 = r.val + n.val := by omega
    rw [if_pos (by rw [ht, e]; omega), dif_pos]
    · refine congrArg x (funext fun a => Fin.ext ?_)
      fin_cases a
      · show (b : ℕ) * 1 + (W.rowMajor.symm n 0).val - 0 = b
        omega
      · show (j : ℕ) * 1 + (W.rowMajor.symm n 1).val - 0 = j
        omega
      · show (r : ℕ) * 1 + (W.rowMajor.symm n 2).val - 0 = (turn r n : ℕ)
        omega
      · show (d : ℕ) * 1 + (W.rowMajor.symm n 3).val - 0 = d
        omega
    · intro a
      fin_cases a
      · show 0 ≤ (b : ℕ) * 1 + (W.rowMajor.symm n 0).val ∧ (b : ℕ) * 1 + (W.rowMajor.symm n 0).val - 0 < 4
        omega
      · show 0 ≤ (j : ℕ) * 1 + (W.rowMajor.symm n 1).val ∧ (j : ℕ) * 1 + (W.rowMajor.symm n 1).val - 0 < 128
        omega
      · show 0 ≤ (r : ℕ) * 1 + (W.rowMajor.symm n 2).val ∧ (r : ℕ) * 1 + (W.rowMajor.symm n 2).val - 0 < 64
        omega
      · show 0 ≤ (d : ℕ) * 1 + (W.rowMajor.symm n 3).val ∧ (d : ℕ) * 1 + (W.rowMajor.symm n 3).val - 0 < 1024
        omega
  · rw [if_neg (by rw [ht]; omega), dif_neg]
    intro hin
    have h2 : (r : ℕ) * 1 + (W.rowMajor.symm n 2).val - 0 < 64 := (hin 2).2
    omega

end Cert.Proof.Window
-- ==== Proof.Gate.lean ====
/- A forget gate with a lower bound, as the kernel and as the reference write it. -/
module

public import proofs.«01_k».proof.Proof.HeadNorm

@[expose] public section

noncomputable section

namespace Cert.Proof.Gate

open Idealize.ShloMosaic Cert.Proof.Mix

/-- A forget gate's complement from its value before the activation and its lower bound. -/
def keep (l p : EReal) : EReal := (1 - l) * Ideal.div 1 (1 + Ideal.exp (- -p))

/-- The logarithm of a forget gate, in base two. -/
def logGate (l p : EReal) : EReal :=
  Ideal.div (Ideal.log (l + (1 - l) * Ideal.div 1 (1 + Ideal.exp (-p)))) (Ideal.log (Ideal.ofBits .f32 0x40000000#32))

/-- The complement as the kernel writes it. -/
def keepTanh (l p : EReal) : EReal :=
  Ideal.ofBits .f32 0x3F000000#32 * (1 - l)
    - Ideal.ofBits .f32 0x3F000000#32 * (1 - l) * Ideal.tanh (Ideal.ofBits .f32 0x3F000000#32 * p)

/-- The logarithm as the kernel writes it, the gate held above a floor. -/
def logTanh (c l p : EReal) : EReal :=
  Ideal.log (max (Ideal.ofBits .f32 0x3F000000#32 * (1 + l)
    + Ideal.ofBits .f32 0x3F000000#32 * (1 - l) * Ideal.tanh (Ideal.ofBits .f32 0x3F000000#32 * p))
      (Ideal.ofBits .f32 0x0D800000#32)) * c

theorem floor_eq : Ideal.ofBits .f32 0x0D800000#32 = (((2 : ℝ) ^ 100)⁻¹ : ℝ) := by
  simp [Ideal.ofBits, Ideal.ieee, -EReal.coe_mul]
  norm_num

theorem two_eq : Ideal.ofBits .f32 0x40000000#32 = ((2 : ℝ) : EReal) := by
  simp [Ideal.ofBits, Ideal.ieee, -EReal.coe_mul]
  norm_num

theorem half_add_tanh (a : ℝ) : 1 / 2 + 1 / 2 * Real.tanh (1 / 2 * a) = (1 + Real.exp (-a))⁻¹ := by
  have h1 : Real.exp (-a) = Real.exp (-(1 / 2 * a)) * Real.exp (-(1 / 2 * a)) := by rw [← Real.exp_add]; ring_nf
  have h2 : Real.exp (1 / 2 * a) * Real.exp (-(1 / 2 * a)) = 1 := by rw [← Real.exp_add]; simp
  rw [Real.tanh_eq_sinh_div_cosh, Real.sinh_eq, Real.cosh_eq, h1]
  have hp := Real.exp_pos (1 / 2 * a)
  have hq := Real.exp_pos (-(1 / 2 * a))
  set p := Real.exp (1 / 2 * a)
  set q := Real.exp (-(1 / 2 * a))
  have hs : 1 + q * q = q * (p + q) := by rw [mul_add, mul_comm q p, h2]
  rw [hs]
  field_simp
  linear_combination 2 * h2

theorem logistic_bounds (a : ℝ) : 0 < (1 + Real.exp (-a))⁻¹ ∧ (1 + Real.exp (-a))⁻¹ < 1 := by
  have h := Real.exp_pos (-a)
  exact ⟨by positivity, inv_lt_one_of_one_lt₀ (by linarith)⟩

/-- Both spellings of the complement agree at finite arguments. -/
theorem keepTanh_eq {l p : EReal} : IsReal l → IsReal p → keepTanh l p = keep l p := by
  rintro ⟨l, rfl⟩ ⟨p, rfl⟩
  have h : Ideal.div 1 (1 + Ideal.exp (- -(p : EReal))) = (((1 + Real.exp (- -p))⁻¹ : ℝ) : EReal) := Ideal.logistic_coe (-p)
  have e := half_add_tanh (-p)
  rw [show 1 / 2 * -p = -(1 / 2 * p) by ring, Real.tanh_neg] at e
  rw [keepTanh, keep, h, half_eq, ← EReal.coe_mul, Ideal.tanh_coe, ← EReal.coe_one, ← EReal.coe_sub, ← EReal.coe_mul,
    ← EReal.coe_mul, ← EReal.coe_mul, ← EReal.coe_sub, ← e]
  congr 1
  ring

/-- The gate as the kernel writes it is the gate, and the floor does not bite. -/
theorem gate_eq {l : ℝ} (hl : ((2 : ℝ) ^ 100)⁻¹ ≤ l) (p : ℝ) :
    max (1 / 2 * (1 + l) + 1 / 2 * (1 - l) * Real.tanh (1 / 2 * p)) (((2 : ℝ) ^ 100)⁻¹)
      = l + (1 - l) * (1 + Real.exp (-p))⁻¹ := by
  obtain ⟨h0, h1⟩ := logistic_bounds p
  have e := half_add_tanh p
  have e1 : 1 / 2 * (1 + l) + 1 / 2 * (1 - l) * Real.tanh (1 / 2 * p) = l + (1 - l) * (1 + Real.exp (-p))⁻¹ := by
    rw [← e]; ring
  rw [e1]
  refine max_eq_left ?_
  set s := (1 + Real.exp (-p))⁻¹
  have hf : ((2 : ℝ) ^ 100)⁻¹ ≤ 1 := by norm_num
  nlinarith

/-- The gate is positive. -/
theorem gate_pos {l : ℝ} (hl : ((2 : ℝ) ^ 100)⁻¹ ≤ l) (p : ℝ) : 0 < l + (1 - l) * (1 + Real.exp (-p))⁻¹ := by
  obtain ⟨h0, h1⟩ := logistic_bounds p
  have : (0 : ℝ) < ((2 : ℝ) ^ 100)⁻¹ := by positivity
  set s := (1 + Real.exp (-p))⁻¹
  nlinarith

/-- Both spellings of the logarithm agree, and it is finite. -/
theorem logTanh_eq {c l p : EReal} (hc : c = ((Real.log 2)⁻¹ : ℝ)) (hr : IsReal l)
    (hl : Ideal.ofBits .f32 0x0D800000#32 ≤ l) (hp : IsReal p) :
    logTanh c l p = logGate l p ∧ IsReal (logTanh c l p) := by
  obtain ⟨l, rfl⟩ := hr
  obtain ⟨p, rfl⟩ := hp
  rw [floor_eq, EReal.coe_le_coe_iff] at hl
  have h : Ideal.div 1 (1 + Ideal.exp (-(p : EReal))) = (((1 + Real.exp (-p))⁻¹ : ℝ) : EReal) := Ideal.logistic_coe p
  have hg := gate_pos hl p
  have e : logTanh c l p = ((Real.log (l + (1 - l) * (1 + Real.exp (-p))⁻¹) * (Real.log 2)⁻¹ : ℝ) : EReal) := by
    rw [logTanh, hc, floor_eq, half_eq, ← EReal.coe_mul, Ideal.tanh_coe, ← EReal.coe_one, ← EReal.coe_sub, ← EReal.coe_add,
      ← EReal.coe_mul, ← EReal.coe_mul, ← EReal.coe_mul, ← EReal.coe_add, ← EReal.coe_strictMono.monotone.map_max, gate_eq hl, Ideal.log_coe,
      if_neg (not_le.mpr hg), ← EReal.coe_mul]
  refine ⟨?_, e ▸ ⟨_, rfl⟩⟩
  have h2 : Real.log 2 ≠ 0 := (Real.log_pos one_lt_two).ne'
  rw [e, logGate, h, two_eq, ← EReal.coe_one, ← EReal.coe_sub, ← EReal.coe_mul, ← EReal.coe_add, Ideal.log_coe, Ideal.log_coe,
    if_neg (not_le.mpr hg), if_neg (by norm_num), Ideal.div_coe h2, ← EReal.coe_mul, one_div]

end Cert.Proof.Gate
-- ==== Proof.ProjReference.lean ====
/- What the reference of the projections for the gated scan computes, at one entry. -/
module

public import proofs.«01_k».proof.Proof.WindowSum
public import proofs.«01_k».proof.Proof.Gate
public import proofs.«01_k».proof.Proof.Gen.ProjReferenceIdeal

@[expose] public section

set_option maxRecDepth 16384

noncomputable section

namespace Cert.ProjReferenceIdeal.Val

open Idealize.ShloMosaic Cert.ProjReferenceIdeal Cert.ProjReferenceIdeal.Gen Cert.Proof.Mix Cert.Proof.Gate

/-- The modulated norm. -/
abbrev hRef (x : FVec Ideal S4x8192x1024 .f32) (n : FVec Ideal S1x1024 .f32) (sc sh : FVec Ideal S4x1x1024 .f32) :
    FVec Ideal S4x8192x1024 .f32 :=
  addf (mulf (mulf (mulf x (broadcastInDim S4x8192x1024 ![0, 1, 2] bcast_S4x8192x1_S4x8192x1024_0_1_2
      (Host.rsqrt (addf (Host.divf (broadcastInDim S4x8192x1 ![0, 1] bcast_S4x8192_S4x8192x1_0_1
          (Host.reduceAdd (mulf x x) (constant S_ .f32 0x00000000#32) reducesTo_S4x8192x1024_S4x8192_d2 h_S_))
          (broadcastInDim S4x8192x1 ![] bcast_S_S4x8192x1 (constant S_ .f32 0x44800000#32)))
        (broadcastInDim S4x8192x1 ![] bcast_S_S4x8192x1 (constant S_ .f32 0x358637BD#32))))))
      (broadcastInDim S4x8192x1024 ![0, 1, 2] bcast_S1x1x1024_S4x8192x1024_0_1_2
        (broadcastInDim S1x1x1024 ![1, 2] bcast_S1x1024_S1x1x1024_1_2 n)))
      (broadcastInDim S4x8192x1024 ![0, 1, 2] bcast_S4x1x1024_S4x8192x1024_0_1_2
        (addf (broadcastInDim S4x1x1024 ![] bcast_S_S4x1x1024 (constant S_ .f32 0x3F800000#32)) sc)))
    (broadcastInDim S4x8192x1024 ![0, 1, 2] bcast_S4x1x1024_S4x8192x1024_0_1_2 sh)

/-- The five projections, one beside the other. -/
abbrev zRef (h : FVec Ideal S4x8192x1024 .f32) (w : FVec Ideal S1024x5120 .bf16) : FVec Ideal S4x8192x5120 .f32 :=
  Host.dotGeneral dot_S4x8192x1024_S1024x5120_S4x8192x5120_2_0_01_1_n_n none h (extf .f32 w bitsLt_bf16_f32)

/-- The activation of the queries and of the gate. -/
abbrev siluRef (z : FVec Ideal S4x8192x1024 .f32) : FVec Ideal S4x8192x1024 .bf16 :=
  truncf .bf16 (mulf z (Host.divf (broadcastInDim S4x8192x1024 ![] bcast_S_S4x8192x1024 (constant S_ .f32 0x3F800000#32))
    (addf (broadcastInDim S4x8192x1024 ![] bcast_S_S4x8192x1024 (constant S_ .f32 0x3F800000#32))
      (Host.exp (Host.negf z))))) bitsLt_bf16_f32

/-- The queries. -/
abbrev qRef (z : FVec Ideal S4x8192x5120 .f32) : FVec Ideal S4x8192x1024 .bf16 :=
  siluRef (extractStridedSlice S4x8192x1024 ![0, 0, 0] z slices_S4x8192x5120_S4x8192x1024_0_0_0)

/-- The values. -/
abbrev vRef (z : FVec Ideal S4x8192x5120 .f32) : FVec Ideal S4x8192x1024 .bf16 :=
  truncf .bf16 (extractStridedSlice S4x8192x1024 ![0, 0, 1024] z slices_S4x8192x5120_S4x8192x1024_0_0_1024) bitsLt_bf16_f32

/-- The gate of the output. -/
abbrev gateRef (z : FVec Ideal S4x8192x5120 .f32) : FVec Ideal S4x8192x1024 .bf16 :=
  siluRef (extractStridedSlice S4x8192x1024 ![0, 0, 2048] z slices_S4x8192x5120_S4x8192x1024_0_0_2048)

/-- The two directions' forget gates before the activation. -/
abbrev preRef (z : FVec Ideal S4x8192x5120 .f32) : FVec Ideal S2x4x8192x1024 .f32 :=
  concatenate S2x4x8192x1024 0
    [⟨S1x4x8192x1024, broadcastInDim S1x4x8192x1024 ![1, 2, 3] bcast_S4x8192x1024_S1x4x8192x1024_1_2_3
        (extractStridedSlice S4x8192x1024 ![0, 0, 3072] z slices_S4x8192x5120_S4x8192x1024_0_0_3072)⟩,
      ⟨S1x4x8192x1024, broadcastInDim S1x4x8192x1024 ![1, 2, 3] bcast_S4x8192x1024_S1x4x8192x1024_1_2_3
        (extractStridedSlice S4x8192x1024 ![0, 0, 4096] z slices_S4x8192x5120_S4x8192x1024_0_0_4096)⟩]
    concatenates_S1x4x8192x1024_S1x4x8192x1024_S2x4x8192x1024_d0

/-- The lower bounds, with an axis for the tokens. -/
abbrev lbRef (lb : FVec Ideal S2x1x1024 .f32) : FVec Ideal S2x1x1x1024 .f32 :=
  broadcastInDim S2x1x1x1024 ![0, 1, 3] bcast_S2x1x1024_S2x1x1x1024_0_1_3 lb

/-- One minus the lower bounds, over the tokens. -/
abbrev restRef (lb : FVec Ideal S2x1x1024 .f32) : FVec Ideal S2x4x8192x1024 .f32 :=
  broadcastInDim S2x4x8192x1024 ![0, 1, 2, 3] bcast_S2x1x1x1024_S2x4x8192x1024_0_1_2_3
    (subf (broadcastInDim S2x1x1x1024 ![] bcast_S_S2x1x1x1024 (constant S_ .f32 0x3F800000#32)) (lbRef lb))

/-- The logistic function. -/
abbrev logisticRef (a : FVec Ideal S2x4x8192x1024 .f32) : FVec Ideal S2x4x8192x1024 .f32 :=
  Host.divf (broadcastInDim S2x4x8192x1024 ![] bcast_S_S2x4x8192x1024 (constant S_ .f32 0x3F800000#32))
    (addf (broadcastInDim S2x4x8192x1024 ![] bcast_S_S2x4x8192x1024 (constant S_ .f32 0x3F800000#32))
      (Host.exp (Host.negf a)))

/-- The keys of the scan: one minus the forget gate. -/
abbrev kkRef (z : FVec Ideal S4x8192x5120 .f32) (lb : FVec Ideal S2x1x1024 .f32) : FVec Ideal S2x4x8192x1024 .bf16 :=
  truncf .bf16 (mulf (restRef lb) (logisticRef (Host.negf (preRef z)))) bitsLt_bf16_f32

/-- The logarithm of the forget gate, in base two. -/
abbrev logRef (z : FVec Ideal S4x8192x5120 .f32) (lb : FVec Ideal S2x1x1024 .f32) : FVec Ideal S2x4x8192x1024 .f32 :=
  Host.divf (Host.log (addf (broadcastInDim S2x4x8192x1024 ![0, 1, 2, 3] bcast_S2x1x1x1024_S2x4x8192x1024_0_1_2_3 (lbRef lb))
      (mulf (restRef lb) (logisticRef (preRef z)))))
    (broadcastInDim S2x4x8192x1024 ![] bcast_S_S2x4x8192x1024 (Host.log (constant S_ .f32 0x40000000#32)))

/-- The running sums of a chunk, from its first token. -/
abbrev fwdRef (x : FVec Ideal S4x128x64x1024 .f32) : FVec Ideal S4x128x64x1024 .f32 :=
  Host.reduceWindowAdd ![1, 1, 64, 1] ![1, 1, 1, 1] ![0, 0, 63, 0] ![0, 0, 0, 0] x
    (broadcastInDim S_ ![] bcast_S_S_ (constant S_ .f32 0x00000000#32))
    reduceWindows_S4x128x64x1024_S4x128x64x1024_w1s1p0_0_w1s1p0_0_w64s1p63_0_w1s1p0_0 h_S_

/-- The running sums of a chunk, from its last token. -/
abbrev bwdRef (x : FVec Ideal S4x128x64x1024 .f32) : FVec Ideal S4x128x64x1024 .f32 :=
  Host.reduceWindowAdd ![1, 1, 64, 1] ![1, 1, 1, 1] ![0, 0, 0, 0] ![0, 0, 63, 0] x
    (broadcastInDim S_ ![] bcast_S_S_ (constant S_ .f32 0x00000000#32))
    reduceWindows_S4x128x64x1024_S4x128x64x1024_w1s1p0_0_w1s1p0_0_w64s1p0_63_w1s1p0_0 h_S_

/-- The running sums of both directions. -/
abbrev cumRef (l : FVec Ideal S2x4x8192x1024 .f32) : FVec Ideal S2x4x8192x1024 .f32 :=
  shapeCast S2x4x8192x1024 (concatenate S2x4x128x64x1024 0
    [⟨S1x4x128x64x1024, broadcastInDim S1x4x128x64x1024 ![1, 2, 3, 4] bcast_S4x128x64x1024_S1x4x128x64x1024_1_2_3_4
        (fwdRef (shapeCast S4x128x64x1024 (extractStridedSlice S1x4x128x64x1024 ![0, 0, 0, 0, 0]
            (shapeCast S2x4x128x64x1024 l shapeCasts_S2x4x8192x1024_S2x4x128x64x1024)
            slices_S2x4x128x64x1024_S1x4x128x64x1024_0_0_0_0_0) shapeCasts_S1x4x128x64x1024_S4x128x64x1024))⟩,
      ⟨S1x4x128x64x1024, broadcastInDim S1x4x128x64x1024 ![1, 2, 3, 4] bcast_S4x128x64x1024_S1x4x128x64x1024_1_2_3_4
        (bwdRef (shapeCast S4x128x64x1024 (extractStridedSlice S1x4x128x64x1024 ![1, 0, 0, 0, 0]
            (shapeCast S2x4x128x64x1024 l shapeCasts_S2x4x8192x1024_S2x4x128x64x1024)
            slices_S2x4x128x64x1024_S1x4x128x64x1024_1_0_0_0_0) shapeCasts_S1x4x128x64x1024_S4x128x64x1024))⟩]
    concatenates_S1x4x128x64x1024_S1x4x128x64x1024_S2x4x128x64x1024_d0) shapeCasts_S2x4x128x64x1024_S2x4x8192x1024

theorem hRef_at (x : FVec Ideal S4x8192x1024 .f32) (n : FVec Ideal S1x1024 .f32) (sc sh : FVec Ideal S4x1x1024 .f32)
    (b : Fin 4) (t : Fin 8192) (d : Fin 1024) :
    hRef x n sc sh (ix3 b t d)
      = hRow (fun k => x (ix3 b t k)) (fun k => n (ix2 0 k)) (fun k => sc (ix3 b 0 k)) (fun k => sh (ix3 b 0 k)) d := by
  pointwise [hRef, hRow]

theorem zRef_at (h : FVec Ideal S4x8192x1024 .f32) (w : FVec Ideal S1024x5120 .bf16)
    (b : Fin 4) (t : Fin 8192) (d : Fin 5120) :
    zRef h w (ix3 b t d) = ∑ k, h (ix3 b t k) * w (ix2 k d) := by
  pointwise [zRef]

theorem qRef_at (z : FVec Ideal S4x8192x5120 .f32) (b : Fin 4) (t : Fin 8192) (d : Fin 1024) :
    qRef z (ix3 b t d) = silu (z (ix3 b t ⟨d, by omega⟩)) := by
  pointwise [qRef, silu]

theorem vRef_at (z : FVec Ideal S4x8192x5120 .f32) (b : Fin 4) (t : Fin 8192) (d : Fin 1024) :
    vRef z (ix3 b t d) = z (ix3 b t ⟨1024 + d, by omega⟩) := by
  pointwise [vRef]

theorem gateRef_at (z : FVec Ideal S4x8192x5120 .f32) (b : Fin 4) (t : Fin 8192) (d : Fin 1024) :
    gateRef z (ix3 b t d) = silu (z (ix3 b t ⟨2048 + d, by omega⟩)) := by
  pointwise [gateRef, silu]

theorem preRef_fwd (z : FVec Ideal S4x8192x5120 .f32) (b : Fin 4) (t : Fin 8192) (d : Fin 1024) :
    preRef z (ix4 0 b t d) = z (ix3 b t ⟨3072 + d, by omega⟩) := by
  pointwise [preRef]

theorem preRef_bwd (z : FVec Ideal S4x8192x5120 .f32) (b : Fin 4) (t : Fin 8192) (d : Fin 1024) :
    preRef z (ix4 1 b t d) = z (ix3 b t ⟨4096 + d, by omega⟩) := by
  pointwise [preRef]

theorem kkRef_at (z : FVec Ideal S4x8192x5120 .f32) (lb : FVec Ideal S2x1x1024 .f32) (e : Fin 2) (b : Fin 4) (t : Fin 8192) (d : Fin 1024) :
    kkRef z lb (ix4 e b t d) = keep (lb (ix3 e 0 d)) (preRef z (ix4 e b t d)) := by
  unfold kkRef
  generalize preRef z = p
  pointwise [keep]

theorem logRef_at (z : FVec Ideal S4x8192x5120 .f32) (lb : FVec Ideal S2x1x1024 .f32) (e : Fin 2) (b : Fin 4) (t : Fin 8192) (d : Fin 1024) :
    logRef z lb (ix4 e b t d) = logGate (lb (ix3 e 0 d)) (preRef z (ix4 e b t d)) := by
  unfold logRef
  generalize preRef z = p
  pointwise [logGate]

theorem fwdRef_at (x : FVec Ideal S4x128x64x1024 .f32) (b : Fin 4) (j : Fin 128) (r : Fin 64) (d : Fin 1024) :
    fwdRef x (ix4 b j r d) = ∑ k : Fin 64, if (k : ℕ) ≤ r then x (ix4 b j k d) else 0 :=
  Cert.Proof.Window.forward x _ _ reduceWindows_S4x128x64x1024_S4x128x64x1024_w1s1p0_0_w1s1p0_0_w64s1p63_0_w1s1p0_0 h_S_ (by pointwise) b j r d

theorem bwdRef_at (x : FVec Ideal S4x128x64x1024 .f32) (b : Fin 4) (j : Fin 128) (r : Fin 64) (d : Fin 1024) :
    bwdRef x (ix4 b j r d) = ∑ k : Fin 64, if (r : ℕ) ≤ k then x (ix4 b j k d) else 0 :=
  Cert.Proof.Window.backward x _ _ reduceWindows_S4x128x64x1024_S4x128x64x1024_w1s1p0_0_w1s1p0_0_w64s1p0_63_w1s1p0_0 h_S_ (by pointwise) b j r d

theorem cumRef_fwd (l : FVec Ideal S2x4x8192x1024 .f32) (b : Fin 4) (j : Fin 128) (r : Fin 64) (d : Fin 1024) :
    cumRef l (ix4 0 b ⟨j * 64 + r, by omega⟩ d)
      = ∑ k : Fin 64, if (k : ℕ) ≤ r then l (ix4 0 b ⟨j * 64 + k, by omega⟩ d) else 0 := by
  refine Eq.trans (b := fwdRef (shapeCast S4x128x64x1024 (extractStridedSlice S1x4x128x64x1024 ![0, 0, 0, 0, 0]
            (shapeCast S2x4x128x64x1024 l shapeCasts_S2x4x8192x1024_S2x4x128x64x1024)
            slices_S2x4x128x64x1024_S1x4x128x64x1024_0_0_0_0_0) shapeCasts_S1x4x128x64x1024_S4x128x64x1024) (ix4 b j r d)) ?_
    ((fwdRef_at _ b j r d).trans (Finset.sum_congr rfl fun k _ => ?_))
  · unfold cumRef
    generalize fwdRef _ = u
    generalize bwdRef _ = v
    pointwise
  · congr 1
    pointwise

theorem cumRef_bwd (l : FVec Ideal S2x4x8192x1024 .f32) (b : Fin 4) (j : Fin 128) (r : Fin 64) (d : Fin 1024) :
    cumRef l (ix4 1 b ⟨j * 64 + r, by omega⟩ d)
      = ∑ k : Fin 64, if (r : ℕ) ≤ k then l (ix4 1 b ⟨j * 64 + k, by omega⟩ d) else 0 := by
  refine Eq.trans (b := bwdRef (shapeCast S4x128x64x1024 (extractStridedSlice S1x4x128x64x1024 ![1, 0, 0, 0, 0]
            (shapeCast S2x4x128x64x1024 l shapeCasts_S2x4x8192x1024_S2x4x128x64x1024)
            slices_S2x4x128x64x1024_S1x4x128x64x1024_1_0_0_0_0) shapeCasts_S1x4x128x64x1024_S4x128x64x1024) (ix4 b j r d)) ?_
    ((bwdRef_at _ b j r d).trans (Finset.sum_congr rfl fun k _ => ?_))
  · unfold cumRef
    generalize fwdRef _ = u
    generalize bwdRef _ = v
    pointwise
  · congr 1
    pointwise

end Cert.ProjReferenceIdeal.Val
-- ==== Proof.ProjValue.lean ====
/- What the kernel of the projections for the gated scan computes. -/
module

public import proofs.«01_k».proof.Proof.ProjReference
public import proofs.«01_k».proof.Proof.Gen.ProjIdeal.Frame

@[expose] public section

set_option maxRecDepth 16384

noncomputable section

namespace Cert.ProjIdeal.Val

open Idealize.ShloMosaic Idealize.ShloMosaic.TcCoe Idealize.SL.Sem Cert.ProjIdeal Cert.ProjIdeal.Gen Cert.Proof.Mix Cert.Proof.Gate
open Idealize.ShloMosaic.Pipeline (Dat)

theorem log2e_eq : (Named.named κ "log2e" 0x3FB8AA3B#32 : Ideal .f32) = ((Real.log 2)⁻¹ : ℝ) :=
  IdealRules.named_const.ideal_named_scalar _ _ _ _ rfl

theorem cmp_le : ∀ a b : Fin 64, IntOp.cmpi .sle (BitVec.ofNat 32 a.val) (BitVec.ofNat 32 b.val)
    = if a.val ≤ b.val then 1#1 else 0#1 := by decide +kernel

theorem cmp_ge : ∀ a b : Fin 64, IntOp.cmpi .sge (BitVec.ofNat 32 a.val) (BitVec.ofNat 32 b.val)
    = if b.val ≤ a.val then 1#1 else 0#1 := by decide +kernel

/-- A zero or one read as a number. -/
theorem bit_eq (p : Prop) [Decidable p] : (FloatOps.uitofp .bf16 (if p then 1#1 else 0#1 : BitVec 1) : Ideal .bf16)
    = (if p then 1 else 0 : EReal) := by
  by_cases h : p <;> simp [FloatOps.uitofp, h]

section
variable (m : (ℓ : Loc nD τ sig) → Buf (Elt Ideal) ℓ)

/-- The two triangles, each twice side by side. -/
abbrev triHost : FVec Ideal S2x64x128 .bf16 :=
  let a : IVec S2x64x64 1 := concatenate S2x64x64 0
    [⟨S1x64x64, broadcastInDim S1x64x64 ![1, 2] bcast_S64x64_S1x64x64_1_2 (cmpi .sle (iotaInDim S64x64 32 1) (iotaInDim S64x64 32 0))⟩,
      ⟨S1x64x64, broadcastInDim S1x64x64 ![1, 2] bcast_S64x64_S1x64x64_1_2 (cmpi .sge (iotaInDim S64x64 32 1) (iotaInDim S64x64 32 0))⟩]
    concatenates_S1x64x64_S1x64x64_S2x64x64_d0
  uitofp .bf16 (concatenate S2x64x128 2 [⟨S2x64x64, a⟩, ⟨S2x64x64, a⟩] concatenates_S2x64x64_S2x64x64_S2x64x128_d2)

theorem V_tri (c : Dev nD) : V m c main_v8 = triHost := by
  show StableHlo.after hostOps0 _ (Proc.devRef .tc main_v8) = _
  after_results

theorem tri_fwd (i k : Fin 64) : triHost (ix3 0 i ⟨k, by omega⟩) = (if (k : ℕ) ≤ i then 1 else 0 : EReal) := by
  rw [← bit_eq, ← cmp_le]
  pointwise [triHost]

theorem tri_bwd (i k : Fin 64) : triHost (ix3 1 i ⟨k, by omega⟩) = (if (i : ℕ) ≤ k then 1 else 0 : EReal) := by
  rw [← bit_eq, ← cmp_ge]
  pointwise [triHost]

end

/-- The modulated norm of a row of the block. -/
theorem h_at (x : Vec Ideal S1x512x1024 .f32) (n : Vec Ideal S1x1024 .f32) (sc sh : Vec Ideal S1x1x1024 .f32) (r : Fin 512) (d : Fin 1024) :
    k0_pay3 x n sc sh (ix2 r d) = hRow (fun k => x (ix3 0 r k)) (fun k => n (ix2 0 k)) (fun k => sc (ix3 0 0 k)) (fun k => sh (ix3 0 0 k)) d := by
  pointwise [k0_pay3, hRow]

theorem keep_at (z : FVec Ideal S512x1024 .f32) (lb : Vec Ideal S1x1x1024 .f32) (r : Fin 512) (d : Fin 1024) :
    k0_pay10 z (k0_pay6 lb) k0_pay7 (ix4 0 0 r d) = keepTanh (lb (ix3 0 0 d)) (z (ix2 r d)) := by
  pointwise [k0_pay10, k0_pay8, k0_pay9, k0_pay6, k0_pay7, keepTanh]

theorem log_at (z : FVec Ideal S512x1024 .f32) (lb : Vec Ideal S1x1x1024 .f32) (r : Fin 512) (d : Fin 1024) :
    k0_pay12 z (k0_pay6 lb) k0_pay7 (ix2 r d)
      = logTanh (Named.named κ "log2e" 0x3FB8AA3B#32 : Ideal .f32) (lb (ix3 0 0 d)) (z (ix2 r d)) := by
  pointwise [k0_pay12, k0_pay11, k0_pay8, k0_pay9, k0_pay6, k0_pay7, logTanh]

theorem rest_at (z : FVec Ideal S512x1024 .f32) (lb : Vec Ideal S1x1x1024 .f32) (r : Fin 512) (d : Fin 1024) :
    k0_pay13 z (k0_pay6 lb) k0_pay7 (ix2 r d)
      = k0_pay12 z (k0_pay6 lb) k0_pay7 (ix2 r d) - k0_pay12 z (k0_pay6 lb) k0_pay7 (ix2 r d) := by
  unfold k0_pay13 k0_pay12
  generalize k0_pay11 z (k0_pay6 lb) k0_pay7 = w
  pointwise

/-- A row and a column of the block of running sums: the triangle times the two parts of the logarithms of a chunk. -/
def chunkSum (hi lo : FVec Ideal S512x1024 .bf16) (tri : Vec Ideal S1x64x128 .bf16) (c : Fin 8) (i : Fin 64) (d : Fin 1024) : EReal :=
  (∑ k : Fin 64, tri (ix3 0 i ⟨k, by omega⟩) * hi (ix2 ⟨c * 64 + k, by omega⟩ d))
    + ∑ k : Fin 64, tri (ix3 0 i ⟨64 + k, by omega⟩) * lo (ix2 ⟨c * 64 + k, by omega⟩ d)

section
variable (hi lo : FVec Ideal S512x1024 .bf16) (tri : Vec Ideal S1x64x128 .bf16) (i : Fin 64) (d : Fin 1024)

theorem chunk0 : k0_pay32 hi lo tri (ix4 0 0 i d) = chunkSum hi lo tri 0 i d := by
  pointwise [k0_pay32, chunkSum]

theorem chunk1 : k0_pay33 hi lo tri (ix4 0 0 i d) = chunkSum hi lo tri 1 i d := by
  pointwise [k0_pay33, chunkSum]

theorem chunk2 : k0_pay34 hi lo tri (ix4 0 0 i d) = chunkSum hi lo tri 2 i d := by
  pointwise [k0_pay34, chunkSum]

theorem chunk3 : k0_pay36 (k0_pay35 hi lo) tri (ix4 0 0 i d) = chunkSum hi lo tri 3 i d := by
  pointwise [k0_pay36, k0_pay35, chunkSum]

theorem chunk4 : k0_pay37 hi lo tri (ix4 0 0 i d) = chunkSum hi lo tri 4 i d := by
  pointwise [k0_pay37, chunkSum]

theorem chunk5 : k0_pay38 hi lo tri (ix4 0 0 i d) = chunkSum hi lo tri 5 i d := by
  pointwise [k0_pay38, chunkSum]

theorem chunk6 : k0_pay40 (k0_pay39 hi lo tri) (ix4 0 0 i d) = chunkSum hi lo tri 6 i d := by
  pointwise [k0_pay40, k0_pay39, chunkSum]

theorem chunk7 : k0_pay41 hi lo tri (ix4 0 0 i d) = chunkSum hi lo tri 7 i d := by
  pointwise [k0_pay41, chunkSum]

end

/-- The chunk of a row of the block. -/
def chunkOf (r : Fin 512) : Fin 8 := ⟨r / 64, by omega⟩

/-- The place of a row in its chunk. -/
def inChunk (r : Fin 512) : Fin 64 := ⟨r % 64, by omega⟩

theorem chunk_fst (hi lo : FVec Ideal S512x1024 .bf16) (tri : Vec Ideal S1x64x128 .bf16) (w : EReal) (c : ℕ) (hc : c < 8)
    (i : Fin 64) (d : Fin 1024) (a : ℕ) (r : Fin 512) (d' : Fin 1024) (h0 : a = 0) (h2 : (r : ℕ) = c * 64 + i) (h3 : (d' : ℕ) = d) :
    chunkSum hi lo tri ⟨c, hc⟩ i d = if a = 0 then chunkSum hi lo tri (chunkOf r) (inChunk r) d' else w := by
  have e1 : chunkOf r = ⟨c, hc⟩ := Fin.ext (by simp only [chunkOf]; omega)
  have e2 : inChunk r = i := Fin.ext (by simp only [inChunk]; omega)
  have e3 : d' = d := Fin.ext h3
  rw [if_pos h0, e1, e2, e3]

theorem chunk_snd (hi lo : FVec Ideal S512x1024 .bf16) (tri : Vec Ideal S1x64x128 .bf16) (w : EReal) (c : ℕ) (hc : c < 8)
    (i : Fin 64) (d : Fin 1024) (a : ℕ) (r : Fin 512) (d' : Fin 1024) (h0 : a = 1) (h2 : (r : ℕ) = c * 64 + i) (h3 : (d' : ℕ) = d) :
    chunkSum hi lo tri ⟨c, hc⟩ i d = if a = 0 then w else chunkSum hi lo tri (chunkOf r) (inChunk r) d' := by
  have e1 : chunkOf r = ⟨c, hc⟩ := Fin.ext (by simp only [chunkOf]; omega)
  have e2 : inChunk r = i := Fin.ext (by simp only [inChunk]; omega)
  have e3 : d' = d := Fin.ext h3
  rw [if_neg (by omega), e1, e2, e3]

/-- The running sums of both directions, stored chunk by chunk. -/
theorem chunks_at (hi0 lo0 hi1 lo1 : FVec Ideal S512x1024 .bf16) (tri0 tri1 : Vec Ideal S1x64x128 .bf16) (y : S2x1x512x1024.Idx) :
    (View.canon [⟨r0_27, k0_pay41 hi1 lo1 tri1⟩,
      ⟨r0_26, k0_pay40 (k0_pay39 hi1 lo1 tri1)⟩,
      ⟨r0_25, k0_pay38 hi1 lo1 tri1⟩,
      ⟨r0_24, k0_pay37 hi1 lo1 tri1⟩,
      ⟨r0_23, k0_pay36 (k0_pay35 hi1 lo1) tri1⟩,
      ⟨r0_22, k0_pay34 hi1 lo1 tri1⟩,
      ⟨r0_21, k0_pay33 hi1 lo1 tri1⟩,
      ⟨r0_20, k0_pay32 hi1 lo1 tri1⟩,
      ⟨r0_15, k0_pay41 hi0 lo0 tri0⟩,
      ⟨r0_14, k0_pay40 (k0_pay39 hi0 lo0 tri0)⟩,
      ⟨r0_13, k0_pay38 hi0 lo0 tri0⟩,
      ⟨r0_12, k0_pay37 hi0 lo0 tri0⟩,
      ⟨r0_11, k0_pay36 (k0_pay35 hi0 lo0) tri0⟩,
      ⟨r0_10, k0_pay34 hi0 lo0 tri0⟩,
      ⟨r0_9, k0_pay33 hi0 lo0 tri0⟩,
      ⟨r0_8, k0_pay32 hi0 lo0 tri0⟩] : Vec Ideal S2x1x512x1024 .f32) y
      = if (y 0 : ℕ) = 0 then chunkSum hi0 lo0 tri0 (chunkOf (y 2)) (inChunk (y 2)) (y 3)
        else chunkSum hi1 lo1 tri1 (chunkOf (y 2)) (inChunk (y 2)) (y 3) := by
  canon_tiles u h
  all_goals idx_vars u
  all_goals
    have e0 : u0 = 0 := Subsingleton.elim _ _
    have e1 : u1 = 0 := Subsingleton.elim _ _
    subst e0 e1
  · exact (chunk7 _ _ _ _ _).trans (chunk_snd _ _ _ _ 7 (by decide) _ _ _ _ _ (by simpa using h0) (by omega) h3)
  · exact (chunk6 _ _ _ _ _).trans (chunk_snd _ _ _ _ 6 (by decide) _ _ _ _ _ (by simpa using h0) (by omega) h3)
  · exact (chunk5 _ _ _ _ _).trans (chunk_snd _ _ _ _ 5 (by decide) _ _ _ _ _ (by simpa using h0) (by omega) h3)
  · exact (chunk4 _ _ _ _ _).trans (chunk_snd _ _ _ _ 4 (by decide) _ _ _ _ _ (by simpa using h0) (by omega) h3)
  · exact (chunk3 _ _ _ _ _).trans (chunk_snd _ _ _ _ 3 (by decide) _ _ _ _ _ (by simpa using h0) (by omega) h3)
  · exact (chunk2 _ _ _ _ _).trans (chunk_snd _ _ _ _ 2 (by decide) _ _ _ _ _ (by simpa using h0) (by omega) h3)
  · exact (chunk1 _ _ _ _ _).trans (chunk_snd _ _ _ _ 1 (by decide) _ _ _ _ _ (by simpa using h0) (by omega) h3)
  · exact (chunk0 _ _ _ _ _).trans (chunk_snd _ _ _ _ 0 (by decide) _ _ _ _ _ (by simpa using h0) (by omega) h3)
  · exact (chunk7 _ _ _ _ _).trans (chunk_fst _ _ _ _ 7 (by decide) _ _ _ _ _ (by simpa using h0) (by omega) h3)
  · exact (chunk6 _ _ _ _ _).trans (chunk_fst _ _ _ _ 6 (by decide) _ _ _ _ _ (by simpa using h0) (by omega) h3)
  · exact (chunk5 _ _ _ _ _).trans (chunk_fst _ _ _ _ 5 (by decide) _ _ _ _ _ (by simpa using h0) (by omega) h3)
  · exact (chunk4 _ _ _ _ _).trans (chunk_fst _ _ _ _ 4 (by decide) _ _ _ _ _ (by simpa using h0) (by omega) h3)
  · exact (chunk3 _ _ _ _ _).trans (chunk_fst _ _ _ _ 3 (by decide) _ _ _ _ _ (by simpa using h0) (by omega) h3)
  · exact (chunk2 _ _ _ _ _).trans (chunk_fst _ _ _ _ 2 (by decide) _ _ _ _ _ (by simpa using h0) (by omega) h3)
  · exact (chunk1 _ _ _ _ _).trans (chunk_fst _ _ _ _ 1 (by decide) _ _ _ _ _ (by simpa using h0) (by omega) h3)
  · exact (chunk0 _ _ _ _ _).trans (chunk_fst _ _ _ _ 0 (by decide) _ _ _ _ _ (by simpa using h0) (by omega) h3)

section
variable (x0 : Vec Ideal S1x512x1024 .f32) (x1 : Vec Ideal S1x1024 .f32) (x2 x3 : Vec Ideal S1x1x1024 .f32)
  (x4 : Vec Ideal S1024x5120 .bf16) (x5 : Vec Ideal S2x1x1024 .f32) (x6 : Vec Ideal S2x64x128 .bf16)

/-- A row of the modulated norm. -/
def hAt (r : Fin 512) : Fin 1024 → EReal :=
  hRow (fun k => x0 (ix3 0 r k)) (fun k => x1 (ix2 0 k)) (fun k => x2 (ix3 0 0 k)) (fun k => x3 (ix3 0 0 k))

/-- A column of one of the five projections. -/
def col (o : Fin 5) (d : Fin 1024) : Fin 5120 := ⟨o * 1024 + d, by omega⟩

/-- The projection of a direction's forget gates. -/
def dirCol (e : Fin 2) : Fin 5 := ⟨3 + e, by omega⟩

/-- An entry of one of the five projections. -/
def zAt (r : Fin 512) (o : Fin 5) (d : Fin 1024) : EReal := ∑ k, hAt x0 x1 x2 x3 r k * x4 (ix2 k (col o d))

theorem h_ld (r : Fin 512) (d : Fin 1024) :
    k0_pay3 (View.ld x0 r0_0) (View.ld x1 r0_1) (View.ld x2 r0_2) (View.ld x3 r0_2) (ix2 r d)
      = hAt x0 x1 x2 x3 r d := by
  rw [h_at, hAt]
  congr 1
  all_goals (funext k; pointwise)

theorem fwd_at (r : Fin 512) (d : Fin 1024) :
    k0_pay46 x0 x1 x2 x3 x4 x5 x6 (ix2 r d) = zAt x0 x1 x2 x3 x4 r 3 d := by
  simp only [zAt, ← h_ld]
  unfold k0_pay46 k0_pay4
  generalize k0_pay3 (View.ld x0 r0_0) (View.ld x1 r0_1) (View.ld x2 r0_2) (View.ld x3 r0_2) = h
  pointwise [col]
  all_goals blk_point []

theorem bwd_at (r : Fin 512) (d : Fin 1024) :
    k0_pay47 x0 x1 x2 x3 x4 x5 x6 (ix2 r d) = zAt x0 x1 x2 x3 x4 r 4 d := by
  simp only [zAt, ← h_ld]
  unfold k0_pay47 k0_pay5
  generalize k0_pay3 (View.ld x0 r0_0) (View.ld x1 r0_1) (View.ld x2 r0_2) (View.ld x3 r0_2) = h
  pointwise [col]
  all_goals blk_point []

theorem q_at (r : Fin 512) (d : Fin 1024) :
    k0_pay24 (k0_pay45 x0 x1 x2 x3 x4 x5 x6) (View.ld x4 r0_16) (ix2 r d) = zAt x0 x1 x2 x3 x4 r 0 d := by
  simp only [zAt, ← h_ld]
  unfold k0_pay45 k0_pay24
  generalize k0_pay3 (View.ld x0 r0_0) (View.ld x1 r0_1) (View.ld x2 r0_2) (View.ld x3 r0_2) = h
  pointwise [col]
  all_goals blk_point []

theorem v_at (r : Fin 512) (d : Fin 1024) :
    k0_pay43 (k0_pay45 x0 x1 x2 x3 x4 x5 x6) (View.ld x4 r0_29) (ix2 r d) = zAt x0 x1 x2 x3 x4 r 1 d := by
  simp only [zAt, ← h_ld]
  unfold k0_pay45 k0_pay43
  generalize k0_pay3 (View.ld x0 r0_0) (View.ld x1 r0_1) (View.ld x2 r0_2) (View.ld x3 r0_2) = h
  pointwise [col]
  all_goals blk_point []

theorem gate_at (r : Fin 512) (d : Fin 1024) :
    k0_pay43 (k0_pay45 x0 x1 x2 x3 x4 x5 x6) (View.ld x4 r0_28) (ix2 r d) = zAt x0 x1 x2 x3 x4 r 2 d := by
  simp only [zAt, ← h_ld]
  unfold k0_pay45 k0_pay43
  generalize k0_pay3 (View.ld x0 r0_0) (View.ld x1 r0_1) (View.ld x2 r0_2) (View.ld x3 r0_2) = h
  pointwise [col]
  all_goals blk_point []

theorem silu_at (z : FVec Ideal S512x1024 .f32) (r : Fin 512) (d : Fin 1024) :
    k0_pay42 z (ix3 0 r d) = siluTanh (z (ix2 r d)) := by
  pointwise [k0_pay42, siluTanh]

/-- A block stored whole. -/
theorem whole_at (w : FVec Ideal S1x512x1024 .bf16) (y : S1x512x1024.Idx) :
    (View.canon [⟨r0_0, w⟩] : Vec Ideal S1x512x1024 .bf16) y = w y := by
  canon_tiles u h
  all_goals idx_vars u
  have e : y = ix3 u0 u1 u2 := by
    funext a
    apply Fin.ext
    fin_cases a
    · exact h0
    · exact h1
    · exact h2
  exact (congrArg w e).symm

theorem gate_pay (h : FVec Ideal S512x1024 .bf16) (w : Vec Ideal S1024x1024 .bf16) :
    k0_pay1 (k0_pay44 h w) = k0_pay42 (k0_pay43 h w) := rfl

theorem out7_at (y : S1x512x1024.Idx) :
    out0_7 x0 x1 x2 x3 x4 x5 x6 y = siluTanh (zAt x0 x1 x2 x3 x4 (y 1) 0 (y 2)) := by
  unfold out0_7
  idx_vars y
  have e0 : y0 = 0 := Subsingleton.elim _ _
  subst e0
  refine Eq.trans ?_ ((silu_at _ _ _).trans (congrArg siluTanh (q_at x0 x1 x2 x3 x4 x5 x6 y1 y2)))
  exact whole_at _ _

theorem out8_at (y : S1x512x1024.Idx) :
    out0_8 x0 x1 x2 x3 x4 x5 x6 y = zAt x0 x1 x2 x3 x4 (y 1) 1 (y 2) := by
  unfold out0_8
  idx_vars y
  refine Eq.trans ?_ (v_at x0 x1 x2 x3 x4 x5 x6 y1 y2)
  refine (whole_at _ _).trans ?_
  generalize k0_pay43 (F := Ideal) _ _ = w
  pointwise [k0_pay2]

theorem out9_at (y : S1x512x1024.Idx) :
    out0_9 x0 x1 x2 x3 x4 x5 x6 y = siluTanh (zAt x0 x1 x2 x3 x4 (y 1) 2 (y 2)) := by
  idx_vars y
  have e0 : y0 = 0 := Subsingleton.elim _ _
  subst e0
  refine Eq.trans ?_ ((silu_at _ _ _).trans (congrArg siluTanh (gate_at x0 x1 x2 x3 x4 x5 x6 y1 y2)))
  unfold out0_9
  rw [gate_pay]
  exact whole_at _ _

theorem lb_fwd (d : Fin 1024) : (View.ld x5 r0_5 : Vec Ideal S1x1x1024 .f32) (ix3 0 0 d) = x5 (ix3 0 0 d) := by
  show x5 _ = x5 _
  refine congrArg x5 ?_
  blk_ext []
  all_goals first | rfl | exact (Nat.zero_add _).trans (Nat.one_mul _)

theorem lb_bwd (d : Fin 1024) : (View.ld x5 r0_17 : Vec Ideal S1x1x1024 .f32) (ix3 0 0 d) = x5 (ix3 1 0 d) := by
  show x5 _ = x5 _
  refine congrArg x5 ?_
  blk_ext []
  all_goals first | rfl | exact (Nat.zero_add _).trans (Nat.one_mul _)

/-- The keys of both directions, stored one after the other. -/
theorem keeps_at (wb wf : FVec Ideal S1x1x512x1024 .bf16) (y : S2x1x512x1024.Idx) :
    (View.canon [⟨r0_18, wb⟩, ⟨r0_6, wf⟩] : Vec Ideal S2x1x512x1024 .bf16) y
      = if (y 0 : ℕ) = 0 then wf (ix4 0 0 (y 2) (y 3)) else wb (ix4 0 0 (y 2) (y 3)) := by
  canon_tiles u h
  all_goals idx_vars u
  all_goals
    have e0 : u0 = 0 := Subsingleton.elim _ _
    have e1 : u1 = 0 := Subsingleton.elim _ _
    subst e0 e1
  · refine Eq.trans ?_ (if_neg (by rw [h0]; simp)).symm
    exact congrArg wb (congrArg₂ (ix4 0 0) (Fin.ext h2.symm) (Fin.ext h3.symm))
  · refine Eq.trans ?_ (if_pos (by rw [h0]; simp)).symm
    exact congrArg wf (congrArg₂ (ix4 0 0) (Fin.ext h2.symm) (Fin.ext h3.symm))

/-- The keys of the scan, both directions. -/
theorem out10_at (e : Fin 2) (r : Fin 512) (d : Fin 1024) :
    out0_10 x0 x1 x2 x3 x4 x5 x6 (ix4 e 0 r d) = keepTanh (x5 (ix3 e 0 d)) (zAt x0 x1 x2 x3 x4 r (dirCol e) d) := by
  have hf := keep_at (k0_pay46 x0 x1 x2 x3 x4 x5 x6) (View.ld x5 r0_5) r d
  have hb := keep_at (k0_pay47 x0 x1 x2 x3 x4 x5 x6) (View.ld x5 r0_17) r d
  rw [fwd_at, lb_fwd] at hf
  rw [bwd_at, lb_bwd] at hb
  show (View.canon [⟨r0_18, k0_pay10 (k0_pay47 x0 x1 x2 x3 x4 x5 x6) (k0_pay6 (View.ld x5 r0_17)) k0_pay7⟩,
    ⟨r0_6, k0_pay10 (k0_pay46 x0 x1 x2 x3 x4 x5 x6) (k0_pay6 (View.ld x5 r0_5)) k0_pay7⟩] : Vec Ideal S2x1x512x1024 .bf16) (ix4 e 0 r d) = _
  generalize k0_pay10 (k0_pay47 x0 x1 x2 x3 x4 x5 x6) (k0_pay6 (View.ld x5 r0_17)) k0_pay7 = wb at hb ⊢
  generalize k0_pay10 (k0_pay46 x0 x1 x2 x3 x4 x5 x6) (k0_pay6 (View.ld x5 r0_5)) k0_pay7 = wf at hf ⊢
  have he : e = 0 ∨ e = 1 := by omega
  rcases he with rfl | rfl
  · exact (keeps_at wb wf _).trans ((if_pos rfl).trans hf)
  · exact (keeps_at wb wf _).trans ((if_neg (by simp)).trans hb)

/-- The logarithm of a forget gate. -/
def logAt (e : Fin 2) (r : Fin 512) (d : Fin 1024) : EReal :=
  logTanh (Named.named κ "log2e" 0x3FB8AA3B#32 : Ideal .f32) (x5 (ix3 e 0 d)) (zAt x0 x1 x2 x3 x4 r (dirCol e) d)

/-- The row at a place of a chunk. -/
def rowOf (c : Fin 8) (k : Fin 64) : Fin 512 := ⟨c * 64 + k, by omega⟩

/-- The running sums, both directions. -/
theorem out11_at (e : Fin 2) (r : Fin 512) (d : Fin 1024) :
    out0_11 x0 x1 x2 x3 x4 x5 x6 (ix4 e 0 r d)
      = (∑ k : Fin 64, x6 (ix3 e (inChunk r) ⟨k, by omega⟩) * logAt x0 x1 x2 x3 x4 x5 e (rowOf (chunkOf r) k) d)
        + ∑ k : Fin 64, x6 (ix3 e (inChunk r) ⟨64 + k, by omega⟩)
          * (logAt x0 x1 x2 x3 x4 x5 e (rowOf (chunkOf r) k) d - logAt x0 x1 x2 x3 x4 x5 e (rowOf (chunkOf r) k) d) := by
  refine (chunks_at (k0_pay12 (k0_pay46 x0 x1 x2 x3 x4 x5 x6) (k0_pay6 (View.ld x5 r0_5)) k0_pay7)
    (k0_pay13 (k0_pay46 x0 x1 x2 x3 x4 x5 x6) (k0_pay6 (View.ld x5 r0_5)) k0_pay7)
    (k0_pay12 (k0_pay47 x0 x1 x2 x3 x4 x5 x6) (k0_pay6 (View.ld x5 r0_17)) k0_pay7)
    (k0_pay13 (k0_pay47 x0 x1 x2 x3 x4 x5 x6) (k0_pay6 (View.ld x5 r0_17)) k0_pay7)
    (View.ld x6 r0_7) (View.ld x6 r0_19) (ix4 e 0 r d)).trans ?_
  have hf : ∀ r, k0_pay12 (k0_pay46 x0 x1 x2 x3 x4 x5 x6) (k0_pay6 (View.ld x5 r0_5)) k0_pay7 (ix2 r d)
      = logAt x0 x1 x2 x3 x4 x5 0 r d := fun r => by
    rw [log_at, fwd_at, lb_fwd]; rfl
  have hb : ∀ r, k0_pay12 (k0_pay47 x0 x1 x2 x3 x4 x5 x6) (k0_pay6 (View.ld x5 r0_17)) k0_pay7 (ix2 r d)
      = logAt x0 x1 x2 x3 x4 x5 1 r d := fun r => by
    rw [log_at, bwd_at, lb_bwd]; rfl
  have tf : ∀ (i : Fin 64) (k : Fin 128), (View.ld x6 r0_7 : Vec Ideal S1x64x128 .bf16) (ix3 0 i k) = x6 (ix3 0 i k) := fun i k => by
    show x6 _ = x6 _
    refine congrArg x6 ?_
    blk_ext []
    all_goals first | rfl | exact (Nat.zero_add _).trans (Nat.one_mul _)
  have tb : ∀ (i : Fin 64) (k : Fin 128), (View.ld x6 r0_19 : Vec Ideal S1x64x128 .bf16) (ix3 0 i k) = x6 (ix3 1 i k) := fun i k => by
    show x6 _ = x6 _
    refine congrArg x6 ?_
    blk_ext []
    all_goals first | rfl | exact (Nat.zero_add _).trans (Nat.one_mul _)
  have he : e = 0 ∨ e = 1 := by omega
  rcases he with rfl | rfl
  · refine (if_pos rfl).trans ?_
    show chunkSum _ _ _ (chunkOf r) (inChunk r) d = _
    simp only [chunkSum, rest_at, hf, tf]
    rfl
  · refine (if_neg (by simp)).trans ?_
    show chunkSum _ _ _ (chunkOf r) (inChunk r) d = _
    simp only [chunkSum, rest_at, hb, tb]
    rfl

end

variable (m : (ℓ : Loc nD τ sig) → Buf (Elt Ideal) ℓ)

theorem idx : ∀ t : Fin cfg0.N, win0_0.index t = ![t.val / 16, t.val % 16, 0] ∧ win0_1.index t = ![0, 0]
    ∧ win0_2.index t = ![t.val / 16, 0, 0] ∧ win0_3.index t = ![t.val / 16, 0, 0] ∧ win0_4.index t = ![0, 0]
    ∧ win0_5.index t = ![0, 0, 0] ∧ win0_6.index t = ![0, 0, 0] ∧ win0_7.index t = ![t.val / 16, t.val % 16, 0]
    ∧ win0_8.index t = ![t.val / 16, t.val % 16, 0] ∧ win0_9.index t = ![t.val / 16, t.val % 16, 0]
    ∧ win0_10.index t = ![0, t.val / 16, t.val % 16, 0] ∧ win0_11.index t = ![0, t.val / 16, t.val % 16, 0] :=
  (by decide +kernel : ∀ t : Fin grid0.N, _)

/-- The reference's modulated norm over the kernel's arguments. -/
def hREF (c : Dev nD) : FVec Ideal S4x8192x1024 .f32 :=
  Cert.ProjReferenceIdeal.Val.hRef (m ((c : Thread nD τ).loc main_arg0)) (m ((c : Thread nD τ).loc main_arg1))
    (m ((c : Thread nD τ).loc main_arg2)) (m ((c : Thread nD τ).loc main_arg3))

/-- The reference's five projections. -/
def zREF (c : Dev nD) : FVec Ideal Cert.ProjReferenceIdeal.S4x8192x5120 .f32 :=
  Cert.ProjReferenceIdeal.Val.zRef (hREF m c) (m ((c : Thread nD τ).loc main_arg4))

/-- The lower bounds of the forget gates. -/
def lbREF (c : Dev nD) : FVec Ideal S2x1x1024 .f32 := m ((c : Thread nD τ).loc main_arg5)

theorem isReal_zREF (c : Dev nD) (h0 : ∀ i, IsReal ((m ((c : Thread nD τ).loc main_arg0) : FVec Ideal S4x8192x1024 .f32) i))
    (h1 : ∀ i, IsReal ((m ((c : Thread nD τ).loc main_arg1) : FVec Ideal S1x1024 .f32) i))
    (h2 : ∀ i, IsReal ((m ((c : Thread nD τ).loc main_arg2) : FVec Ideal S4x1x1024 .f32) i))
    (h3 : ∀ i, IsReal ((m ((c : Thread nD τ).loc main_arg3) : FVec Ideal S4x1x1024 .f32) i))
    (h4 : ∀ i, IsReal ((m ((c : Thread nD τ).loc main_arg4) : FVec Ideal S1024x5120 .bf16) i))
    (b : Fin 4) (t : Fin 8192) (d : Fin 5120) : IsReal (zREF m c (ix3 b t d)) := by
  rw [zREF, Cert.ProjReferenceIdeal.Val.zRef_at]
  refine IsReal.sum _ fun k => ?_
  rw [hREF, Cert.ProjReferenceIdeal.Val.hRef_at]
  exact (isReal_hRow (fun _ => h0 _) (fun _ => h1 _) (fun _ => h2 _) (fun _ => h3 _) _).mul (h4 _)

/-- The block's projections are the reference's. -/
theorem zAt_eq (c : Dev nD) (t : Fin cfg0.N) (r : Fin 512) (o : Fin 5) (d : Fin 1024) (b : Fin 4) (s : Fin 8192)
    (hb : (b : ℕ) = t.val / 16) (hs : (s : ℕ) = t.val % 16 * 512 + r) :
    zAt (iblk m c 0 t) (iblk m c 1 t) (iblk m c 2 t) (iblk m c 3 t) (iblk m c 4 t) r o d = zREF m c (ix3 b s (col o d)) := by
  have hN : t.val < 64 := lt_of_lt_of_eq t.isLt N_0
  have eb : b = ⟨t.val / 16, by omega⟩ := Fin.ext hb
  have es : s = ⟨t.val % 16 * 512 + r, by omega⟩ := Fin.ext hs
  have e4 : ∀ k d, (iblk m c 4 t : Vec Ideal S1024x5120 .bf16) (ix2 k d) = (m ((c : Thread nD τ).loc main_arg4)) (ix2 k d) := fun k d => by
    blk_point [iblk, V_main_arg4, idx t]
  rw [zREF, Cert.ProjReferenceIdeal.Val.zRef_at, zAt]
  refine Finset.sum_congr rfl fun k _ => congrArg₂ (· * ·) ?_ (e4 _ _)
  rw [hREF, Cert.ProjReferenceIdeal.Val.hRef_at, hAt, eb, es]
  congr 1
  · funext k; blk_point [iblk, V_main_arg0, idx t]
  · funext k; blk_point [iblk, V_main_arg1, idx t]
  · funext k; blk_point [iblk, V_main_arg2, idx t]
  · funext k; blk_point [iblk, V_main_arg3, idx t]

theorem lb_eq (c : Dev nD) (t : Fin cfg0.N) (e : Fin 2) (d : Fin 1024) :
    (iblk m c 5 t : Vec Ideal S2x1x1024 .f32) (ix3 e 0 d) = lbREF m c (ix3 e 0 d) := by
  unfold lbREF
  blk_point [iblk, V_main_arg5, idx t]

theorem tri_eq (c : Dev nD) (t : Fin cfg0.N) (e : Fin 2) (i : Fin 64) (k : Fin 128) :
    (iblk m c 6 t : Vec Ideal S2x64x128 .bf16) (ix3 e i k) = triHost (ix3 e i k) := by
  rw [← V_tri m c]
  blk_point [iblk, idx t]

section
variable (c : Dev nD) (hz : ∀ b t d, IsReal (zREF m c (ix3 b t d)))

include hz in
theorem point7 (t : Fin cfg0.N) (y : S1x512x1024.Idx) :
    out0_7 (iblk m c 0 t) (iblk m c 1 t) (iblk m c 2 t) (iblk m c 3 t) (iblk m c 4 t) (iblk m c 5 t) (iblk m c 6 t) y
      = Cert.ProjReferenceIdeal.Val.qRef (zREF m c) (((cfg0.win 7).blk t).view.emb y) := by
  refine (out7_at _ _ _ _ _ _ _ y).trans ?_
  have hN : t.val < 64 := lt_of_lt_of_eq t.isLt N_0
  obtain ⟨b, hb⟩ : ∃ b : Fin 4, b = ⟨t.val / 16, by omega⟩ := ⟨_, rfl⟩
  idx_vars y
  obtain ⟨s, hs⟩ : ∃ s : Fin 8192, s = ⟨t.val % 16 * 512 + y1, by omega⟩ := ⟨_, rfl⟩
  have he : (((cfg0.win 7).blk t).view.emb (ix3 y0 y1 y2)) = ix3 b s y2 := by
    subst hb hs
    blk_ext [idx t]
  rw [he]
  refine Eq.trans ?_ (Cert.ProjReferenceIdeal.Val.qRef_at _ _ _ _).symm
  refine (congrArg siluTanh (zAt_eq m c t y1 0 y2 b s (by rw [hb]) (by rw [hs]))).trans ?_
  rw [siluTanh_eq (hz _ _ _)]
  refine congrArg (fun i => silu (zREF m c (ix3 b s i))) (Fin.ext ?_)
  simp [col]

theorem point8 (t : Fin cfg0.N) (y : S1x512x1024.Idx) :
    out0_8 (iblk m c 0 t) (iblk m c 1 t) (iblk m c 2 t) (iblk m c 3 t) (iblk m c 4 t) (iblk m c 5 t) (iblk m c 6 t) y
      = Cert.ProjReferenceIdeal.Val.vRef (zREF m c) (((cfg0.win 8).blk t).view.emb y) := by
  refine (out8_at _ _ _ _ _ _ _ y).trans ?_
  have hN : t.val < 64 := lt_of_lt_of_eq t.isLt N_0
  obtain ⟨b, hb⟩ : ∃ b : Fin 4, b = ⟨t.val / 16, by omega⟩ := ⟨_, rfl⟩
  idx_vars y
  obtain ⟨s, hs⟩ : ∃ s : Fin 8192, s = ⟨t.val % 16 * 512 + y1, by omega⟩ := ⟨_, rfl⟩
  have he : (((cfg0.win 8).blk t).view.emb (ix3 y0 y1 y2)) = ix3 b s y2 := by
    subst hb hs
    blk_ext [idx t]
  rw [he]
  refine Eq.trans ?_ (Cert.ProjReferenceIdeal.Val.vRef_at _ _ _ _).symm
  refine (zAt_eq m c t y1 1 y2 b s (by rw [hb]) (by rw [hs])).trans ?_
  refine congrArg (fun i => zREF m c (ix3 b s i)) (Fin.ext ?_)
  simp [col]

include hz in
theorem point9 (t : Fin cfg0.N) (y : S1x512x1024.Idx) :
    out0_9 (iblk m c 0 t) (iblk m c 1 t) (iblk m c 2 t) (iblk m c 3 t) (iblk m c 4 t) (iblk m c 5 t) (iblk m c 6 t) y
      = Cert.ProjReferenceIdeal.Val.gateRef (zREF m c) (((cfg0.win 9).blk t).view.emb y) := by
  refine (out9_at _ _ _ _ _ _ _ y).trans ?_
  have hN : t.val < 64 := lt_of_lt_of_eq t.isLt N_0
  obtain ⟨b, hb⟩ : ∃ b : Fin 4, b = ⟨t.val / 16, by omega⟩ := ⟨_, rfl⟩
  idx_vars y
  obtain ⟨s, hs⟩ : ∃ s : Fin 8192, s = ⟨t.val % 16 * 512 + y1, by omega⟩ := ⟨_, rfl⟩
  have he : (((cfg0.win 9).blk t).view.emb (ix3 y0 y1 y2)) = ix3 b s y2 := by
    subst hb hs
    blk_ext [idx t]
  rw [he]
  refine Eq.trans ?_ (Cert.ProjReferenceIdeal.Val.gateRef_at _ _ _ _).symm
  refine (congrArg siluTanh (zAt_eq m c t y1 2 y2 b s (by rw [hb]) (by rw [hs]))).trans ?_
  rw [siluTanh_eq (hz _ _ _)]
  refine congrArg (fun i => silu (zREF m c (ix3 b s i))) (Fin.ext ?_)
  simp [col]

/-- A direction's column of the projections is the reference's gate before the activation. -/
theorem pre_eq (e : Fin 2) (b : Fin 4) (s : Fin 8192) (d : Fin 1024) :
    Cert.ProjReferenceIdeal.Val.preRef (zREF m c) (ix4 e b s d) = zREF m c (ix3 b s (col (dirCol e) d)) := by
  have he : e = 0 ∨ e = 1 := by omega
  rcases he with rfl | rfl
  · refine (Cert.ProjReferenceIdeal.Val.preRef_fwd _ _ _ _).trans (congrArg (fun i => zREF m c (ix3 b s i)) (Fin.ext ?_))
    simp [col, dirCol]
  · refine (Cert.ProjReferenceIdeal.Val.preRef_bwd _ _ _ _).trans (congrArg (fun i => zREF m c (ix3 b s i)) (Fin.ext ?_))
    simp [col, dirCol]

variable (hl : ∀ i, IsReal (lbREF m c i)) (hf : ∀ i, Ideal.ofBits .f32 0x0D800000#32 ≤ lbREF m c i)

include hz hl in
theorem point10 (t : Fin cfg0.N) (y : S2x1x512x1024.Idx) :
    out0_10 (iblk m c 0 t) (iblk m c 1 t) (iblk m c 2 t) (iblk m c 3 t) (iblk m c 4 t) (iblk m c 5 t) (iblk m c 6 t) y
      = Cert.ProjReferenceIdeal.Val.kkRef (zREF m c) (lbREF m c) (((cfg0.win 10).blk t).view.emb y) := by
  have hN : t.val < 64 := lt_of_lt_of_eq t.isLt N_0
  obtain ⟨b, hb⟩ : ∃ b : Fin 4, b = ⟨t.val / 16, by omega⟩ := ⟨_, rfl⟩
  idx_vars y
  have e1 : y1 = 0 := Subsingleton.elim _ _
  subst e1
  obtain ⟨s, hs⟩ : ∃ s : Fin 8192, s = ⟨t.val % 16 * 512 + y2, by omega⟩ := ⟨_, rfl⟩
  have he : (((cfg0.win 10).blk t).view.emb (ix4 y0 0 y2 y3)) = ix4 y0 b s y3 := by
    subst hb hs
    blk_ext [idx t]
  rw [he]
  refine (out10_at _ _ _ _ _ _ _ y0 y2 y3).trans (Eq.trans ?_ (Cert.ProjReferenceIdeal.Val.kkRef_at _ _ _ _ _ _).symm)
  rw [pre_eq, zAt_eq m c t y2 (dirCol y0) y3 b s (by rw [hb]) (by rw [hs]), lb_eq]
  exact keepTanh_eq (hl _) (hz _ _ _)

include hz hl hf in
theorem logAt_eq (t : Fin cfg0.N) (e : Fin 2) (r : Fin 512) (d : Fin 1024) (b : Fin 4) (s : Fin 8192)
    (hb : (b : ℕ) = t.val / 16) (hs : (s : ℕ) = t.val % 16 * 512 + r) :
    logAt (iblk m c 0 t) (iblk m c 1 t) (iblk m c 2 t) (iblk m c 3 t) (iblk m c 4 t) (iblk m c 5 t) e r d
        = Cert.ProjReferenceIdeal.Val.logRef (zREF m c) (lbREF m c) (ix4 e b s d)
      ∧ IsReal (logAt (iblk m c 0 t) (iblk m c 1 t) (iblk m c 2 t) (iblk m c 3 t) (iblk m c 4 t) (iblk m c 5 t) e r d) := by
  unfold logAt
  rw [zAt_eq m c t r (dirCol e) d b s hb hs, lb_eq]
  have h := logTanh_eq log2e_eq (hl (ix3 e 0 d)) (hf (ix3 e 0 d)) (hz b s (col (dirCol e) d))
  refine ⟨h.1.trans (Eq.trans ?_ (Cert.ProjReferenceIdeal.Val.logRef_at _ _ _ _ _ _).symm), h.2⟩
  rw [pre_eq]

include hz hl hf in
theorem point11 (t : Fin cfg0.N) (y : S2x1x512x1024.Idx) :
    out0_11 (iblk m c 0 t) (iblk m c 1 t) (iblk m c 2 t) (iblk m c 3 t) (iblk m c 4 t) (iblk m c 5 t) (iblk m c 6 t) y
      = Cert.ProjReferenceIdeal.Val.cumRef (Cert.ProjReferenceIdeal.Val.logRef (zREF m c) (lbREF m c))
        (((cfg0.win 11).blk t).view.emb y) := by
  have hN : t.val < 64 := lt_of_lt_of_eq t.isLt N_0
  obtain ⟨b, hb⟩ : ∃ b : Fin 4, b = ⟨t.val / 16, by omega⟩ := ⟨_, rfl⟩
  idx_vars y
  have e1 : y1 = 0 := Subsingleton.elim _ _
  subst e1
  obtain ⟨j, hj⟩ : ∃ j : Fin 128, j = ⟨t.val % 16 * 8 + y2 / 64, by omega⟩ := ⟨_, rfl⟩
  have hj' : (j : ℕ) = t.val % 16 * 8 + y2 / 64 := by rw [hj]
  have he : (((cfg0.win 11).blk t).view.emb (ix4 y0 0 y2 y3)) = ix4 y0 b ⟨j * 64 + inChunk y2, by omega⟩ y3 := by
    have hs : (⟨j * 64 + inChunk y2, by omega⟩ : Fin 8192) = ⟨t.val % 16 * 512 + y2, by omega⟩ :=
      Fin.ext (by simp only [inChunk]; omega)
    rw [hs]
    subst hb
    blk_ext [idx t]
  rw [he]
  refine (out11_at _ _ _ _ _ _ _ y0 y2 y3).trans ?_
  have hlog := fun k : Fin 64 => logAt_eq m c hz hl hf t y0 (rowOf (chunkOf y2) k) y3 b ⟨j * 64 + k, by omega⟩ (by rw [hb])
    (by
      show (j : ℕ) * 64 + k = t.val % 16 * 512 + (y2 / 64 * 64 + k)
      omega)
  have hzero : ∀ k : Fin 64, logAt (iblk m c 0 t) (iblk m c 1 t) (iblk m c 2 t) (iblk m c 3 t) (iblk m c 4 t) (iblk m c 5 t) y0 (rowOf (chunkOf y2) k) y3
      - logAt (iblk m c 0 t) (iblk m c 1 t) (iblk m c 2 t) (iblk m c 3 t) (iblk m c 4 t) (iblk m c 5 t) y0 (rowOf (chunkOf y2) k) y3 = 0 :=
    fun k => (hlog k).2.sub_self
  simp only [hzero, mul_zero, Finset.sum_const_zero, add_zero]
  simp only [tri_eq, fun k => (hlog k).1]
  have hy : y0 = 0 ∨ y0 = 1 := by omega
  rcases hy with rfl | rfl
  · refine Eq.trans ?_ (Cert.ProjReferenceIdeal.Val.cumRef_fwd _ _ _ _ _).symm
    refine Finset.sum_congr rfl fun k _ => ?_
    rw [tri_fwd, ite_mul, one_mul, zero_mul]
  · refine Eq.trans ?_ (Cert.ProjReferenceIdeal.Val.cumRef_bwd _ _ _ _ _).symm
    refine Finset.sum_congr rfl fun k _ => ?_
    rw [tri_bwd, ite_mul, one_mul, zero_mul]

include hz in
/-- The queries after the run. -/
theorem final7 : (dats m 0 c).arrAt 7 (cfgs 0).N = Cert.ProjReferenceIdeal.Val.qRef (zREF m c) := by
  refine (dats m 0 c).arrAt_eq_of_covers 7 _ (by decide +kernel) fun t _ y => ?_
  blk_simp
  rw [after0_7]
  exact point7 m c hz t y

/-- The values after the run. -/
theorem final8 : (dats m 0 c).arrAt 8 (cfgs 0).N = Cert.ProjReferenceIdeal.Val.vRef (zREF m c) := by
  refine (dats m 0 c).arrAt_eq_of_covers 8 _ (by decide +kernel) fun t _ y => ?_
  blk_simp
  rw [after0_8]
  exact point8 m c t y

include hz in
/-- The output's gate after the run. -/
theorem final9 : (dats m 0 c).arrAt 9 (cfgs 0).N = Cert.ProjReferenceIdeal.Val.gateRef (zREF m c) := by
  refine (dats m 0 c).arrAt_eq_of_covers 9 _ (by decide +kernel) fun t _ y => ?_
  blk_simp
  rw [after0_9]
  exact point9 m c hz t y

include hz hl in
/-- The scan's keys after the run. -/
theorem final10 : (dats m 0 c).arrAt 10 (cfgs 0).N = Cert.ProjReferenceIdeal.Val.kkRef (zREF m c) (lbREF m c) := by
  refine (dats m 0 c).arrAt_eq_of_covers 10 _ (by decide +kernel) fun t _ y => ?_
  blk_simp
  rw [after0_10]
  exact point10 m c hz hl t y

include hz hl hf in
/-- The running sums after the run. -/
theorem final11 : (dats m 0 c).arrAt 11 (cfgs 0).N
    = Cert.ProjReferenceIdeal.Val.cumRef (Cert.ProjReferenceIdeal.Val.logRef (zREF m c) (lbREF m c)) := by
  refine (dats m 0 c).arrAt_eq_of_covers 11 _ (by decide +kernel) fun t _ y => ?_
  blk_simp
  rw [after0_11]
  exact point11 m c hz hl hf t y

end

end Cert.ProjIdeal.Val
-- ==== Proof.ProjClaim.lean ====
/- The claims about the kernel of the projections for the gated scan and its reference. -/
module

public import proofs.«01_k».proof.Defs
public import proofs.«01_k».proof.Proof.ProjValue
public import proofs.«01_k».proof.Proof.FiniteArgs
public import Idealize.ShloMosaic.Lib.Quiescent

@[expose] public section

noncomputable section

namespace Cert.Proof.Proj

open Idealize.ShloMosaic Idealize.ShloMosaic.TcCoe Idealize.ShloMosaic.Tactic Idealize.SL.Sem

open Cert.ProjIdeal Cert.ProjIdeal.Val Cert.Proof.Mix in
/-- The precondition: the projections are finite, and so are the lower bounds, none below the floor. -/
theorem finite {m : (ℓ : Loc nD τ sig) → Buf (Elt Ideal) ℓ} (h : Pre_ProjIdeal_finite_proj m) (c : Dev nD) :
    (∀ b t d, IsReal (zREF m c (ix3 b t d))) ∧ (∀ i, IsReal (lbREF m c i))
      ∧ ∀ i, Ideal.ofBits .f32 0x0D800000#32 ≤ lbREF m c i :=
  let f := Mix.proj (h c)
  ⟨isReal_zREF m c f.1 f.2.1 f.2.2.1 f.2.2.2.1 f.2.2.2.2.1, f.2.2.2.2.2.1, f.2.2.2.2.2.2⟩

set_option maxHeartbeats 4000000 in
theorem reference : quiescent_ProjReferenceIdeal := by
  intro m g _
  hlo_run
  · intro _; and_intros <;> trivial
  · exact sem_eq_zero_of_no_sems (sig := Cert.ProjReferenceIdeal.sig) (by decide) _

set_option maxHeartbeats 4000000 in
theorem reference_pre : quiescent_ProjReferenceIdeal_pre_finite_proj := by
  intro m g _
  hlo_run
  · intro _; and_intros <;> trivial
  · exact sem_eq_zero_of_no_sems (sig := Cert.ProjReferenceIdeal.sig) (by decide) _

set_option maxHeartbeats 16000000 in
theorem value : algebraic_ProjIdeal_ProjReferenceIdeal_pre_finite_proj := by
  intro m g m' g' hp hagree
  have hf := finite hp
  clear hp
  refine Exists.intro ?_ (Exists.intro ?_ (Exists.intro ?_ (Exists.intro ?_ (Exists.intro ?_ ?_))))
  rotate_right
  refine And.intro ?_ ?_
  · run_from Cert.ProjIdeal.Gen.run_main m g
  · hlo_run
    · exact (Cert.ProjIdeal.Val.final7 m c (hf c).1).symm
    · exact (Cert.ProjIdeal.Val.final8 m c).symm
    · exact (Cert.ProjIdeal.Val.final9 m c (hf c).1).symm
    · have h4 := (hagree c).2.2.2.2.1
      rw [h4]
      exact (Cert.ProjIdeal.Val.final10 m c (hf c).1 (hf c).2.1).symm
    · obtain ⟨h0, h1, h2, h3, h4, h5⟩ := hagree c
      try rw [h0]
      try rw [h1]
      try rw [h2]
      try rw [h3]
      rw [h4]
      rw [h5]
      exact (Cert.ProjIdeal.Val.final11 m c (hf c).1 (hf c).2.1 (hf c).2.2).symm

end Cert.Proof.Proj
-- ==== Proof.lean ====
module

public import proofs.«01_k».proof.Defs
public import proofs.«01_k».proof.Proof.AttnFrameK
public import proofs.«01_k».proof.Proof.AttnFrame
public import proofs.«01_k».proof.Proof.References
public import proofs.«01_k».proof.Proof.NaClaim
public import proofs.«01_k».proof.Proof.HgClaim
public import proofs.«01_k».proof.Proof.QkvClaim
public import proofs.«01_k».proof.Proof.ProjClaim
public import proofs.«01_k».proof.Proof.Gen.Ctx.Frame
public import proofs.«01_k».proof.Proof.Gen.CtxIdeal.Frame
public import proofs.«01_k».proof.Proof.Gen.NaMix.Frame
public import proofs.«01_k».proof.Proof.Gen.HgMix.Frame
public import proofs.«01_k».proof.Proof.Gen.Qkv.Frame
public import proofs.«01_k».proof.Proof.Gen.Proj.Frame

@[expose] public section

noncomputable section

namespace Cert.Proof

open Idealize.ShloMosaic Idealize.SL.Sem

/-- Every claim of this directory. -/
theorem claim : Cert.Claim :=
  ⟨Cert.Kernel.Gen.facts, Cert.KernelIdeal.Gen.facts, Cert.ReferenceIdeal.Gen.facts, Cert.Ctx.Gen.facts,
    Cert.CtxIdeal.Gen.facts, Cert.CtxReferenceIdeal.Gen.facts, Cert.NaMix.Gen.facts, Cert.NaMixIdeal.Gen.facts,
    Cert.NaMixReferenceIdeal.Gen.facts, Cert.HgMix.Gen.facts, Cert.HgMixIdeal.Gen.facts,
    Cert.HgMixReferenceIdeal.Gen.facts, Cert.Qkv.Gen.facts, Cert.QkvIdeal.Gen.facts, Cert.QkvReferenceIdeal.Gen.facts,
    Cert.Proj.Gen.facts, Cert.ProjIdeal.Gen.facts, Cert.ProjReferenceIdeal.Gen.facts,
    Cert.Pre_finite_na.Gen.facts, Cert.Pre_finite_hg.Gen.facts, Cert.Pre_finite_proj.Gen.facts,
    fun m g _ => Cert.Kernel.Attn.frame m g,
    fun m g _ => Cert.KernelIdeal.Attn.frame m g,
    References.attn,
    fun m g _ => Cert.Ctx.Gen.frame m g,
    fun m g _ => Cert.CtxIdeal.Gen.frame m g,
    References.ctx,
    fun m g _ => Cert.NaMix.Gen.frame m g,
    fun m g _ => Cert.NaMixIdeal.Gen.frame m g,
    fun m g _ => Cert.NaMixIdeal.Gen.frame m g,
    Na.reference, Na.reference_pre,
    fun m g _ => Cert.HgMix.Gen.frame m g,
    fun m g _ => Cert.HgMixIdeal.Gen.frame m g,
    fun m g _ => Cert.HgMixIdeal.Gen.frame m g,
    Hg.reference, Hg.reference_pre,
    fun m g _ => Cert.Qkv.Gen.frame m g,
    fun m g _ => Cert.QkvIdeal.Gen.frame m g,
    Qkv.reference,
    fun m g _ => Cert.Proj.Gen.frame m g,
    fun m g _ => Cert.ProjIdeal.Gen.frame m g,
    fun m g _ => Cert.ProjIdeal.Gen.frame m g,
    Proj.reference, Proj.reference_pre,
    trivial, trivial, trivial, Na.value, trivial, Hg.value, trivial, Qkv.value,
    IdealRules.named_const.statement _ _ _ _ _ rfl, Proj.value⟩

end Cert.Proof

end
